-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v10)) (v2 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v10) = v1 c
          ∧ r.2.mem ((c.tc : Thread Cert.Kernel3Ideal.nD Cert.Kernel3Ideal.τ).loc Cert.Kernel3Ideal.main_v11) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9)) (v1 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_v10) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v13)) (v1 : (c : Dev Cert.Kernel5Ideal.nD) → Buf (Elt Ideal) ((c.tc : Thread Cert.Kernel5Ideal.nD Cert.Kernel5Ideal.τ).loc Cert.Kernel5Ideal.main_v14)) (v2 : (c : Dev Cert.Kernel5Ideal.nD) → Buf (Elt Ideal) ((c.tc : Thread Cert.Kernel5Ideal.nD Cert.Kernel5Ideal.τ).loc Cert.Kernel5Ideal.main_v15)) (v3 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_v14) = v1 c
          ∧ r.2.mem ((c.tc : Thread Cert.Kernel5Ideal.nD Cert.Kernel5Ideal.τ).loc Cert.Kernel5Ideal.main_v15) = v2 c
          ∧ r.2.mem ((c.tc : Thread Cert.Kernel5Ideal.nD Cert.Kernel5Ideal.τ).loc Cert.Kernel5Ideal.main_v16) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_v21) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v7)) (v1 : (c : Dev Cert.Kernel8Ideal.nD) → Buf (Elt Ideal) ((c.tc : Thread Cert.Kernel8Ideal.nD Cert.Kernel8Ideal.τ).loc Cert.Kernel8Ideal.main_v8)) (v2 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_v8) = v1 c
          ∧ r.2.mem ((c.tc : Thread Cert.Kernel8Ideal.nD Cert.Kernel8Ideal.τ).loc Cert.Kernel8Ideal.main_v9) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v11)) (v1 : (c : Dev Cert.Kernel9Ideal.nD) → Buf (Elt Ideal) ((c.tc : Thread Cert.Kernel9Ideal.nD Cert.Kernel9Ideal.τ).loc Cert.Kernel9Ideal.main_v12)) (v2 : (c : Dev Cert.Kernel9Ideal.nD) → Buf (Elt Ideal) ((c.tc : Thread Cert.Kernel9Ideal.nD Cert.Kernel9Ideal.τ).loc Cert.Kernel9Ideal.main_v13)) (v3 : (c : Dev Cert.Kernel9Ideal.nD) → Buf (Elt Ideal) ((c.tc : Thread Cert.Kernel9Ideal.nD Cert.Kernel9Ideal.τ).loc Cert.Kernel9Ideal.main_v14)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11) = v0 c
          ∧ r.2.mem ((c.tc : Thread Cert.Kernel9Ideal.nD Cert.Kernel9Ideal.τ).loc Cert.Kernel9Ideal.main_v12) = v1 c
          ∧ r.2.mem ((c.tc : Thread Cert.Kernel9Ideal.nD Cert.Kernel9Ideal.τ).loc Cert.Kernel9Ideal.main_v13) = v2 c
          ∧ r.2.mem ((c.tc : Thread Cert.Kernel9Ideal.nD Cert.Kernel9Ideal.τ).loc Cert.Kernel9Ideal.main_v14) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_v19) = v2 c
          ∧ r.2.mem ((c.tc : Thread Cert.Reference9Ideal.nD Cert.Reference9Ideal.τ).loc Cert.Reference9Ideal.main_v20) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v6)) (v1 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_v10) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v41_0)) (v1 : (c : Dev Cert.Kernel11Ideal.nD) → Buf (Elt Ideal) ((c.tc : Thread Cert.Kernel11Ideal.nD Cert.Kernel11Ideal.τ).loc Cert.Kernel11Ideal.main_v41_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v41_0) = v0 c
          ∧ r.2.mem ((c.tc : Thread Cert.Kernel11Ideal.nD Cert.Kernel11Ideal.τ).loc Cert.Kernel11Ideal.main_v41_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v125) = v0 c
          ∧ r.2.mem ((c.tc : Thread Cert.Reference11Ideal.nD Cert.Reference11Ideal.τ).loc Cert.Reference11Ideal.main_v126) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S128x1x3072 : Shape := ⟨3, ![128, 1, 3072]⟩
abbrev S128x3x3072 : Shape := ⟨3, ![128, 3, 3072]⟩
abbrev S128x1x2048 : Shape := ⟨3, ![128, 1, 2048]⟩
abbrev S128x1x32 : Shape := ⟨3, ![128, 1, 32]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S128x1x32x64 : Shape := ⟨4, ![128, 1, 32, 64]⟩
abbrev S128x2048x128 : Shape := ⟨3, ![128, 2048, 128]⟩
abbrev S1x3072 : Shape := ⟨2, ![1, 3072]⟩
abbrev S32x64 : Shape := ⟨2, ![32, 64]⟩
abbrev S1x2048 : Shape := ⟨2, ![1, 2048]⟩
abbrev S1x1x3072 : Shape := ⟨3, ![1, 1, 3072]⟩
abbrev S1x3x3072 : Shape := ⟨3, ![1, 3, 3072]⟩
abbrev S1x1x2048 : Shape := ⟨3, ![1, 1, 2048]⟩
abbrev S1x2048x128 : Shape := ⟨3, ![1, 2048, 128]⟩
abbrev S128x2048 : Shape := ⟨2, ![128, 2048]⟩
abbrev S2048x128 : Shape := ⟨2, ![2048, 128]⟩
abbrev S1x128 : Shape := ⟨2, ![1, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1 : Shape := ⟨1, ![1]⟩
abbrev S1x1 : Shape := ⟨2, ![1, 1]⟩

abbrev nBuf : Space → Nat
  | .hbm => 27
  | .vmem => 20
  | .smem => 0
  | _ => 0

abbrev bufTy : (tb : Table) → Fin (tcTables nBuf tb) → BufTy
  | .hbm, ⟨0, _⟩ => ⟨S128x1x3072, .f32⟩
  | .hbm, ⟨1, _⟩ => ⟨S128x3x3072, .f32⟩
  | .hbm, ⟨2, _⟩ => ⟨S128x1x2048, .f32⟩
  | .hbm, ⟨3, _⟩ => ⟨S128x1x32, .f32⟩
  | .hbm, ⟨4, _⟩ => ⟨S128x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S128x1x32x64, .f32⟩
  | .hbm, ⟨12, _⟩ => ⟨S128x1x2048, .f32⟩
  | .hbm, ⟨13, _⟩ => ⟨S128x2048x128, .f32⟩
  | .hbm, ⟨14, _⟩ => ⟨S1x3072, .f32⟩
  | .hbm, ⟨15, _⟩ => ⟨S32x64, .f32⟩
  | .hbm, ⟨16, _⟩ => ⟨S2048, .f32⟩
  | .hbm, ⟨17, _⟩ => ⟨S1x2048, .f32⟩
  | .hbm, ⟨18, _⟩ => ⟨S32x64, .f32⟩
  | .hbm, ⟨19, _⟩ => ⟨S2048, .f32⟩
  | .hbm, ⟨20, _⟩ => ⟨S1x2048, .f32⟩
  | .hbm, ⟨21, _⟩ => ⟨S32x64, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S128x1x2048, .f32⟩
  | .hbm, ⟨26, _⟩ => ⟨S128x2048x128, .f32⟩
  | .local _ .vmem, ⟨0, _⟩ => ⟨S1x1x3072, .f32⟩
  | .local _ .vmem, ⟨1, _⟩ => ⟨S1x1x3072, .f32⟩
  | .local _ .vmem, ⟨2, _⟩ => ⟨S1x3x3072, .f32⟩
  | .local _ .vmem, ⟨3, _⟩ => ⟨S1x3x3072, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x128, .f32⟩
  | .local _ .vmem, ⟨9, _⟩ => ⟨S1x2048x128, .f32⟩
  | .local _ .vmem, ⟨10, _⟩ => ⟨S4x3072, .f32⟩
  | .local _ .vmem, ⟨11, _⟩ => ⟨S1x3072, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x2048x128, .f32⟩
  | .local _ .vmem, ⟨19, _⟩ => ⟨S1x2048x128, .f32⟩
  | _, _ => ⟨S128x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S128x1x3072 : Shape := ⟨3, ![128, 1, 3072]⟩
abbrev S128x3x3072 : Shape := ⟨3, ![128, 3, 3072]⟩
abbrev S128x1x2048 : Shape := ⟨3, ![128, 1, 2048]⟩
abbrev S128x1x32 : Shape := ⟨3, ![128, 1, 32]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S128x4x3072 : Shape := ⟨3, ![128, 4, 3072]⟩
abbrev S1x3072 : Shape := ⟨2, ![1, 3072]⟩
abbrev S1x1x3072 : Shape := ⟨3, ![1, 1, 3072]⟩
abbrev S_ : Shape := ⟨0, ![]⟩
abbrev S128x1x512 : Shape := ⟨3, ![128, 1, 512]⟩
abbrev S128x1x32x64 : Shape := ⟨4, ![128, 1, 32, 64]⟩
abbrev S128x1x4x128 : Shape := ⟨4, ![128, 1, 4, 128]⟩
abbrev S1x1x32 : Shape := ⟨3, ![1, 1, 32]⟩
abbrev S128x32x64 : Shape := ⟨3, ![128, 32, 64]⟩
abbrev S128x32 : Shape := ⟨2, ![128, 32]⟩
abbrev S128x4x128 : Shape := ⟨3, ![128, 4, 128]⟩
abbrev S128x4x8x128 : Shape := ⟨4, ![128, 4, 8, 128]⟩
abbrev S128x32x128 : Shape := ⟨3, ![128, 32, 128]⟩
abbrev S1x32 : Shape := ⟨2, ![1, 32]⟩
abbrev S128x32x1x1 : Shape := ⟨4, ![128, 32, 1, 1]⟩
abbrev S128x32x1 : Shape := ⟨3, ![128, 32, 1]⟩
abbrev S128x32x64x1 : Shape := ⟨4, ![128, 32, 64, 1]⟩
abbrev S128x32x1x128 : Shape := ⟨4, ![128, 32, 1, 128]⟩
abbrev S32x1 : Shape := ⟨2, ![32, 1]⟩
abbrev S1x1x32x1 : Shape := ⟨4, ![1, 1, 32, 1]⟩
abbrev S128x1x4x512 : Shape := ⟨4, ![128, 1, 4, 512]⟩
abbrev S128x1x4 : Shape := ⟨3, ![128, 1, 4]⟩
abbrev S128x1x4x1 : Shape := ⟨4, ![128, 1, 4, 1]⟩
abbrev S1x1x2048 : Shape := ⟨3, ![1, 1, 2048]⟩
abbrev S128x2048x128 : Shape := ⟨3, ![128, 2048, 128]⟩

abbrev nBuf : Space → Nat
  | .hbm => 140
  | .vmem => 0
  | .smem => 0
  | _ => 0

abbrev hbmTy0_0 (i : Nat) : BufTy := match i % 128 with
  | 0 => ⟨S128x1x3072, .f32⟩
  | 1 => ⟨S128x3x3072, .f32⟩
  | 2 => ⟨S128x1x2048, .f32⟩
  | 3 => ⟨S128x1x32, .f32⟩
  | 4 => ⟨S128x32x64x128, .f32⟩
  | 5 => ⟨S4x3072, .f32⟩
  | 6 => ⟨S3072, .f32⟩
  | 7 => ⟨S32, .f32⟩
  | 8 => ⟨S32, .f32⟩
  | 9 => ⟨S32, .f32⟩
  | 10 => ⟨S2048, .f32⟩
  | 11 => ⟨S32, .f32⟩
  | 12 => ⟨S32, .f32⟩
  | 13 => ⟨S128x4x3072, .f32⟩
  | 14 => ⟨S128x1x3072, .f32⟩
  | 15 => ⟨S1x3072, .f32⟩
  | 16 => ⟨S3072, .f32⟩
  | 17 => ⟨S1x1x3072, .f32⟩
  | 18 => ⟨S128x1x3072, .f32⟩
  | 19 => ⟨S128x1x3072, .f32⟩
  | 20 => ⟨S_, .f32⟩
  | 21 => ⟨S128x1x3072, .f32⟩
  | 22 => ⟨S128x1x3072, .f32⟩
  | 23 => ⟨S128x1x3072, .f32⟩
  | 24 => ⟨S1x3072, .f32⟩
  | 25 => ⟨S3072, .f32⟩
  | 26 => ⟨S1x1x3072, .f32⟩
  | 27 => ⟨S128x1x3072, .f32⟩
  | 28 => ⟨S128x1x3072, .f32⟩
  | 29 => ⟨S128x1x3072, .f32⟩
  | 30 => ⟨S128x1x3072, .f32⟩
  | 31 => ⟨S1x3072, .f32⟩
  | 32 => ⟨S3072, .f32⟩
  | 33 => ⟨S1x1x3072, .f32⟩
  | 34 => ⟨S128x1x3072, .f32⟩
  | 35 => ⟨S128x1x3072, .f32⟩
  | 36 => ⟨S128x1x3072, .f32⟩
  | 37 => ⟨S128x1x3072, .f32⟩
  | 38 => ⟨S1x3072, .f32⟩
  | 39 => ⟨S3072, .f32⟩
  | 40 => ⟨S1x1x3072, .f32⟩
  | 41 => ⟨S128x1x3072, .f32⟩
  | 42 => ⟨S128x1x3072, .f32⟩
  | 43 => ⟨S128x1x3072, .f32⟩
  | 44 => ⟨S1x1x3072, .f32⟩
  | 45 => ⟨S128x1x3072, .f32⟩
  | 46 => ⟨S128x1x3072, .f32⟩
  | 47 => ⟨S128x1x3072, .f32⟩
  | 48 => ⟨S128x1x3072, .f32⟩
  | 49 => ⟨S_, .f32⟩
  | 50 => ⟨S128x1x3072, .f32⟩
  | 51 => ⟨S128x1x3072, .f32⟩
  | 52 => ⟨S_, .f32⟩
  | 53 => ⟨S128x1x3072, .f32⟩
  | 54 => ⟨S128x1x3072, .f32⟩
  | 55 => ⟨S128x1x3072, .f32⟩
  | 56 => ⟨S128x1x2048, .f32⟩
  | 57 => ⟨S128x1x512, .f32⟩
  | 58 => ⟨S128x1x512, .f32⟩
  | 59 => ⟨S128x1x32x64, .f32⟩
  | 60 => ⟨S128x1x4x128, .f32⟩
  | 61 => ⟨S128x1x4x128, .f32⟩
  | 62 => ⟨S1x1x32, .f32⟩
  | 63 => ⟨S128x1x32, .f32⟩
  | 64 => ⟨S128x1x32, .f32⟩
  | 65 => ⟨S_, .f32⟩
  | 66 => ⟨S128x1x32, .f32⟩
  | 67 => ⟨S128x1x32, .f32⟩
  | 68 => ⟨S128x1x32, .f32⟩
  | 69 => ⟨S128x1x32, .f32⟩
  | 70 => ⟨S128x1x32, .i1⟩
  | 71 => ⟨S128x1x32, .f32⟩
  | 72 => ⟨S128x1x32, .f32⟩
  | 73 => ⟨S128x1x32, .f32⟩
  | 74 => ⟨S128x1x32, .f32⟩
  | 75 => ⟨S128x1x32, .f32⟩
  | 76 => ⟨S128x1x32, .f32⟩
  | 77 => ⟨S128x1x32, .f32⟩
  | 78 => ⟨S128x1x32, .f32⟩
  | 79 => ⟨S128x32x64, .f32⟩
  | 80 => ⟨S128x32, .f32⟩
  | 81 => ⟨S128x4x128, .f32⟩
  | 82 => ⟨S128x4x128, .f32⟩
  | 83 => ⟨S128x4x8x128, .f32⟩
  | 84 => ⟨S128x32x128, .f32⟩
  | 85 => ⟨S128x4x8x128, .f32⟩
  | 86 => ⟨S128x32x128, .f32⟩
  | 87 => ⟨S1x32, .f32⟩
  | 88 => ⟨S128x32, .f32⟩
  | 89 => ⟨S128x32, .f32⟩
  | 90 => ⟨S128x32, .f32⟩
  | 91 => ⟨S128x32x1x1, .f32⟩
  | 92 => ⟨S128x32x64x128, .f32⟩
  | 93 => ⟨S128x32x64x128, .f32⟩
  | 94 => ⟨S128x32x1, .f32⟩
  | 95 => ⟨S128x32x64, .f32⟩
  | 96 => ⟨S128x32x64, .f32⟩
  | 97 => ⟨S128x32x64x1, .f32⟩
  | 98 => ⟨S128x32x1x128, .f32⟩
  | 99 => ⟨S128x32x64x128, .f32⟩
  | 100 => ⟨S128x32x64x128, .f32⟩
  | 101 => ⟨S128x32x64x128, .f32⟩
  | 102 => ⟨S128x32x64x128, .f32⟩
  | 103 => ⟨S128x32x64, .f32⟩
  | 104 => ⟨S128x1x32x64, .f32⟩
  | 105 => ⟨S32x1, .f32⟩
  | 106 => ⟨S1x1x32x1, .f32⟩
  | 107 => ⟨S128x1x32x64, .f32⟩
  | 108 => ⟨S128x1x32x64, .f32⟩
  | 109 => ⟨S128x1x32x64, .f32⟩
  | 110 => ⟨S128x1x2048, .f32⟩
  | 111 => ⟨S128x1x2048, .f32⟩
  | 112 => ⟨S128x1x2048, .f32⟩
  | 113 => ⟨S_, .f32⟩
  | 114 => ⟨S128x1x2048, .f32⟩
  | 115 => ⟨S128x1x2048, .f32⟩
  | 116 => ⟨S_, .f32⟩
  | 117 => ⟨S128x1x2048, .f32⟩
  | 118 => ⟨S128x1x2048, .f32⟩
  | 119 => ⟨S128x1x2048, .f32⟩
  | 120 => ⟨S128x1x2048, .f32⟩
  | 121 => ⟨S128x1x4x512, .f32⟩
  | 122 => ⟨S128x1x4x512, .f32⟩
  | 123 => ⟨S_, .f32⟩
  | 124 => ⟨S128x1x4, .f32⟩
  | 125 => ⟨S128x1x4x1, .f32⟩
  | 126 => ⟨S_, .f32⟩
  | 127 => ⟨S128x1x4x1, .f32⟩
  | _ => ⟨S128x1x3072, .f32⟩

abbrev hbmTy0_1 (i : Nat) : BufTy := match i % 128 with
  | 0 => ⟨S128x1x4x1, .f32⟩
  | 1 => ⟨S_, .f32⟩
  | 2 => ⟨S128x1x4x1, .f32⟩
  | 3 => ⟨S128x1x4x1, .f32⟩
  | 4 => ⟨S128x1x4x1, .f32⟩
  | 5 => ⟨S128x1x4x512, .f32⟩
  | 6 => ⟨S128x1x4x512, .f32⟩
  | 7 => ⟨S128x1x2048, .f32⟩
  | 8 => ⟨S1x1x2048, .f32⟩
  | 9 => ⟨S128x1x2048, .f32⟩
  | 10 => ⟨S128x1x2048, .f32⟩
  | 11 => ⟨S128x2048x128, .f32⟩
  | _ => ⟨S128x1x3072, .f32⟩

abbrev hbmTy (i : Nat) : BufTy := match i / 128 with
  | 0 => hbmTy0_0 i
  | 1 => hbmTy0_1 i
  | _ => ⟨S128x1x3072, .f32⟩

abbrev bufTy : (tb : Table) → Fin (tcTables nBuf tb) → BufTy
  | .hbm, ⟨i, _⟩ => hbmTy i
  | _, _ => ⟨S128x1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_call2_v5 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_0 : Ref sig .tc := ⟨.hbm, 123, rfl⟩
abbrev main_v82 : Ref sig .tc := ⟨.hbm, 124, rfl⟩
abbrev main_v83 : Ref sig .tc := ⟨.hbm, 125, rfl⟩
abbrev main_cst_1 : Ref sig .tc := ⟨.hbm, 126, rfl⟩
abbrev main_v84 : Ref sig .tc := ⟨.hbm, 127, rfl⟩
abbrev main_v85 : Ref sig .tc := ⟨.hbm, 128, rfl⟩
abbrev main_cst_2 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩

abbrev nD : Nat := 1
abbrev τ : Topo := Topo.v7x

variable {F : FTy → Type} [FloatOps F]
-- ==== Kernel2.lean ====
abbrev S16640x1024 : Shape := ⟨2, ![16640, 1024]⟩
abbrev S16640x2048 : Shape := ⟨2, ![16640, 2048]⟩
abbrev S1024x1024 : Shape := ⟨2, ![1024, 1024]⟩
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x2816 : Shape := ⟨2, ![256, 2816]⟩

abbrev nBuf : Space → Nat
  | .hbm => 21
  | .vmem => 18
  | .smem => 0
  | _ => 0

abbrev bufTy : (tb : Table) → Fin (tcTables nBuf tb) → BufTy
  | .hbm, ⟨0, _⟩ => ⟨S16640x1024, .f32⟩
  | .hbm, ⟨1, _⟩ => ⟨S16640x1024, .bf16⟩
  | .hbm, ⟨2, _⟩ => ⟨S16640x2048, .bf16⟩
  | .hbm, ⟨3, _⟩ => ⟨S16640x2048, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S1024x1024, .bf16⟩
  | .hbm, ⟨13, _⟩ => ⟨S2048x1024, .bf16⟩
  | .hbm, ⟨14, _⟩ => ⟨S1024x1024, .bf16⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S1x1024, .f32⟩
  | .hbm, ⟨20, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S1024x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16640x1024 : Shape := ⟨2, ![16640, 1024]⟩
abbrev S16640x2048 : Shape := ⟨2, ![16640, 2048]⟩
abbrev S1024x1024 : Shape := ⟨2, ![1024, 1024]⟩
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩

abbrev nBuf : Space → Nat
  | .hbm => 85
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .bf16⟩
  | .hbm, ⟨2, _⟩ => ⟨S16640x2048, .bf16⟩
  | .hbm, ⟨3, _⟩ => ⟨S16640x2048, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S16640x1024, .f32⟩
  | .hbm, ⟨13, _⟩ => ⟨S16640x1024, .f32⟩
  | .hbm, ⟨14, _⟩ => ⟨S16640x1024, .f32⟩
  | .hbm, ⟨15, _⟩ => ⟨S16640x1024, .f32⟩
  | .hbm, ⟨16, _⟩ => ⟨S_, .f32⟩
  | .hbm, ⟨17, _⟩ => ⟨S16640x1024, .f32⟩
  | .hbm, ⟨18, _⟩ => ⟨S16640x1024, .f32⟩
  | .hbm, ⟨19, _⟩ => ⟨S_, .f32⟩
  | .hbm, ⟨20, _⟩ => ⟨S16640x1024, .f32⟩
  | .hbm, ⟨21, _⟩ => ⟨S16640x1024, .f32⟩
  | .hbm, ⟨22, _⟩ => ⟨S16640x1024, .f32⟩
  | .hbm, ⟨23, _⟩ => ⟨S16640x1024, .f32⟩
  | .hbm, ⟨24, _⟩ => ⟨S16640x1024, .f32⟩
  | .hbm, ⟨25, _⟩ => ⟨S16640x1024, .f32⟩
  | .hbm, ⟨26, _⟩ => ⟨S16640x1024, .f32⟩
  | .hbm, ⟨27, _⟩ => ⟨S_, .f32⟩
  | .hbm, ⟨28, _⟩ => ⟨S16640x1024, .f32⟩
  | .hbm, ⟨29, _⟩ => ⟨S16640x1024, .f32⟩
  | .hbm, ⟨30, _⟩ => ⟨S_, .f32⟩
  | .hbm, ⟨31, _⟩ => ⟨S16640x1024, .f32⟩
  | .hbm, ⟨32, _⟩ => ⟨S16640x1024, .f32⟩
  | .hbm, ⟨33, _⟩ => ⟨S16640x2048, .f32⟩
  | .hbm, ⟨34, _⟩ => ⟨S16640x1024, .f32⟩
  | .hbm, ⟨35, _⟩ => ⟨S16640x1024, .f32⟩
  | .hbm, ⟨36, _⟩ => ⟨S16640x1024, .f32⟩
  | .hbm, ⟨37, _⟩ => ⟨S16640x1024, .f32⟩
  | .hbm, ⟨38, _⟩ => ⟨S16640x1024, .f32⟩
  | .hbm, ⟨39, _⟩ => ⟨S16640x1024, .f32⟩
  | .hbm, ⟨40, _⟩ => ⟨S_, .f32⟩
  | .hbm, ⟨41, _⟩ => ⟨S16640, .f32⟩
  | .hbm, ⟨42, _⟩ => ⟨S16640x1, .f32⟩
  | .hbm, ⟨43, _⟩ => ⟨S_, .f32⟩
  | .hbm, ⟨44, _⟩ => ⟨S16640x1, .f32⟩
  | .hbm, ⟨45, _⟩ => ⟨S16640x1, .f32⟩
  | .hbm, ⟨46, _⟩ => ⟨S_, .f32⟩
  | .hbm, ⟨47, _⟩ => ⟨S16640x1, .f32⟩
  | .hbm, ⟨48, _⟩ => ⟨S16640x1, .f32⟩
  | .hbm, ⟨49, _⟩ => ⟨S16640x1, .f32⟩
  | .hbm, ⟨50, _⟩ => ⟨S16640x1024, .f32⟩
  | .hbm, ⟨51, _⟩ => ⟨S16640x1024, .f32⟩
  | .hbm, ⟨52, _⟩ => ⟨S1x1024, .f32⟩
  | .hbm, ⟨53, _⟩ => ⟨S16640x1024, .f32⟩
  | .hbm, ⟨54, _⟩ => ⟨S16640x1024, .f32⟩
  | .hbm, ⟨55, _⟩ => ⟨S16640x2816, .f32⟩
  | .hbm, ⟨56, _⟩ => ⟨S16640x2816, .f32⟩
  | .hbm, ⟨57, _⟩ => ⟨S16640x2816, .f32⟩
  | .hbm, ⟨58, _⟩ => ⟨S_, .f32⟩
  | .hbm, ⟨59, _⟩ => ⟨S16640x2816, .f32⟩
  | .hbm, ⟨60, _⟩ => ⟨S16640x2816, .f32⟩
  | .hbm, ⟨61, _⟩ => ⟨S_, .f32⟩
  | .hbm, ⟨62, _⟩ => ⟨S16640x2816, .f32⟩
  | .hbm, ⟨63, _⟩ => ⟨S16640x2816, .f32⟩
  | .hbm, ⟨64, _⟩ => ⟨S16640x2816, .f32⟩
  | .hbm, ⟨65, _⟩ => ⟨S16640x2816, .f32⟩
  | .hbm, ⟨66, _⟩ => ⟨S16640x2816, .f32⟩
  | .hbm, ⟨67, _⟩ => ⟨S16640x1024, .f32⟩
  | .hbm, ⟨68, _⟩ => ⟨S16640x1024, .f32⟩
  | .hbm, ⟨69, _⟩ => ⟨S16640x1024, .f32⟩
  | .hbm, ⟨70, _⟩ => ⟨S_, .f32⟩
  | .hbm, ⟨71, _⟩ => ⟨S16640, .f32⟩
  | .hbm, ⟨72, _⟩ => ⟨S16640x1, .f32⟩
  | .hbm, ⟨73, _⟩ => ⟨S_, .f32⟩
  | .hbm, ⟨74, _⟩ => ⟨S16640x1, .f32⟩
  | .hbm, ⟨75, _⟩ => ⟨S16640x1, .f32⟩
  | .hbm, ⟨76, _⟩ => ⟨S_, .f32⟩
  | .hbm, ⟨77, _⟩ => ⟨S16640x1, .f32⟩
  | .hbm, ⟨78, _⟩ => ⟨S16640x1, .f32⟩
  | .hbm, ⟨79, _⟩ => ⟨S16640x1, .f32⟩
  | .hbm, ⟨80, _⟩ => ⟨S16640x1024, .f32⟩
  | .hbm, ⟨81, _⟩ => ⟨S16640x1024, .f32⟩
  | .hbm, ⟨82, _⟩ => ⟨S1x1024, .f32⟩
  | .hbm, ⟨83, _⟩ => ⟨S16640x1024, .f32⟩
  | .hbm, ⟨84, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== Kernel3.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S1024x10856 : Shape := ⟨2, ![1024, 10856]⟩
abbrev S1024x3072 : Shape := ⟨2, ![1024, 3072]⟩
abbrev S16384x1024 : Shape := ⟨2, ![16384, 1024]⟩
abbrev S_ : Shape := ⟨0, ![]⟩
abbrev S240x1024 : Shape := ⟨2, ![240, 1024]⟩
abbrev S16640x1024 : Shape := ⟨2, ![16640, 1024]⟩
abbrev S1024 : Shape := ⟨1, ![1024]⟩
abbrev S16640x3072 : Shape := ⟨2, ![16640, 3072]⟩
abbrev S2048x16640 : Shape := ⟨2, ![2048, 16640]⟩
abbrev S640x1024 : Shape := ⟨2, ![640, 1024]⟩
abbrev S1024x1024 : Shape := ⟨2, ![1024, 1024]⟩
abbrev S1024x640 : Shape := ⟨2, ![1024, 640]⟩
abbrev S640 : Shape := ⟨1, ![640]⟩
abbrev S640x1 : Shape := ⟨2, ![640, 1]⟩
abbrev S16400x1024 : Shape := ⟨2, ![16400, 1024]⟩

abbrev nBuf : Space → Nat
  | .hbm => 18
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S1024x10856, .f32⟩
  | .hbm, ⟨5, _⟩ => ⟨S1024x3072, .f32⟩
  | .hbm, ⟨6, _⟩ => ⟨S1024x3072, .bf16⟩
  | .hbm, ⟨7, _⟩ => ⟨S16384x1024, .f32⟩
  | .hbm, ⟨8, _⟩ => ⟨S_, .f32⟩
  | .hbm, ⟨9, _⟩ => ⟨S240x1024, .f32⟩
  | .hbm, ⟨10, _⟩ => ⟨S16640x1024, .f32⟩
  | .hbm, ⟨11, _⟩ => ⟨S1024, .f32⟩
  | .hbm, ⟨12, _⟩ => ⟨S1x1024, .f32⟩
  | .hbm, ⟨13, _⟩ => ⟨S16640x3072, .f32⟩
  | .hbm, ⟨14, _⟩ => ⟨S2048x16640, .bf16⟩
  | .hbm, ⟨15, _⟩ => ⟨S16400x1024, .f32⟩
  | .hbm, ⟨16, _⟩ => ⟨S16400x1024, .f32⟩
  | .hbm, ⟨17, _⟩ => ⟨S16400x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S640x1024, .f32⟩
  | .local _ .vmem, ⟨6, _⟩ => ⟨S640x1024, .f32⟩
  | .local _ .vmem, ⟨7, _⟩ => ⟨S1024x640, .bf16⟩
  | .local _ .vmem, ⟨8, _⟩ => ⟨S1024x640, .bf16⟩
  | .local _ .vmem, ⟨9, _⟩ => ⟨S640x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![26, 3], ![false, false]⟩

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S16384x1024 : Shape := ⟨2, ![16384, 1024]⟩
abbrev S16400x1024 : Shape := ⟨2, ![16400, 1024]⟩
abbrev S1024 : Shape := ⟨1, ![1024]⟩
abbrev S1024x10856 : Shape := ⟨2, ![1024, 10856]⟩
abbrev S_ : Shape := ⟨0, ![]⟩
abbrev S16400 : Shape := ⟨1, ![16400]⟩
abbrev S16400x1 : Shape := ⟨2, ![16400, 1]⟩
abbrev S16400x10856 : Shape := ⟨2, ![16400, 10856]⟩

abbrev nBuf : Space → Nat
  | .hbm => 28
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S16384x1024, .f32⟩
  | .hbm, ⟨5, _⟩ => ⟨S16400x1024, .f32⟩
  | .hbm, ⟨6, _⟩ => ⟨S1024, .f32⟩
  | .hbm, ⟨7, _⟩ => ⟨S1024x10856, .f32⟩
  | .hbm, ⟨8, _⟩ => ⟨S16400x1024, .f32⟩
  | .hbm, ⟨9, _⟩ => ⟨S_, .f32⟩
  | .hbm, ⟨10, _⟩ => ⟨S16400, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1, .f32⟩
  | .hbm, ⟨19, _⟩ => ⟨S16400x1024, .f32⟩
  | .hbm, ⟨20, _⟩ => ⟨S16400x1024, .f32⟩
  | .hbm, ⟨21, _⟩ => ⟨S1x1024, .f32⟩
  | .hbm, ⟨22, _⟩ => ⟨S16400x1024, .f32⟩
  | .hbm, ⟨23, _⟩ => ⟨S16400x1024, .f32⟩
  | .hbm, ⟨24, _⟩ => ⟨S16400x10856, .f32⟩
  | .hbm, ⟨25, _⟩ => ⟨S16400x1024, .f32⟩
  | .hbm, ⟨26, _⟩ => ⟨S16400x1024, .f32⟩
  | .hbm, ⟨27, _⟩ => ⟨S16400x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S1024x10856 : Shape := ⟨2, ![1024, 10856]⟩
abbrev S1024x3072 : Shape := ⟨2, ![1024, 3072]⟩
abbrev S16384x1024 : Shape := ⟨2, ![16384, 1024]⟩
abbrev S_ : Shape := ⟨0, ![]⟩
abbrev S240x1024 : Shape := ⟨2, ![240, 1024]⟩
abbrev S16640x1024 : Shape := ⟨2, ![16640, 1024]⟩
abbrev S1024 : Shape := ⟨1, ![1024]⟩
abbrev S16640x3072 : Shape := ⟨2, ![16640, 3072]⟩
abbrev S640x1024 : Shape := ⟨2, ![640, 1024]⟩
abbrev S1024x1024 : Shape := ⟨2, ![1024, 1024]⟩
abbrev S640 : Shape := ⟨1, ![640]⟩
abbrev S640x1 : Shape := ⟨2, ![640, 1]⟩
abbrev S16400x3072 : Shape := ⟨2, ![16400, 3072]⟩
abbrev S3x3072 : Shape := ⟨2, ![3, 3072]⟩

abbrev nBuf : Space → Nat
  | .hbm => 16
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S1024x10856, .f32⟩
  | .hbm, ⟨5, _⟩ => ⟨S1024x3072, .f32⟩
  | .hbm, ⟨6, _⟩ => ⟨S1024x3072, .bf16⟩
  | .hbm, ⟨7, _⟩ => ⟨S16384x1024, .f32⟩
  | .hbm, ⟨8, _⟩ => ⟨S_, .f32⟩
  | .hbm, ⟨9, _⟩ => ⟨S240x1024, .f32⟩
  | .hbm, ⟨10, _⟩ => ⟨S16640x1024, .f32⟩
  | .hbm, ⟨11, _⟩ => ⟨S1024, .f32⟩
  | .hbm, ⟨12, _⟩ => ⟨S1x1024, .f32⟩
  | .hbm, ⟨13, _⟩ => ⟨S16640x3072, .f32⟩
  | .hbm, ⟨14, _⟩ => ⟨S16400x3072, .f32⟩
  | .hbm, ⟨15, _⟩ => ⟨S3x3072, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S640x1024, .f32⟩
  | .local _ .vmem, ⟨6, _⟩ => ⟨S640x1024, .f32⟩
  | .local _ .vmem, ⟨7, _⟩ => ⟨S640x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S16384x1024 : Shape := ⟨2, ![16384, 1024]⟩
abbrev S16400x1024 : Shape := ⟨2, ![16400, 1024]⟩
abbrev S1024 : Shape := ⟨1, ![1024]⟩
abbrev S1024x10856 : Shape := ⟨2, ![1024, 10856]⟩
abbrev S_ : Shape := ⟨0, ![]⟩
abbrev S16400 : Shape := ⟨1, ![16400]⟩
abbrev S16400x1 : Shape := ⟨2, ![16400, 1]⟩
abbrev S16400x10856 : Shape := ⟨2, ![16400, 10856]⟩
abbrev S16400x3072 : Shape := ⟨2, ![16400, 3072]⟩
abbrev S3x3072 : Shape := ⟨2, ![3, 3072]⟩

abbrev nBuf : Space → Nat
  | .hbm => 27
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S16384x1024, .f32⟩
  | .hbm, ⟨5, _⟩ => ⟨S16400x1024, .f32⟩
  | .hbm, ⟨6, _⟩ => ⟨S1024, .f32⟩
  | .hbm, ⟨7, _⟩ => ⟨S1024x10856, .f32⟩
  | .hbm, ⟨8, _⟩ => ⟨S16400x1024, .f32⟩
  | .hbm, ⟨9, _⟩ => ⟨S_, .f32⟩
  | .hbm, ⟨10, _⟩ => ⟨S16400, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1, .f32⟩
  | .hbm, ⟨19, _⟩ => ⟨S16400x1024, .f32⟩
  | .hbm, ⟨20, _⟩ => ⟨S16400x1024, .f32⟩
  | .hbm, ⟨21, _⟩ => ⟨S1x1024, .f32⟩
  | .hbm, ⟨22, _⟩ => ⟨S16400x1024, .f32⟩
  | .hbm, ⟨23, _⟩ => ⟨S16400x1024, .f32⟩
  | .hbm, ⟨24, _⟩ => ⟨S16400x10856, .f32⟩
  | .hbm, ⟨25, _⟩ => ⟨S16400x3072, .f32⟩
  | .hbm, ⟨26, _⟩ => ⟨S3x3072, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S16384x1024 : Shape := ⟨2, ![16384, 1024]⟩
abbrev S_ : Shape := ⟨0, ![]⟩
abbrev S240x1024 : Shape := ⟨2, ![240, 1024]⟩
abbrev S16640x1024 : Shape := ⟨2, ![16640, 1024]⟩
abbrev S1024 : Shape := ⟨1, ![1024]⟩
abbrev S1024x10856 : Shape := ⟨2, ![1024, 10856]⟩
abbrev S1024x512 : Shape := ⟨2, ![1024, 512]⟩
abbrev S1024x72 : Shape := ⟨2, ![1024, 72]⟩
abbrev S1024x56 : Shape := ⟨2, ![1024, 56]⟩
abbrev S1024x32 : Shape := ⟨2, ![1024, 32]⟩
abbrev S1024x96 : Shape := ⟨2, ![1024, 96]⟩
abbrev S1024x768 : Shape := ⟨2, ![1024, 768]⟩
abbrev S16640x768 : Shape := ⟨2, ![16640, 768]⟩
abbrev S640x1024 : Shape := ⟨2, ![640, 1024]⟩
abbrev S640x768 : Shape := ⟨2, ![640, 768]⟩
abbrev S640 : Shape := ⟨1, ![640]⟩
abbrev S640x1 : Shape := ⟨2, ![640, 1]⟩
abbrev S16400x512 : Shape := ⟨2, ![16400, 512]⟩
abbrev S16400x64 : Shape := ⟨2, ![16400, 64]⟩
abbrev S16400x8 : Shape := ⟨2, ![16400, 8]⟩
abbrev S16400x32 : Shape := ⟨2, ![16400, 32]⟩

abbrev nBuf : Space → Nat
  | .hbm => 24
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S16384x1024, .f32⟩
  | .hbm, ⟨5, _⟩ => ⟨S_, .f32⟩
  | .hbm, ⟨6, _⟩ => ⟨S240x1024, .f32⟩
  | .hbm, ⟨7, _⟩ => ⟨S16640x1024, .f32⟩
  | .hbm, ⟨8, _⟩ => ⟨S1024, .f32⟩
  | .hbm, ⟨9, _⟩ => ⟨S1024x10856, .f32⟩
  | .hbm, ⟨10, _⟩ => ⟨S1024x512, .f32⟩
  | .hbm, ⟨11, _⟩ => ⟨S1024x72, .f32⟩
  | .hbm, ⟨12, _⟩ => ⟨S_, .f32⟩
  | .hbm, ⟨13, _⟩ => ⟨S1024x56, .f32⟩
  | .hbm, ⟨14, _⟩ => ⟨S1024x32, .f32⟩
  | .hbm, ⟨15, _⟩ => ⟨S_, .f32⟩
  | .hbm, ⟨16, _⟩ => ⟨S1024x96, .f32⟩
  | .hbm, ⟨17, _⟩ => ⟨S1024x768, .f32⟩
  | .hbm, ⟨18, _⟩ => ⟨S1x1024, .f32⟩
  | .hbm, ⟨19, _⟩ => ⟨S16640x768, .f32⟩
  | .hbm, ⟨20, _⟩ => ⟨S16400x512, .f32⟩
  | .hbm, ⟨21, _⟩ => ⟨S16400x64, .f32⟩
  | .hbm, ⟨22, _⟩ => ⟨S16400x8, .f32⟩
  | .hbm, ⟨23, _⟩ => ⟨S16400x32, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x768, .f32⟩
  | .local _ .vmem, ⟨4, _⟩ => ⟨S640x768, .f32⟩
  | .local _ .vmem, ⟨5, _⟩ => ⟨S640x768, .f32⟩
  | .local _ .vmem, ⟨6, _⟩ => ⟨S640x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S640x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S16384x1024 : Shape := ⟨2, ![16384, 1024]⟩
abbrev S16400x1024 : Shape := ⟨2, ![16400, 1024]⟩
abbrev S1024 : Shape := ⟨1, ![1024]⟩
abbrev S1024x10856 : Shape := ⟨2, ![1024, 10856]⟩
abbrev S_ : Shape := ⟨0, ![]⟩
abbrev S16400 : Shape := ⟨1, ![16400]⟩
abbrev S16400x1 : Shape := ⟨2, ![16400, 1]⟩
abbrev S16400x10856 : Shape := ⟨2, ![16400, 10856]⟩
abbrev S16400x512 : Shape := ⟨2, ![16400, 512]⟩
abbrev S16400x64 : Shape := ⟨2, ![16400, 64]⟩
abbrev S16400x8 : Shape := ⟨2, ![16400, 8]⟩
abbrev S16400x32 : Shape := ⟨2, ![16400, 32]⟩

abbrev nBuf : Space → Nat
  | .hbm => 29
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S16384x1024, .f32⟩
  | .hbm, ⟨5, _⟩ => ⟨S16400x1024, .f32⟩
  | .hbm, ⟨6, _⟩ => ⟨S1024, .f32⟩
  | .hbm, ⟨7, _⟩ => ⟨S1024x10856, .f32⟩
  | .hbm, ⟨8, _⟩ => ⟨S16400x1024, .f32⟩
  | .hbm, ⟨9, _⟩ => ⟨S_, .f32⟩
  | .hbm, ⟨10, _⟩ => ⟨S16400, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1, .f32⟩
  | .hbm, ⟨19, _⟩ => ⟨S16400x1024, .f32⟩
  | .hbm, ⟨20, _⟩ => ⟨S16400x1024, .f32⟩
  | .hbm, ⟨21, _⟩ => ⟨S1x1024, .f32⟩
  | .hbm, ⟨22, _⟩ => ⟨S16400x1024, .f32⟩
  | .hbm, ⟨23, _⟩ => ⟨S16400x1024, .f32⟩
  | .hbm, ⟨24, _⟩ => ⟨S16400x10856, .f32⟩
  | .hbm, ⟨25, _⟩ => ⟨S16400x512, .f32⟩
  | .hbm, ⟨26, _⟩ => ⟨S16400x64, .f32⟩
  | .hbm, ⟨27, _⟩ => ⟨S16400x8, .f32⟩
  | .hbm, ⟨28, _⟩ => ⟨S16400x32, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S1024x10856 : Shape := ⟨2, ![1024, 10856]⟩
abbrev S1024x2048 : Shape := ⟨2, ![1024, 2048]⟩
abbrev S16384x1024 : Shape := ⟨2, ![16384, 1024]⟩
abbrev S_ : Shape := ⟨0, ![]⟩
abbrev S240x1024 : Shape := ⟨2, ![240, 1024]⟩
abbrev S16640x1024 : Shape := ⟨2, ![16640, 1024]⟩
abbrev S1024 : Shape := ⟨1, ![1024]⟩
abbrev S16640x2048 : Shape := ⟨2, ![16640, 2048]⟩
abbrev S640x1024 : Shape := ⟨2, ![640, 1024]⟩
abbrev S1024x1024 : Shape := ⟨2, ![1024, 1024]⟩
abbrev S640 : Shape := ⟨1, ![640]⟩
abbrev S640x1 : Shape := ⟨2, ![640, 1]⟩
abbrev S16400x2048 : Shape := ⟨2, ![16400, 2048]⟩

abbrev nBuf : Space → Nat
  | .hbm => 15
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S1024x10856, .f32⟩
  | .hbm, ⟨5, _⟩ => ⟨S1024x2048, .f32⟩
  | .hbm, ⟨6, _⟩ => ⟨S1024x2048, .bf16⟩
  | .hbm, ⟨7, _⟩ => ⟨S16384x1024, .f32⟩
  | .hbm, ⟨8, _⟩ => ⟨S_, .f32⟩
  | .hbm, ⟨9, _⟩ => ⟨S240x1024, .f32⟩
  | .hbm, ⟨10, _⟩ => ⟨S16640x1024, .f32⟩
  | .hbm, ⟨11, _⟩ => ⟨S1024, .f32⟩
  | .hbm, ⟨12, _⟩ => ⟨S1x1024, .f32⟩
  | .hbm, ⟨13, _⟩ => ⟨S16640x2048, .f32⟩
  | .hbm, ⟨14, _⟩ => ⟨S16400x2048, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S640x1024, .f32⟩
  | .local _ .vmem, ⟨6, _⟩ => ⟨S640x1024, .f32⟩
  | .local _ .vmem, ⟨7, _⟩ => ⟨S640x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S16384x1024 : Shape := ⟨2, ![16384, 1024]⟩
abbrev S16400x1024 : Shape := ⟨2, ![16400, 1024]⟩
abbrev S1024 : Shape := ⟨1, ![1024]⟩
abbrev S1024x10856 : Shape := ⟨2, ![1024, 10856]⟩
abbrev S_ : Shape := ⟨0, ![]⟩
abbrev S16400 : Shape := ⟨1, ![16400]⟩
abbrev S16400x1 : Shape := ⟨2, ![16400, 1]⟩
abbrev S16400x10856 : Shape := ⟨2, ![16400, 10856]⟩
abbrev S16400x2048 : Shape := ⟨2, ![16400, 2048]⟩

abbrev nBuf : Space → Nat
  | .hbm => 26
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S16384x1024, .f32⟩
  | .hbm, ⟨5, _⟩ => ⟨S16400x1024, .f32⟩
  | .hbm, ⟨6, _⟩ => ⟨S1024, .f32⟩
  | .hbm, ⟨7, _⟩ => ⟨S1024x10856, .f32⟩
  | .hbm, ⟨8, _⟩ => ⟨S16400x1024, .f32⟩
  | .hbm, ⟨9, _⟩ => ⟨S_, .f32⟩
  | .hbm, ⟨10, _⟩ => ⟨S16400, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1, .f32⟩
  | .hbm, ⟨19, _⟩ => ⟨S16400x1024, .f32⟩
  | .hbm, ⟨20, _⟩ => ⟨S16400x1024, .f32⟩
  | .hbm, ⟨21, _⟩ => ⟨S1x1024, .f32⟩
  | .hbm, ⟨22, _⟩ => ⟨S16400x1024, .f32⟩
  | .hbm, ⟨23, _⟩ => ⟨S16400x1024, .f32⟩
  | .hbm, ⟨24, _⟩ => ⟨S16400x10856, .f32⟩
  | .hbm, ⟨25, _⟩ => ⟨S16400x2048, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel7.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S1024x10856 : Shape := ⟨2, ![1024, 10856]⟩
abbrev S1024x2048 : Shape := ⟨2, ![1024, 2048]⟩
abbrev S16384x1024 : Shape := ⟨2, ![16384, 1024]⟩
abbrev S_ : Shape := ⟨0, ![]⟩
abbrev S240x1024 : Shape := ⟨2, ![240, 1024]⟩
abbrev S16640x1024 : Shape := ⟨2, ![16640, 1024]⟩
abbrev S1024 : Shape := ⟨1, ![1024]⟩
abbrev S16640x2048 : Shape := ⟨2, ![16640, 2048]⟩
abbrev S640x1024 : Shape := ⟨2, ![640, 1024]⟩
abbrev S1024x1024 : Shape := ⟨2, ![1024, 1024]⟩
abbrev S640 : Shape := ⟨1, ![640]⟩
abbrev S640x1 : Shape := ⟨2, ![640, 1]⟩
abbrev S16400x2048 : Shape := ⟨2, ![16400, 2048]⟩

abbrev nBuf : Space → Nat
  | .hbm => 15
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S1024x10856, .f32⟩
  | .hbm, ⟨5, _⟩ => ⟨S1024x2048, .f32⟩
  | .hbm, ⟨6, _⟩ => ⟨S1024x2048, .bf16⟩
  | .hbm, ⟨7, _⟩ => ⟨S16384x1024, .f32⟩
  | .hbm, ⟨8, _⟩ => ⟨S_, .f32⟩
  | .hbm, ⟨9, _⟩ => ⟨S240x1024, .f32⟩
  | .hbm, ⟨10, _⟩ => ⟨S16640x1024, .f32⟩
  | .hbm, ⟨11, _⟩ => ⟨S1024, .f32⟩
  | .hbm, ⟨12, _⟩ => ⟨S1x1024, .f32⟩
  | .hbm, ⟨13, _⟩ => ⟨S16640x2048, .f32⟩
  | .hbm, ⟨14, _⟩ => ⟨S16400x2048, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S640x1024, .f32⟩
  | .local _ .vmem, ⟨6, _⟩ => ⟨S640x1024, .f32⟩
  | .local _ .vmem, ⟨7, _⟩ => ⟨S640x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S1x16384x1024 : Shape := ⟨3, ![1, 16384, 1024]⟩
abbrev S16x1024 : Shape := ⟨2, ![16, 1024]⟩
abbrev S1x1024 : Shape := ⟨2, ![1, 1024]⟩
abbrev S1x1024x10856 : Shape := ⟨3, ![1, 1024, 10856]⟩
abbrev S16384x1024 : Shape := ⟨2, ![16384, 1024]⟩
abbrev S16400x1024 : Shape := ⟨2, ![16400, 1024]⟩
abbrev S1024 : Shape := ⟨1, ![1024]⟩
abbrev S1024x10856 : Shape := ⟨2, ![1024, 10856]⟩
abbrev S_ : Shape := ⟨0, ![]⟩
abbrev S16400 : Shape := ⟨1, ![16400]⟩
abbrev S16400x1 : Shape := ⟨2, ![16400, 1]⟩
abbrev S16400x10856 : Shape := ⟨2, ![16400, 10856]⟩
abbrev S16400x2048 : Shape := ⟨2, ![16400, 2048]⟩

abbrev nBuf : Space → Nat
  | .hbm => 26
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x1024, .f32⟩
  | .hbm, ⟨2, _⟩ => ⟨S1x1024, .f32⟩
  | .hbm, ⟨3, _⟩ => ⟨S1x1024x10856, .f32⟩
  | .hbm, ⟨4, _⟩ => ⟨S16384x1024, .f32⟩
  | .hbm, ⟨5, _⟩ => ⟨S16400x1024, .f32⟩
  | .hbm, ⟨6, _⟩ => ⟨S1024, .f32⟩
  | .hbm, ⟨7, _⟩ => ⟨S1024x10856, .f32⟩
  | .hbm, ⟨8, _⟩ => ⟨S16400x1024, .f32⟩
  | .hbm, ⟨9, _⟩ => ⟨S_, .f32⟩
  | .hbm, ⟨10, _⟩ => ⟨S16400, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1, .f32⟩
  | .hbm, ⟨19, _⟩ => ⟨S16400x1024, .f32⟩
  | .hbm, ⟨20, _⟩ => ⟨S16400x1024, .f32⟩
  | .hbm, ⟨21, _⟩ => ⟨S1x1024, .f32⟩
  | .hbm, ⟨22, _⟩ => ⟨S16400x1024, .f32⟩
  | .hbm, ⟨23, _⟩ => ⟨S16400x1024, .f32⟩
  | .hbm, ⟨24, _⟩ => ⟨S16400x10856, .f32⟩
  | .hbm, ⟨25, _⟩ => ⟨S16400x2048, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel8.lean ====
abbrev S128x1x1024 : Shape := ⟨3, ![128, 1, 1024]⟩
abbrev S1x1024 : Shape := ⟨2, ![1, 1024]⟩
abbrev S1x1024x10856 : Shape := ⟨3, ![1, 1024, 10856]⟩
abbrev S1024x10856 : Shape := ⟨2, ![1024, 10856]⟩
abbrev S1024x3072 : Shape := ⟨2, ![1024, 3072]⟩
abbrev S128x1024 : Shape := ⟨2, ![128, 1024]⟩
abbrev S1024 : Shape := ⟨1, ![1024]⟩
abbrev S128x3072 : Shape := ⟨2, ![128, 3072]⟩
abbrev S1024x1024 : Shape := ⟨2, ![1024, 1024]⟩
abbrev S128 : Shape := ⟨1, ![128]⟩
abbrev S128x1 : Shape := ⟨2, ![128, 1]⟩

abbrev nBuf : Space → Nat
  | .hbm => 13
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x10856, .f32⟩
  | .hbm, ⟨3, _⟩ => ⟨S1024x10856, .f32⟩
  | .hbm, ⟨4, _⟩ => ⟨S1024x3072, .f32⟩
  | .hbm, ⟨5, _⟩ => ⟨S1024x3072, .bf16⟩
  | .hbm, ⟨6, _⟩ => ⟨S128x1024, .f32⟩
  | .hbm, ⟨7, _⟩ => ⟨S1024, .f32⟩
  | .hbm, ⟨8, _⟩ => ⟨S1x1024, .f32⟩
  | .hbm, ⟨9, _⟩ => ⟨S128x3072, .f32⟩
  | .hbm, ⟨10, _⟩ => ⟨S128x1024, .f32⟩
  | .hbm, ⟨11, _⟩ => ⟨S128x1024, .f32⟩
  | .hbm, ⟨12, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S128x1x1024 : Shape := ⟨3, ![128, 1, 1024]⟩
abbrev S1x1024 : Shape := ⟨2, ![1, 1024]⟩
abbrev S1x1024x10856 : Shape := ⟨3, ![1, 1024, 10856]⟩
abbrev S128x1024 : Shape := ⟨2, ![128, 1024]⟩
abbrev S1024 : Shape := ⟨1, ![1024]⟩
abbrev S1024x10856 : Shape := ⟨2, ![1024, 10856]⟩
abbrev S_ : Shape := ⟨0, ![]⟩
abbrev S128 : Shape := ⟨1, ![128]⟩
abbrev S128x1 : Shape := ⟨2, ![128, 1]⟩
abbrev S128x10856 : Shape := ⟨2, ![128, 10856]⟩

abbrev nBuf : Space → Nat
  | .hbm => 26
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x10856, .f32⟩
  | .hbm, ⟨3, _⟩ => ⟨S128x1024, .f32⟩
  | .hbm, ⟨4, _⟩ => ⟨S1024, .f32⟩
  | .hbm, ⟨5, _⟩ => ⟨S1024x10856, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x10856, .f32⟩
  | .hbm, ⟨23, _⟩ => ⟨S128x1024, .f32⟩
  | .hbm, ⟨24, _⟩ => ⟨S128x1024, .f32⟩
  | .hbm, ⟨25, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel9.lean ====
abbrev S128x1x1024 : Shape := ⟨3, ![128, 1, 1024]⟩
abbrev S1x1024 : Shape := ⟨2, ![1, 1024]⟩
abbrev S1x1024x10856 : Shape := ⟨3, ![1, 1024, 10856]⟩
abbrev S128x1024 : Shape := ⟨2, ![128, 1024]⟩
abbrev S1024 : Shape := ⟨1, ![1024]⟩
abbrev S1024x10856 : Shape := ⟨2, ![1024, 10856]⟩
abbrev S1024x512 : Shape := ⟨2, ![1024, 512]⟩
abbrev S1024x72 : Shape := ⟨2, ![1024, 72]⟩
abbrev S_ : Shape := ⟨0, ![]⟩
abbrev S1024x56 : Shape := ⟨2, ![1024, 56]⟩
abbrev S1024x32 : Shape := ⟨2, ![1024, 32]⟩
abbrev S1024x96 : Shape := ⟨2, ![1024, 96]⟩
abbrev S1024x768 : Shape := ⟨2, ![1024, 768]⟩
abbrev S128x768 : Shape := ⟨2, ![128, 768]⟩
abbrev S128 : Shape := ⟨1, ![128]⟩
abbrev S128x1 : Shape := ⟨2, ![128, 1]⟩
abbrev S128x512 : Shape := ⟨2, ![128, 512]⟩
abbrev S128x64 : Shape := ⟨2, ![128, 64]⟩
abbrev S128x8 : Shape := ⟨2, ![128, 8]⟩
abbrev S128x32 : Shape := ⟨2, ![128, 32]⟩

abbrev nBuf : Space → Nat
  | .hbm => 20
  | .vmem => 5
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x10856, .f32⟩
  | .hbm, ⟨3, _⟩ => ⟨S128x1024, .f32⟩
  | .hbm, ⟨4, _⟩ => ⟨S1024, .f32⟩
  | .hbm, ⟨5, _⟩ => ⟨S1024x10856, .f32⟩
  | .hbm, ⟨6, _⟩ => ⟨S1024x512, .f32⟩
  | .hbm, ⟨7, _⟩ => ⟨S1024x72, .f32⟩
  | .hbm, ⟨8, _⟩ => ⟨S_, .f32⟩
  | .hbm, ⟨9, _⟩ => ⟨S1024x56, .f32⟩
  | .hbm, ⟨10, _⟩ => ⟨S1024x32, .f32⟩
  | .hbm, ⟨11, _⟩ => ⟨S_, .f32⟩
  | .hbm, ⟨12, _⟩ => ⟨S1024x96, .f32⟩
  | .hbm, ⟨13, _⟩ => ⟨S1024x768, .f32⟩
  | .hbm, ⟨14, _⟩ => ⟨S1x1024, .f32⟩
  | .hbm, ⟨15, _⟩ => ⟨S128x768, .f32⟩
  | .hbm, ⟨16, _⟩ => ⟨S128x512, .f32⟩
  | .hbm, ⟨17, _⟩ => ⟨S128x64, .f32⟩
  | .hbm, ⟨18, _⟩ => ⟨S128x8, .f32⟩
  | .hbm, ⟨19, _⟩ => ⟨S128x32, .f32⟩
  | .local _ .vmem, ⟨0, _⟩ => ⟨S128x1024, .f32⟩
  | .local _ .vmem, ⟨1, _⟩ => ⟨S1x1024, .f32⟩
  | .local _ .vmem, ⟨2, _⟩ => ⟨S1024x768, .f32⟩
  | .local _ .vmem, ⟨3, _⟩ => ⟨S128x768, .f32⟩
  | .local _ .vmem, ⟨4, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference9Ideal.lean ====
abbrev S128x1x1024 : Shape := ⟨3, ![128, 1, 1024]⟩
abbrev S1x1024 : Shape := ⟨2, ![1, 1024]⟩
abbrev S1x1024x10856 : Shape := ⟨3, ![1, 1024, 10856]⟩
abbrev S128x1024 : Shape := ⟨2, ![128, 1024]⟩
abbrev S1024 : Shape := ⟨1, ![1024]⟩
abbrev S1024x10856 : Shape := ⟨2, ![1024, 10856]⟩
abbrev S_ : Shape := ⟨0, ![]⟩
abbrev S128 : Shape := ⟨1, ![128]⟩
abbrev S128x1 : Shape := ⟨2, ![128, 1]⟩
abbrev S128x10856 : Shape := ⟨2, ![128, 10856]⟩
abbrev S128x512 : Shape := ⟨2, ![128, 512]⟩
abbrev S128x64 : Shape := ⟨2, ![128, 64]⟩
abbrev S128x8 : Shape := ⟨2, ![128, 8]⟩
abbrev S128x32 : Shape := ⟨2, ![128, 32]⟩

abbrev nBuf : Space → Nat
  | .hbm => 27
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x10856, .f32⟩
  | .hbm, ⟨3, _⟩ => ⟨S128x1024, .f32⟩
  | .hbm, ⟨4, _⟩ => ⟨S1024, .f32⟩
  | .hbm, ⟨5, _⟩ => ⟨S1024x10856, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x10856, .f32⟩
  | .hbm, ⟨23, _⟩ => ⟨S128x512, .f32⟩
  | .hbm, ⟨24, _⟩ => ⟨S128x64, .f32⟩
  | .hbm, ⟨25, _⟩ => ⟨S128x8, .f32⟩
  | .hbm, ⟨26, _⟩ => ⟨S128x32, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel10.lean ====
abbrev S128x1x1024 : Shape := ⟨3, ![128, 1, 1024]⟩
abbrev S1x128x3x3072 : Shape := ⟨4, ![1, 128, 3, 3072]⟩
abbrev S1x1024 : Shape := ⟨2, ![1, 1024]⟩
abbrev S1x1024x10856 : Shape := ⟨3, ![1, 1024, 10856]⟩
abbrev S1024x10856 : Shape := ⟨2, ![1024, 10856]⟩
abbrev S1024x3072 : Shape := ⟨2, ![1024, 3072]⟩
abbrev S128x1024 : Shape := ⟨2, ![128, 1024]⟩
abbrev S1024 : Shape := ⟨1, ![1024]⟩
abbrev S128x3072 : Shape := ⟨2, ![128, 3072]⟩
abbrev S1024x1024 : Shape := ⟨2, ![1024, 1024]⟩
abbrev S128 : Shape := ⟨1, ![128]⟩
abbrev S128x1 : Shape := ⟨2, ![128, 1]⟩
abbrev S128x3x3072 : Shape := ⟨3, ![128, 3, 3072]⟩
abbrev S128x2x3072 : Shape := ⟨3, ![128, 2, 3072]⟩
abbrev S128x1x3072 : Shape := ⟨3, ![128, 1, 3072]⟩

abbrev nBuf : Space → Nat
  | .hbm => 15
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1x128x3x3072, .f32⟩
  | .hbm, ⟨2, _⟩ => ⟨S1x1024, .f32⟩
  | .hbm, ⟨3, _⟩ => ⟨S1x1024x10856, .f32⟩
  | .hbm, ⟨4, _⟩ => ⟨S1024x10856, .f32⟩
  | .hbm, ⟨5, _⟩ => ⟨S1024x3072, .f32⟩
  | .hbm, ⟨6, _⟩ => ⟨S1024x3072, .bf16⟩
  | .hbm, ⟨7, _⟩ => ⟨S128x1024, .f32⟩
  | .hbm, ⟨8, _⟩ => ⟨S1024, .f32⟩
  | .hbm, ⟨9, _⟩ => ⟨S1x1024, .f32⟩
  | .hbm, ⟨10, _⟩ => ⟨S128x3072, .f32⟩
  | .hbm, ⟨11, _⟩ => ⟨S128x3x3072, .f32⟩
  | .hbm, ⟨12, _⟩ => ⟨S128x2x3072, .f32⟩
  | .hbm, ⟨13, _⟩ => ⟨S128x1x3072, .f32⟩
  | .hbm, ⟨14, _⟩ => ⟨S128x3x3072, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S128x1x1024 : Shape := ⟨3, ![128, 1, 1024]⟩
abbrev S1x128x3x3072 : Shape := ⟨4, ![1, 128, 3, 3072]⟩
abbrev S1x1024 : Shape := ⟨2, ![1, 1024]⟩
abbrev S1x1024x10856 : Shape := ⟨3, ![1, 1024, 10856]⟩
abbrev S128x1024 : Shape := ⟨2, ![128, 1024]⟩
abbrev S1024 : Shape := ⟨1, ![1024]⟩
abbrev S1024x10856 : Shape := ⟨2, ![1024, 10856]⟩
abbrev S_ : Shape := ⟨0, ![]⟩
abbrev S128 : Shape := ⟨1, ![128]⟩
abbrev S128x1 : Shape := ⟨2, ![128, 1]⟩
abbrev S128x10856 : Shape := ⟨2, ![128, 10856]⟩
abbrev S128x3072 : Shape := ⟨2, ![128, 3072]⟩
abbrev S128x3x3072 : Shape := ⟨3, ![128, 3, 3072]⟩
abbrev S128x1x3072 : Shape := ⟨3, ![128, 1, 3072]⟩
abbrev S128x4x3072 : Shape := ⟨3, ![128, 4, 3072]⟩

abbrev nBuf : Space → Nat
  | .hbm => 29
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x3x3072, .f32⟩
  | .hbm, ⟨2, _⟩ => ⟨S1x1024, .f32⟩
  | .hbm, ⟨3, _⟩ => ⟨S1x1024x10856, .f32⟩
  | .hbm, ⟨4, _⟩ => ⟨S128x1024, .f32⟩
  | .hbm, ⟨5, _⟩ => ⟨S1024, .f32⟩
  | .hbm, ⟨6, _⟩ => ⟨S1024x10856, .f32⟩
  | .hbm, ⟨7, _⟩ => ⟨S128x1024, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S128x10856, .f32⟩
  | .hbm, ⟨24, _⟩ => ⟨S128x3072, .f32⟩
  | .hbm, ⟨25, _⟩ => ⟨S128x3x3072, .f32⟩
  | .hbm, ⟨26, _⟩ => ⟨S128x1x3072, .f32⟩
  | .hbm, ⟨27, _⟩ => ⟨S128x4x3072, .f32⟩
  | .hbm, ⟨28, _⟩ => ⟨S128x3x3072, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel11.lean ====
abbrev S128x1x1024 : Shape := ⟨3, ![128, 1, 1024]⟩
abbrev S1x128x32x64x128 : Shape := ⟨5, ![1, 128, 32, 64, 128]⟩
abbrev S1x128x3x3072 : Shape := ⟨4, ![1, 128, 3, 3072]⟩
abbrev S1x1024 : Shape := ⟨2, ![1, 1024]⟩
abbrev S1x1024x10856 : Shape := ⟨3, ![1, 1024, 10856]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S1024x10856 : Shape := ⟨2, ![1024, 10856]⟩
abbrev S128x1024 : Shape := ⟨2, ![128, 1024]⟩
abbrev S1024 : Shape := ⟨1, ![1024]⟩
abbrev S1024x2048 : Shape := ⟨2, ![1024, 2048]⟩
abbrev S128x2048 : Shape := ⟨2, ![128, 2048]⟩
abbrev S1024x1024 : Shape := ⟨2, ![1024, 1024]⟩
abbrev S128 : Shape := ⟨1, ![128]⟩
abbrev S128x1 : Shape := ⟨2, ![128, 1]⟩
abbrev S1024x3072 : Shape := ⟨2, ![1024, 3072]⟩
abbrev S128x3072 : Shape := ⟨2, ![128, 3072]⟩
abbrev S1024x32 : Shape := ⟨2, ![1024, 32]⟩
abbrev S1024x32x64 : Shape := ⟨3, ![1024, 32, 64]⟩
abbrev S1024x512 : Shape := ⟨2, ![1024, 512]⟩
abbrev S128x512 : Shape := ⟨2, ![128, 512]⟩
abbrev S128x1x3072 : Shape := ⟨3, ![128, 1, 3072]⟩
abbrev S128x3x3072 : Shape := ⟨3, ![128, 3, 3072]⟩
abbrev S128x1x2048 : Shape := ⟨3, ![128, 1, 2048]⟩
abbrev S128x32x64x128 : Shape := ⟨4, ![128, 32, 64, 128]⟩
abbrev S128x2048x128 : Shape := ⟨3, ![128, 2048, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S32x64 : Shape := ⟨2, ![32, 64]⟩
abbrev S1x1x3072 : Shape := ⟨3, ![1, 1, 3072]⟩
abbrev S1x3x3072 : Shape := ⟨3, ![1, 3, 3072]⟩
abbrev S1x1x2048 : Shape := ⟨3, ![1, 1, 2048]⟩
abbrev S1x2048x128 : Shape := ⟨3, ![1, 2048, 128]⟩
abbrev S2048x128 : Shape := ⟨2, ![2048, 128]⟩
abbrev S1x128 : Shape := ⟨2, ![1, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩

abbrev nBuf : Space → Nat
  | .hbm => 54
  | .vmem => 41
  | .smem => 0
  | _ => 0

abbrev bufTy : (tb : Table) → Fin (tcTables nBuf tb) → BufTy
  | .hbm, ⟨0, _⟩ => ⟨S128x1x1024, .f32⟩
  | .hbm, ⟨1, _⟩ => ⟨S1x128x32x64x128, .f32⟩
  | .hbm, ⟨2, _⟩ => ⟨S1x128x3x3072, .f32⟩
  | .hbm, ⟨3, _⟩ => ⟨S1x1024, .f32⟩
  | .hbm, ⟨4, _⟩ => ⟨S1x1024x10856, .f32⟩
  | .hbm, ⟨5, _⟩ => ⟨S1x4x3072, .f32⟩
  | .hbm, ⟨6, _⟩ => ⟨S1x3072, .f32⟩
  | .hbm, ⟨7, _⟩ => ⟨S1x32, .f32⟩
  | .hbm, ⟨8, _⟩ => ⟨S1x32, .f32⟩
  | .hbm, ⟨9, _⟩ => ⟨S1x32, .f32⟩
  | .hbm, ⟨10, _⟩ => ⟨S1x2048, .f32⟩
  | .hbm, ⟨11, _⟩ => ⟨S1024x10856, .f32⟩
  | .hbm, ⟨12, _⟩ => ⟨S128x1024, .f32⟩
  | .hbm, ⟨13, _⟩ => ⟨S1024, .f32⟩
  | .hbm, ⟨14, _⟩ => ⟨S1024x2048, .f32⟩
  | .hbm, ⟨15, _⟩ => ⟨S1024x2048, .bf16⟩
  | .hbm, ⟨16, _⟩ => ⟨S1x1024, .f32⟩
  | .hbm, ⟨17, _⟩ => ⟨S128x2048, .f32⟩
  | .hbm, ⟨18, _⟩ => ⟨S1024, .f32⟩
  | .hbm, ⟨19, _⟩ => ⟨S1024x3072, .f32⟩
  | .hbm, ⟨20, _⟩ => ⟨S1024x3072, .bf16⟩
  | .hbm, ⟨21, _⟩ => ⟨S1x1024, .f32⟩
  | .hbm, ⟨22, _⟩ => ⟨S128x3072, .f32⟩
  | .hbm, ⟨23, _⟩ => ⟨S1024, .f32⟩
  | .hbm, ⟨24, _⟩ => ⟨S1024x32, .f32⟩
  | .hbm, ⟨25, _⟩ => ⟨S1024x32x64, .f32⟩
  | .hbm, ⟨26, _⟩ => ⟨S1024x2048, .f32⟩
  | .hbm, ⟨27, _⟩ => ⟨S1x1024, .f32⟩
  | .hbm, ⟨28, _⟩ => ⟨S128x2048, .f32⟩
  | .hbm, ⟨29, _⟩ => ⟨S128x1x3072, .f32⟩
  | .hbm, ⟨30, _⟩ => ⟨S128x3x3072, .f32⟩
  | .hbm, ⟨31, _⟩ => ⟨S128x1x2048, .f32⟩
  | .hbm, ⟨32, _⟩ => ⟨S128x1x2048, .f32⟩
  | .hbm, ⟨33, _⟩ => ⟨S128x32x64x128, .f32⟩
  | .hbm, ⟨34, _⟩ => ⟨S128x2048x128, .f32⟩
  | .hbm, ⟨35, _⟩ => ⟨S4x3072, .f32⟩
  | .hbm, ⟨36, _⟩ => ⟨S3072, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S2048, .f32⟩
  | .hbm, ⟨41, _⟩ => ⟨S1x3072, .f32⟩
  | .hbm, ⟨42, _⟩ => ⟨S32x64, .f32⟩
  | .hbm, ⟨43, _⟩ => ⟨S2048, .f32⟩
  | .hbm, ⟨44, _⟩ => ⟨S1x2048, .f32⟩
  | .hbm, ⟨45, _⟩ => ⟨S32x64, .f32⟩
  | .hbm, ⟨46, _⟩ => ⟨S2048, .f32⟩
  | .hbm, ⟨47, _⟩ => ⟨S1x2048, .f32⟩
  | .hbm, ⟨48, _⟩ => ⟨S32x64, .f32⟩
  | .hbm, ⟨49, _⟩ => ⟨S2048, .f32⟩
  | .hbm, ⟨50, _⟩ => ⟨S1x2048, .f32⟩
  | .hbm, ⟨51, _⟩ => ⟨S1x2048, .f32⟩
  | .hbm, ⟨52, _⟩ => ⟨S128x1x2048, .f32⟩
  | .hbm, ⟨53, _⟩ => ⟨S128x2048x128, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S128x1024, .f32⟩
  | .local _ .vmem, ⟨12, _⟩ => ⟨S128x1024, .f32⟩
  | .local _ .vmem, ⟨13, _⟩ => ⟨S128x1024, .bf16⟩
  | .local _ .vmem, ⟨14, _⟩ => ⟨S128x1024, .f32⟩
  | .local _ .vmem, ⟨15, _⟩ => ⟨S1x1024, .f32⟩
  | .local _ .vmem, ⟨16, _⟩ => ⟨S1024x512, .f32⟩
  | .local _ .vmem, ⟨17, _⟩ => ⟨S1024x512, .f32⟩
  | .local _ .vmem, ⟨18, _⟩ => ⟨S128x512, .f32⟩
  | .local _ .vmem, ⟨19, _⟩ => ⟨S128x512, .f32⟩
  | .local _ .vmem, ⟨20, _⟩ => ⟨S128x1024, .f32⟩
  | .local _ .vmem, ⟨21, _⟩ => ⟨S1x1x3072, .f32⟩
  | .local _ .vmem, ⟨22, _⟩ => ⟨S1x1x3072, .f32⟩
  | .local _ .vmem, ⟨23, _⟩ => ⟨S1x3x3072, .f32⟩
  | .local _ .vmem, ⟨24, _⟩ => ⟨S1x3x3072, .f32⟩
  | .local _ .vmem, ⟨25, _⟩ => ⟨S1x1x2048, .f32⟩
  | .local _ .vmem, ⟨26, _⟩ => ⟨S1x1x2048, .f32⟩
  | .local _ .vmem, ⟨27, _⟩ => ⟨S1x1x2048, .f32⟩
  | .local _ .vmem, ⟨28, _⟩ => ⟨S1x1x2048, .f32⟩
  | .local _ .vmem, ⟨29, _⟩ => ⟨S1x2048x128, .f32⟩
  | .local _ .vmem, ⟨30, _⟩ => ⟨S1x2048x128, .f32⟩
  | .local _ .vmem, ⟨31, _⟩ => ⟨S4x3072, .f32⟩
  | .local _ .vmem, ⟨32, _⟩ => ⟨S1x3072, .f32⟩
  | .local _ .vmem, ⟨33, _⟩ => ⟨S1x2048, .f32⟩
  | .local _ .vmem, ⟨34, _⟩ => ⟨S1x2048, .f32⟩
  | .local _ .vmem, ⟨35, _⟩ => ⟨S1x2048, .f32⟩
  | .local _ .vmem, ⟨36, _⟩ => ⟨S1x2048, .f32⟩
  | .local _ .vmem, ⟨37, _⟩ => ⟨S1x1x2048, .f32⟩
  | .local _ .vmem, ⟨38, _⟩ => ⟨S1x1x2048, .f32⟩
  | .local _ .vmem, ⟨39, _⟩ => ⟨S1x2048x128, .f32⟩
  | .local _ .vmem, ⟨40, _⟩ => ⟨S1x2048x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41_0 : Ref sig .tc := ⟨.hbm, 52, rfl⟩
abbrev main_v41_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg11_0 : Ref sig .tc := ⟨.vmem, 37, rfl⟩
abbrev cc3_stg11_1 : Ref sig .tc := ⟨.vmem, 38, rfl⟩
abbrev cc3_stg12_0 : Ref sig .tc := ⟨.vmem, 39, rfl⟩
abbrev cc3_stg12_1 : Ref sig .tc := ⟨.vmem, 40, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem10_0 : DmaSem sig := 33
abbrev cc3_sem11_0 : DmaSem sig := 34
abbrev cc3_sem11_1 : DmaSem sig := 35
abbrev cc3_sem12_0 : DmaSem sig := 36
abbrev cc3_sem12_1 : DmaSem sig := 37

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![128], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x3072 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x3x3072 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S4x3072 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x3072 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x2048 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2048 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x2048 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x2048 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S1x1x2048 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S1x2048x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]
-- ==== Reference11Ideal.lean ====
abbrev S128x1x1024 : Shape := ⟨3, ![128, 1, 1024]⟩
abbrev S1x128x32x64x128 : Shape := ⟨5, ![1, 128, 32, 64, 128]⟩
abbrev S1x128x3x3072 : Shape := ⟨4, ![1, 128, 3, 3072]⟩
abbrev S1x1024 : Shape := ⟨2, ![1, 1024]⟩
abbrev S1x1024x10856 : Shape := ⟨3, ![1, 1024, 10856]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128x1024 : Shape := ⟨2, ![128, 1024]⟩
abbrev S1024 : Shape := ⟨1, ![1024]⟩
abbrev S1024x10856 : Shape := ⟨2, ![1024, 10856]⟩
abbrev S_ : Shape := ⟨0, ![]⟩
abbrev S128 : Shape := ⟨1, ![128]⟩
abbrev S128x1 : Shape := ⟨2, ![128, 1]⟩
abbrev S128x10856 : Shape := ⟨2, ![128, 10856]⟩
abbrev S128x3072 : Shape := ⟨2, ![128, 3072]⟩
abbrev S128x1x3072 : Shape := ⟨3, ![128, 1, 3072]⟩
abbrev S128x3x3072 : Shape := ⟨3, ![128, 3, 3072]⟩
abbrev S128x2048 : Shape := ⟨2, ![128, 2048]⟩
abbrev S128x1x2048 : Shape := ⟨3, ![128, 1, 2048]⟩
abbrev S128x32 : Shape := ⟨2, ![128, 32]⟩
abbrev S128x1x32 : Shape := ⟨3, ![128, 1, 32]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S128x4x3072 : Shape := ⟨3, ![128, 4, 3072]⟩
abbrev S1x1x3072 : Shape := ⟨3, ![1, 1, 3072]⟩
abbrev S128x1x512 : Shape := ⟨3, ![128, 1, 512]⟩
abbrev S128x1x32x64 : Shape := ⟨4, ![128, 1, 32, 64]⟩
abbrev S128x1x4x128 : Shape := ⟨4, ![128, 1, 4, 128]⟩
abbrev S1x1x32 : Shape := ⟨3, ![1, 1, 32]⟩
abbrev S128x32x64 : Shape := ⟨3, ![128, 32, 64]⟩
abbrev S128x4x128 : Shape := ⟨3, ![128, 4, 128]⟩
abbrev S128x4x8x128 : Shape := ⟨4, ![128, 4, 8, 128]⟩
abbrev S128x32x128 : Shape := ⟨3, ![128, 32, 128]⟩
abbrev S128x32x1x1 : Shape := ⟨4, ![128, 32, 1, 1]⟩
abbrev S128x32x1 : Shape := ⟨3, ![128, 32, 1]⟩
abbrev S128x32x64x1 : Shape := ⟨4, ![128, 32, 64, 1]⟩
abbrev S128x32x1x128 : Shape := ⟨4, ![128, 32, 1, 128]⟩
abbrev S32x1 : Shape := ⟨2, ![32, 1]⟩
abbrev S1x1x32x1 : Shape := ⟨4, ![1, 1, 32, 1]⟩
abbrev S128x1x4x512 : Shape := ⟨4, ![128, 1, 4, 512]⟩
abbrev S128x1x4 : Shape := ⟨3, ![128, 1, 4]⟩
abbrev S128x1x4x1 : Shape := ⟨4, ![128, 1, 4, 1]⟩
abbrev S1x1x2048 : Shape := ⟨3, ![1, 1, 2048]⟩
abbrev S128x2048x128 : Shape := ⟨3, ![128, 2048, 128]⟩

abbrev nBuf : Space → Nat
  | .hbm => 174
  | .vmem => 0
  | .smem => 0
  | _ => 0

abbrev hbmTy0_0 (i : Nat) : BufTy := match i % 128 with
  | 0 => ⟨S128x1x1024, .f32⟩
  | 1 => ⟨S1x128x32x64x128, .f32⟩
  | 2 => ⟨S1x128x3x3072, .f32⟩
  | 3 => ⟨S1x1024, .f32⟩
  | 4 => ⟨S1x1024x10856, .f32⟩
  | 5 => ⟨S1x4x3072, .f32⟩
  | 6 => ⟨S1x3072, .f32⟩
  | 7 => ⟨S1x32, .f32⟩
  | 8 => ⟨S1x32, .f32⟩
  | 9 => ⟨S1x32, .f32⟩
  | 10 => ⟨S1x2048, .f32⟩
  | 11 => ⟨S128x1024, .f32⟩
  | 12 => ⟨S1024, .f32⟩
  | 13 => ⟨S1024x10856, .f32⟩
  | 14 => ⟨S128x1024, .f32⟩
  | 15 => ⟨S_, .f32⟩
  | 16 => ⟨S128, .f32⟩
  | 17 => ⟨S128x1, .f32⟩
  | 18 => ⟨S_, .f32⟩
  | 19 => ⟨S128x1, .f32⟩
  | 20 => ⟨S128x1, .f32⟩
  | 21 => ⟨S_, .f32⟩
  | 22 => ⟨S128x1, .f32⟩
  | 23 => ⟨S128x1, .f32⟩
  | 24 => ⟨S128x1, .f32⟩
  | 25 => ⟨S128x1024, .f32⟩
  | 26 => ⟨S128x1024, .f32⟩
  | 27 => ⟨S1x1024, .f32⟩
  | 28 => ⟨S128x1024, .f32⟩
  | 29 => ⟨S128x1024, .f32⟩
  | 30 => ⟨S128x10856, .f32⟩
  | 31 => ⟨S128x3072, .f32⟩
  | 32 => ⟨S128x1x3072, .f32⟩
  | 33 => ⟨S128x3x3072, .f32⟩
  | 34 => ⟨S128x2048, .f32⟩
  | 35 => ⟨S128x1x2048, .f32⟩
  | 36 => ⟨S128x32, .f32⟩
  | 37 => ⟨S128x1x32, .f32⟩
  | 38 => ⟨S128x32x64x128, .f32⟩
  | 39 => ⟨S4x3072, .f32⟩
  | 40 => ⟨S3072, .f32⟩
  | 41 => ⟨S32, .f32⟩
  | 42 => ⟨S32, .f32⟩
  | 43 => ⟨S32, .f32⟩
  | 44 => ⟨S2048, .f32⟩
  | 45 => ⟨S32, .f32⟩
  | 46 => ⟨S32, .f32⟩
  | 47 => ⟨S128x4x3072, .f32⟩
  | 48 => ⟨S128x1x3072, .f32⟩
  | 49 => ⟨S1x3072, .f32⟩
  | 50 => ⟨S3072, .f32⟩
  | 51 => ⟨S1x1x3072, .f32⟩
  | 52 => ⟨S128x1x3072, .f32⟩
  | 53 => ⟨S128x1x3072, .f32⟩
  | 54 => ⟨S_, .f32⟩
  | 55 => ⟨S128x1x3072, .f32⟩
  | 56 => ⟨S128x1x3072, .f32⟩
  | 57 => ⟨S128x1x3072, .f32⟩
  | 58 => ⟨S1x3072, .f32⟩
  | 59 => ⟨S3072, .f32⟩
  | 60 => ⟨S1x1x3072, .f32⟩
  | 61 => ⟨S128x1x3072, .f32⟩
  | 62 => ⟨S128x1x3072, .f32⟩
  | 63 => ⟨S128x1x3072, .f32⟩
  | 64 => ⟨S128x1x3072, .f32⟩
  | 65 => ⟨S1x3072, .f32⟩
  | 66 => ⟨S3072, .f32⟩
  | 67 => ⟨S1x1x3072, .f32⟩
  | 68 => ⟨S128x1x3072, .f32⟩
  | 69 => ⟨S128x1x3072, .f32⟩
  | 70 => ⟨S128x1x3072, .f32⟩
  | 71 => ⟨S128x1x3072, .f32⟩
  | 72 => ⟨S1x3072, .f32⟩
  | 73 => ⟨S3072, .f32⟩
  | 74 => ⟨S1x1x3072, .f32⟩
  | 75 => ⟨S128x1x3072, .f32⟩
  | 76 => ⟨S128x1x3072, .f32⟩
  | 77 => ⟨S128x1x3072, .f32⟩
  | 78 => ⟨S1x1x3072, .f32⟩
  | 79 => ⟨S128x1x3072, .f32⟩
  | 80 => ⟨S128x1x3072, .f32⟩
  | 81 => ⟨S128x1x3072, .f32⟩
  | 82 => ⟨S128x1x3072, .f32⟩
  | 83 => ⟨S_, .f32⟩
  | 84 => ⟨S128x1x3072, .f32⟩
  | 85 => ⟨S128x1x3072, .f32⟩
  | 86 => ⟨S_, .f32⟩
  | 87 => ⟨S128x1x3072, .f32⟩
  | 88 => ⟨S128x1x3072, .f32⟩
  | 89 => ⟨S128x1x3072, .f32⟩
  | 90 => ⟨S128x1x2048, .f32⟩
  | 91 => ⟨S128x1x512, .f32⟩
  | 92 => ⟨S128x1x512, .f32⟩
  | 93 => ⟨S128x1x32x64, .f32⟩
  | 94 => ⟨S128x1x4x128, .f32⟩
  | 95 => ⟨S128x1x4x128, .f32⟩
  | 96 => ⟨S1x1x32, .f32⟩
  | 97 => ⟨S128x1x32, .f32⟩
  | 98 => ⟨S128x1x32, .f32⟩
  | 99 => ⟨S_, .f32⟩
  | 100 => ⟨S128x1x32, .f32⟩
  | 101 => ⟨S128x1x32, .f32⟩
  | 102 => ⟨S128x1x32, .f32⟩
  | 103 => ⟨S128x1x32, .f32⟩
  | 104 => ⟨S128x1x32, .i1⟩
  | 105 => ⟨S128x1x32, .f32⟩
  | 106 => ⟨S128x1x32, .f32⟩
  | 107 => ⟨S128x1x32, .f32⟩
  | 108 => ⟨S128x1x32, .f32⟩
  | 109 => ⟨S128x1x32, .f32⟩
  | 110 => ⟨S128x1x32, .f32⟩
  | 111 => ⟨S128x1x32, .f32⟩
  | 112 => ⟨S128x1x32, .f32⟩
  | 113 => ⟨S128x32x64, .f32⟩
  | 114 => ⟨S128x32, .f32⟩
  | 115 => ⟨S128x4x128, .f32⟩
  | 116 => ⟨S128x4x128, .f32⟩
  | 117 => ⟨S128x4x8x128, .f32⟩
  | 118 => ⟨S128x32x128, .f32⟩
  | 119 => ⟨S128x4x8x128, .f32⟩
  | 120 => ⟨S128x32x128, .f32⟩
  | 121 => ⟨S1x32, .f32⟩
  | 122 => ⟨S128x32, .f32⟩
  | 123 => ⟨S128x32, .f32⟩
  | 124 => ⟨S128x32, .f32⟩
  | 125 => ⟨S128x32x1x1, .f32⟩
  | 126 => ⟨S128x32x64x128, .f32⟩
  | 127 => ⟨S128x32x64x128, .f32⟩
  | _ => ⟨S128x1x1024, .f32⟩

abbrev hbmTy0_1 (i : Nat) : BufTy := match i % 128 with
  | 0 => ⟨S128x32x1, .f32⟩
  | 1 => ⟨S128x32x64, .f32⟩
  | 2 => ⟨S128x32x64, .f32⟩
  | 3 => ⟨S128x32x64x1, .f32⟩
  | 4 => ⟨S128x32x1x128, .f32⟩
  | 5 => ⟨S128x32x64x128, .f32⟩
  | 6 => ⟨S128x32x64x128, .f32⟩
  | 7 => ⟨S128x32x64x128, .f32⟩
  | 8 => ⟨S128x32x64x128, .f32⟩
  | 9 => ⟨S128x32x64, .f32⟩
  | 10 => ⟨S128x1x32x64, .f32⟩
  | 11 => ⟨S32x1, .f32⟩
  | 12 => ⟨S1x1x32x1, .f32⟩
  | 13 => ⟨S128x1x32x64, .f32⟩
  | 14 => ⟨S128x1x32x64, .f32⟩
  | 15 => ⟨S128x1x32x64, .f32⟩
  | 16 => ⟨S128x1x2048, .f32⟩
  | 17 => ⟨S128x1x2048, .f32⟩
  | 18 => ⟨S128x1x2048, .f32⟩
  | 19 => ⟨S_, .f32⟩
  | 20 => ⟨S128x1x2048, .f32⟩
  | 21 => ⟨S128x1x2048, .f32⟩
  | 22 => ⟨S_, .f32⟩
  | 23 => ⟨S128x1x2048, .f32⟩
  | 24 => ⟨S128x1x2048, .f32⟩
  | 25 => ⟨S128x1x2048, .f32⟩
  | 26 => ⟨S128x1x2048, .f32⟩
  | 27 => ⟨S128x1x4x512, .f32⟩
  | 28 => ⟨S128x1x4x512, .f32⟩
  | 29 => ⟨S_, .f32⟩
  | 30 => ⟨S128x1x4, .f32⟩
  | 31 => ⟨S128x1x4x1, .f32⟩
  | 32 => ⟨S_, .f32⟩
  | 33 => ⟨S128x1x4x1, .f32⟩
  | 34 => ⟨S128x1x4x1, .f32⟩
  | 35 => ⟨S_, .f32⟩
  | 36 => ⟨S128x1x4x1, .f32⟩
  | 37 => ⟨S128x1x4x1, .f32⟩
  | 38 => ⟨S128x1x4x1, .f32⟩
  | 39 => ⟨S128x1x4x512, .f32⟩
  | 40 => ⟨S128x1x4x512, .f32⟩
  | 41 => ⟨S128x1x2048, .f32⟩
  | 42 => ⟨S1x1x2048, .f32⟩
  | 43 => ⟨S128x1x2048, .f32⟩
  | 44 => ⟨S128x1x2048, .f32⟩
  | 45 => ⟨S128x2048x128, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call2_v0 : Ref sig .tc := ⟨.hbm, 145, rfl⟩
abbrev main_call2_v1 : Ref sig .tc := ⟨.hbm, 146, rfl⟩
abbrev main_call2_cst : Ref sig .tc := ⟨.hbm, 147, rfl⟩
abbrev main_call2_v2 : Ref sig .tc := ⟨.hbm, 148, rfl⟩
abbrev main_call2_v3 : Ref sig .tc := ⟨.hbm, 149, rfl⟩
abbrev main_call2_cst_0 : Ref sig .tc := ⟨.hbm, 150, rfl⟩
abbrev main_call2_v4 : Ref sig .tc := ⟨.hbm, 151, rfl⟩
abbrev main_call2_v5 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_3 : Ref sig .tc := ⟨.hbm, 157, rfl⟩
abbrev main_v113 : Ref sig .tc := ⟨.hbm, 158, rfl⟩
abbrev main_v114 : Ref sig .tc := ⟨.hbm, 159, rfl⟩
abbrev main_cst_4 : Ref sig .tc := ⟨.hbm, 160, rfl⟩
abbrev main_v115 : Ref sig .tc := ⟨.hbm, 161, rfl⟩
abbrev main_v116 : Ref sig .tc := ⟨.hbm, 162, rfl⟩
abbrev main_cst_5 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩

abbrev nD : Nat := 1
abbrev τ : Topo := Topo.v7x

variable {F : FTy → Type} [FloatOps F]
-- ==== Proof.Merge.lean ====
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Kernel2Ideal.Merge

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- The block every window stages at a grid point: the row windows their own block of rows, the weights the whole array. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- The residual stream after the merge of the two branches, of every launch array it depends on. -/
abbrev merged (c : Dev nD) := val_main_v22 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-- The body's merged block at grid point `t`. -/
abbrev kmerged (c : Dev nD) (t : Fin cfg0.N) : FVec Ideal S256x1024 .f32 :=
  k0_pay2 (View.ld (iblk m c 3 t) r0_0) (View.ld (iblk m c 3 t) r0_1) (iblk m c 1 t) (iblk m c 4 t) (iblk m c 2 t)
    (iblk m c 5 t) (iblk m c 0 t) (iblk m c 6 t)

/-- Row `r` of block `t` is row `256 t + r` of the array. -/
abbrev row (t : Fin cfg0.N) (r : Fin 256) : Fin 16640 := ⟨t.val * 256 + r.val, by have := t.isLt; have h : cfg0.N = 65 := rfl; omega⟩

/-- The body's merged block is its rows of the reference's merged residual stream. -/
theorem kmerged_eq (c : Dev nD) (t : Fin cfg0.N) (r : Fin 256) (k : Fin 1024) :
    kmerged m c t (ix2 r k) = merged m c (ix2 (row t r) k) := by
  pointwise [k0_pay2, val_main_v22, val_main_v21, val_main_v20, val_main_v19, val_main_v18, val_main_v17, val_main_v16, val_main_v15, val_main_cst_2, val_main_v14, val_main_v13, val_main_cst_1, val_main_v12, val_main_v11, val_main_v10, val_main_v9, val_main_v8, val_main_v7, val_main_v6, val_main_cst_0, val_main_v5, val_main_v4, val_main_cst, val_main_v3, val_main_v2, val_main_v1, val_main_v0]
  unfold Ideal.logistic
  blk_point [iblk, V, idx t]

/-- The normalised residual stream, of every launch array it depends on. -/
abbrev normed (c : Dev nD) := val_main_v35 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

/-- The body's normalised block at grid point `t`. -/
abbrev knormed (c : Dev nD) (t : Fin cfg0.N) : FVec Ideal S256x1024 .f32 :=
  k0_pay3 (View.ld (iblk m c 3 t) r0_0) (View.ld (iblk m c 3 t) r0_1) (iblk m c 1 t) (iblk m c 4 t) (iblk m c 2 t)
    (iblk m c 5 t) (iblk m c 0 t) (iblk m c 6 t) (iblk m c 7 t)

/-- The body's normalised block is its rows of the reference's normalised residual stream. -/
theorem knormed_eq (c : Dev nD) (t : Fin cfg0.N) (r : Fin 256) (k : Fin 1024) :
    knormed m c t (ix2 r k) = normed m c (ix2 (row t r) k) := by
  have e := kmerged_eq m c t
  unfold kmerged merged at e
  pointwise [k0_pay3, val_main_v35, val_main_v34, val_main_v33, val_main_v32, val_main_v31, val_main_v30, val_main_v29, val_main_v28, val_main_v27, val_main_v26, val_main_v25, val_main_v24, val_main_v23, val_main_cst_3, val_main_cst_4, val_main_cst_5]
  simp only [e]
  blk_point [iblk, V, idx t]

/-- The reference's result: the residual stream after the feed-forward part, normalised. -/
abbrev result (c : Dev nD) := val_main_v54 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10)) (m ((c : Thread nD τ).loc main_arg11))

/-- What the body stores at grid point `t` is its rows of the reference's result. -/
theorem point (c : Dev nD) (t : Fin cfg0.N) (r : Fin 256) (k : Fin 1024) :
    k0_pay1 (kmerged m c t) (knormed m c t) (iblk m c 8 t) (iblk m c 9 t) (iblk m c 10 t) (iblk m c 11 t) (ix2 r k)
      = result m c (ix2 (row t r) k) := by
  have e := kmerged_eq m c t
  have e' := knormed_eq m c t
  generalize kmerged m c t = A at e ⊢
  generalize knormed m c t = B at e' ⊢
  unfold merged at e
  unfold normed at e'
  pointwise [k0_pay1, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_call0_v5, val_main_call0_v4, val_main_call0_v3, val_main_call0_v2, val_main_call0_v1, val_main_call0_v0, val_main_call0_cst, val_main_call0_cst_0, val_main_cst_6, val_main_cst_7, val_main_cst_8]
  unfold Ideal.logistic
  simp only [e, e']
  blk_point [iblk, V, idx t]

/-- THE RESULT: the kernel's array, assembled from its 65 blocks of rows, is the reference's. -/
theorem final (c : Dev nD) : (dats m 0 c).arrAt 12 (cfgs 0).N = result m c := by
  refine (dats m 0 c).arrAt_eq_of_covers 12 _ (by decide +kernel) fun t _ y => ?_
  blk_simp
  rw [after0_12]; frame_out
  obtain ⟨r, k, rfl⟩ : ∃ (r : Fin 256) (k : Fin 1024), y = ix2 r k := ⟨y 0, y 1, eq_ix2 y⟩
  refine (point m c t r k).trans (congrArg _ ?_)
  blk_ext [idx t]

end Cert.Kernel2Ideal.Merge

end
-- ==== Proof.Rms.lean ====
module

public import Idealize.ShloMosaic.Lib.Pipeline.ValueKit

@[expose] public section

noncomputable section

namespace Cert.Rms

open Idealize.ShloMosaic

/-- Lane `k` of the row `x`, divided by the root of the row's mean square (plus the small constant) and scaled by the gain `g`. -/
def nrm (x g : Fin 1024 → EReal) (k : Fin 1024) : EReal :=
  x k * Ideal.rsqrt (Ideal.div (∑ j, x j * x j) (Ideal.ofBits .f32 1149239296#32) + Ideal.ofBits .f32 897988541#32) * g k

/-- One entry of the projection of a normalised row: its product with one column `w` of the weights. -/
def proj (x g w : Fin 1024 → EReal) : EReal := ∑ k, nrm x g k * w k

end Cert.Rms

end
-- ==== Proof.PromptGates.lean ====
module

public import proofs.«01_k».proof.Proof.Gen.Kernel7Ideal.Frame
public import proofs.«01_k».proof.Proof.Gen.Reference7Ideal.Read
public import proofs.«01_k».proof.Proof.Rms
public import Idealize.ShloMosaic.Lib.Pipeline.ValueKit
public import Idealize.ShloMosaic.Lib.Pipeline.ReadBack

/-!
The merge gates of the prompt: each row is normalised and multiplied with its columns of the weights; the call's result, cut to the prompt's rows, is the reference's.

The padded rows are walked 640 at a time and the columns 1024 at a time, the columns inside. The first column tile of a row tile normalises the rows and keeps them for the others.
-/

@[expose] public section

set_option maxRecDepth 16384

noncomputable section

namespace Cert.Kernel7Ideal.Proj

open Cert.Kernel7Ideal Cert.Kernel7Ideal.Gen Idealize.ShloMosaic Idealize.ShloMosaic.TcCoe Idealize.SL.Sem
open Idealize.ShloMosaic.Pipeline (Dat)
open Cert.Reference7Ideal.Read Cert.Rms

variable (m : (ℓ : Loc nD τ sig) → Buf (Elt Ideal) ℓ)

/-- Which block each window holds at grid point `t`: the rows' and the result's move with the row tile, the weights' and the result's with the column tile. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

/-- What the body keeps in its scratch: the block's rows, normalised. -/
theorem pay1_at (x : Vec Ideal S640x1024 .f32) (g : Vec Ideal S1x1024 .f32) (r : Fin 640) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S640x1024 .bf16) (w : Vec Ideal S1024x1024 .bf16) (r : Fin 640) (k : Fin 1024) :
    k0_pay2 h w (ix2 r k) = ∑ j : Fin 1024, h (ix2 r j) * w (ix2 j k) := by
  pointwise [k0_pay2]

/-- Row `r` of the rows the call is handed. -/
abbrev X (c : Dev nD) (r : Fin 16640) (k : Fin 1024) : EReal := V (F := Ideal) m c main_v5 (ix2 r k)

/-- The gain the call is handed. -/
abbrev G (c : Dev nD) (k : Fin 1024) : EReal := V (F := Ideal) m c main_v7 (ix2 0 k)

/-- Column `n` of the weights the call is handed. -/
abbrev W (c : Dev nD) (n : Fin 2048) (k : Fin 1024) : EReal := V (F := Ideal) m c main_v2 (ix2 k n)

/-- The row of the whole array that is row `r` of the tile met at grid point `n`. -/
abbrev row (n : ℕ) (hn : n < cfg0.N) (r : Fin 640) : Fin 16640 := ⟨n / 2 * 640 + r.val, by have h : cfg0.N = 52 := rfl; omega⟩

/-- Where the body normalises, it normalises the rows of its own tile. -/
theorem fresh (c : Dev nD) (t : Fin cfg0.N) (r : Fin 640) (k : Fin 1024) :
    k0_pay1 (iblk m c 0 t) (iblk m c 1 t) (ix2 r k) = nrm (X m c (row t.val t.isLt r)) (G m c) k := by
  refine (pay1_at _ _ r k).trans ?_
  have hx : (fun j : Fin 1024 => (iblk m c 0 t) (ix2 r j)) = X m c (row t.val t.isLt r) := by
    funext j
    blk_point [iblk, idx t]
  have hg : (fun j : Fin 1024 => (iblk m c 1 t) (ix2 0 j)) = G m c := by
    funext j
    blk_point [iblk, idx t]
  exact congrArg₂ (fun a b => nrm a b k) hx hg

/-- The block of the weights at grid point `t` is column tile `t % 2`. -/
theorem wblk (c : Dev nD) (t : Fin cfg0.N) (j : Fin 1024) (k : Fin 1024) (n : Fin 2048) (h : n.val = t.val % 2 * 1024 + k.val) :
    (iblk m c 2 t) (ix2 j k) = W m c n j := by
  blk_point [iblk, idx t]

/-- Past the first column tile the scratch is what the point before left. -/
theorem keep (c : Dev nD) (t : Fin cfg0.N) (h : ¬ t.val % 2 = 0) :
    (outsAt0 m c t.val t.isLt).2 = (outsAt0 m c (t.val - 1) (Nat.lt_of_le_of_lt (Nat.sub_le _ _) t.isLt)).2 := by
  rw [outsAt0_B m c t h, sout0_B_0]

/-- After every grid point the scratch holds the normalised rows of the point's row tile. -/
theorem scr (c : Dev nD) : ∀ (n : ℕ) (hn : n < cfg0.N) (r : Fin 640) (k : Fin 1024),
    (outsAt0 m c n hn).2 (ix2 r k) = nrm (X m c (row n hn r)) (G m c) k := by
  intro n
  induction n with
  | zero =>
    intro hn r k
    rw [outsAt0_A m c ⟨0, hn⟩ rfl]; frame_out
    exact fresh m c ⟨0, hn⟩ r k
  | succ n ih =>
    intro hn r k
    by_cases h : (n + 1) % 2 = 0
    · rw [outsAt0_A m c ⟨n + 1, hn⟩ h]; frame_out
      exact fresh m c ⟨n + 1, hn⟩ r k
    · have hr : row n (Nat.lt_of_succ_lt hn) r = row (n + 1) hn r := Fin.ext (by show n / 2 * 640 + r.val = (n + 1) / 2 * 640 + r.val; omega)
      rw [← hr]
      exact (congrFun (keep m c ⟨n + 1, hn⟩ h) _).trans (ih _ r k)

/-- The block stored at grid point `t`: each entry the projection of its row on its column. -/
theorem out_at (c : Dev nD) (t : Fin cfg0.N) (r : Fin 640) (k : Fin 1024) (n : Fin 2048) (h : n.val = t.val % 2 * 1024 + k.val) :
    (outsAt0 m c t.val t.isLt).1 (ix2 r k) = proj (X m c (row t.val t.isLt r)) (G m c) (W m c n) := by
  by_cases h0 : t.val % 2 = 0
  · rw [outsAt0_A m c t h0]; frame_out
    refine (pay2_at _ _ r k).trans (Finset.sum_congr rfl fun j _ => ?_)
    exact congrArg₂ (· * ·) (fresh m c t r j) (wblk m c t j k n h)
  · have e := scr m c t.val t.isLt
    rw [keep m c t h0] at e
    rw [outsAt0_B m c t h0]; frame_out
    rw [read_unread_whole]
    refine (pay2_at _ _ r k).trans (Finset.sum_congr rfl fun j _ => ?_)
    exact congrArg₂ (· * ·) (e r j) (wblk m c t j k n h)

/-- The array of the projections of all rows on all columns. -/
def arr (c : Dev nD) : S16640x2048.Idx → EReal := fun i => proj (X m c (i 0)) (G m c) (W m c (i 1))

/-- After the last grid point the result array holds them. -/
theorem final (c : Dev nD) : (dats m 0 c).arrAt 3 (cfgs 0).N = arr m c := by
  refine (dats m 0 c).arrAt_eq_of_covers 3 _ (by decide +kernel) fun t _ y => ?_
  blk_simp
  rw [after0_3]
  obtain ⟨r, k, rfl⟩ : ∃ (r : Fin 640) (k : Fin 1024), y = ix2 r k := ⟨y 0, y 1, eq_ix2 y⟩
  have ht : t.val % 2 < 2 := Nat.mod_lt _ (by decide)
  refine (out_at m c t r k ⟨t.val % 2 * 1024 + k.val, by omega⟩ rfl).trans ?_
  refine Eq.trans (b := arr m c (ix2 (row t.val t.isLt r) ⟨t.val % 2 * 1024 + k.val, by omega⟩)) rfl (congrArg _ ?_)
  blk_ext [idx t]

variable (x0 : Vec Ideal S1x16384x1024 .f32) (x1 : Vec Ideal S16x1024 .f32) (x2 : Vec Ideal S1x1024 .f32) (x3 : Vec Ideal S1x1024x10856 .f32)

/-- Row `r` of the prompt with the meta rows in front. -/
def rowOf (r : Fin 16400) (k : Fin 1024) : EReal :=
  if h : r.val < 16 then x1 (ix2 ⟨r.val, h⟩ k) else x0 (ix3 0 ⟨r.val - 16, by have := r.isLt; omega⟩ k)

/-- The reference's product at row `r` and column `q`. -/
theorem ref_at (r : Fin 16400) (q : Fin 10856) :
    val_main_v17 (F := Ideal) x0 x1 x2 x3 (ix2 r q) = proj (rowOf x0 x1 r) (fun k => x2 (ix2 0 k)) (fun k => x3 (ix3 0 k q)) := by
  have e : ∀ k, val_main_v16 (F := Ideal) x0 x1 x2 (ix2 r k) = nrm (rowOf x0 x1 r) (fun k => x2 (ix2 0 k)) k := by
    intro k
    unfold nrm rowOf
    pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e3 : ∀ k (q : Fin 10856), val_main_v3 (F := Ideal) x3 (ix2 k q) = x3 (ix3 0 k q) := by
    intro k q
    pointwise [val_main_v3]
  unfold proj
  simp only [← e]
  pointwise [val_main_v17]
  simp only [e3]

/-- What the lines before the call leave in a buffer. -/
theorem V_eq (c : Dev nD) (b : Ref sig .tc) :
    V (F := Ideal) m c b = StableHlo.after (hostOps0 (F := Ideal)) (fun b => m (c, b)) (Proc.tc.devRef b) := rfl

/-- The call's rows are the meta rows, the prompt and the padding, one after the other. -/
theorem V_pad (c : Dev nD) : (V (F := Ideal) m c main_v5 : S16640x1024.Idx → EReal)
    = concatenate S16640x1024 0 [⟨S16x1024, (V (F := Ideal) m c main_arg1 : Vec Ideal S16x1024 .f32)⟩, ⟨S16384x1024, (V (F := Ideal) m c main_v3 : Vec Ideal S16384x1024 .f32)⟩,
      ⟨S240x1024, (V (F := Ideal) m c main_v4 : Vec Ideal S240x1024 .f32)⟩] concatenates_S16x1024_S16384x1024_S240x1024_S16640x1024_d0 := by
  rfl

/-- The prompt without its leading axis. -/
theorem V_rows (c : Dev nD) (r : Fin 16384) (k : Fin 1024) :
    (V (F := Ideal) m c main_v3 : Vec Ideal S16384x1024 .f32) (ix2 r k) = (m ((c : Thread nD τ).loc main_arg0) : Vec Ideal S1x16384x1024 .f32) (ix3 0 r k) := by
  rw [V_eq]
  after_results
  pointwise

/-- The meta rows are the argument's. -/
theorem V_meta (c : Dev nD) : V (F := Ideal) m c main_arg1 = m ((c : Thread nD τ).loc main_arg1) := by
  rw [V_eq]
  after_results

/-- A row of the call that is not padding is the prompt's. -/
theorem X_at (c : Dev nD) (r : Fin 16640) (h : r.val < 16400) (k : Fin 1024) :
    X m c r k = rowOf (m ((c : Thread nD τ).loc main_arg0)) (m ((c : Thread nD τ).loc main_arg1)) ⟨r.val, h⟩ k := by
  refine (congrFun (V_pad m c) (ix2 r k)).trans ?_
  unfold rowOf
  pointwise
  by_cases h1 : r.val < 16
  · rw [dif_pos h1, dif_pos h1, V_meta]
  · have h2 : r.val - 16 < 16384 := by omega
    rw [dif_neg h1, dif_pos h2, dif_neg h1]
    exact V_rows m c _ k

/-- The call's gain is the argument's. -/
theorem G_at (c : Dev nD) (k : Fin 1024) : G m c k = (m ((c : Thread nD τ).loc main_arg2) : Vec Ideal S1x1024 .f32) (ix2 0 k) := by
  show V (F := Ideal) m c main_v7 (ix2 0 k) = _
  rw [V_eq]
  after_results
  pointwise

/-- The call's columns are those of the argument's weights that begin at 8808. -/
theorem W_at (c : Dev nD) (n : Fin 2048) (q : Fin 10856) (h : q.val = 8808 + n.val) (k : Fin 1024) :
    W m c n k = (m ((c : Thread nD τ).loc main_arg3) : Vec Ideal S1x1024x10856 .f32) (ix3 0 k q) := by
  obtain ⟨q, hq⟩ := q
  subst h
  show V (F := Ideal) m c main_v2 (ix2 k n) = _
  rw [V_eq]
  after_results
  pointwise

/-- An entry of the call's result in a row and a column that the arguments have is the reference's product there. -/
theorem arr_at (c : Dev nD) (r : Fin 16640) (n : Fin 2048) (r' : Fin 16400) (q : Fin 10856) (hr : r.val = r'.val) (h : q.val = 8808 + n.val) :
    arr m c (ix2 r n) = val_main_v17 (F := Ideal) (m ((c : Thread nD τ).loc main_arg0)) (m ((c : Thread nD τ).loc main_arg1)) (m ((c : Thread nD τ).loc main_arg2)) (m ((c : Thread nD τ).loc main_arg3)) (ix2 r' q) := by
  have h' : r.val < 16400 := hr ▸ r'.isLt
  have er : r' = ⟨r.val, h'⟩ := Fin.ext hr.symm
  subst er
  refine Eq.trans ?_ (ref_at _ _ _ _ ⟨r.val, h'⟩ q).symm
  have e1 : X m c r = _ := funext fun k => X_at m c r h' k
  have e2 : G m c = _ := funext fun k => G_at m c k
  have e3 : W m c n = _ := funext fun k => W_at m c n q h k
  show proj (X m c r) (G m c) (W m c n) = _
  rw [e1, e2, e3]

/-- What the lines after the call find in its result's buffer. -/
theorem found (c : Dev nD) : Pipeline.withArrays (cfgs 0).spec c (V0 m c) (fun w => (dats m 0 c).arrAt w (cfgs 0).N) (Proc.tc.devRef main_v8) = arr m c :=
  (Pipeline.withArrays_arr (cfgs 0).spec launch0.win.arr_inj c (V0 m c) (fun w => (dats m 0 c).arrAt w (cfgs 0).N) 3).trans (final m c)

/-- The reference's result 0 of this memory's arguments. -/
abbrev result0 (c : Dev nD) := val_main_v18 (F := Ideal) (m ((c : Thread nD τ).loc main_arg0)) (m ((c : Thread nD τ).loc main_arg1)) (m ((c : Thread nD τ).loc main_arg2)) (m ((c : Thread nD τ).loc main_arg3))

/-- The slice taken after the call is the reference's result 0. -/
theorem tail0 (c : Dev nD) : Pipeline.afterTail₀ cfgs (dats m) 0 (V0 m) [hostOps1] c main_v9 = result0 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 2048), i = ix2 r n := ⟨i 0, i 1, eq_ix2 i⟩
  refine Eq.trans (b := arr m c (ix2 ⟨r.val, by omega⟩ ⟨n.val, by omega⟩)) (by pointwise) ?_
  refine (arr_at m c _ _ ⟨r.val, by omega⟩ ⟨8808 + n.val, by omega⟩ rfl rfl).trans ?_
  pointwise [val_main_v18]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v9) = result0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).2 main_v9 (Pipeline.mem_restRefs_of main_v9 (by decide) (by decide))).trans (tail0 m c), h.2 c⟩

end Cert.Kernel7Ideal.Proj

end
-- ==== Proof.PromptIdx.lean ====
module

public import proofs.«01_k».proof.Proof.Gen.Kernel5Ideal.Frame
public import proofs.«01_k».proof.Proof.Gen.Reference5Ideal.Read
public import proofs.«01_k».proof.Proof.Rms
public import Idealize.ShloMosaic.Lib.Pipeline.ValueKit
public import Idealize.ShloMosaic.Lib.Pipeline.ReadBack

/-!
The indexer columns and step sizes of the prompt: each row is normalised and multiplied with its columns of the weights; the call's result, cut to the prompt's rows, is the reference's.

The padded rows are walked 640 at a time. Every grid point normalises its rows and multiplies them.
-/

@[expose] public section

set_option maxRecDepth 16384

noncomputable section

namespace Cert.Kernel5Ideal.Proj

open Cert.Kernel5Ideal Cert.Kernel5Ideal.Gen Idealize.ShloMosaic Idealize.ShloMosaic.TcCoe Idealize.SL.Sem
open Idealize.ShloMosaic.Pipeline (Dat)
open Cert.Reference5Ideal.Read Cert.Rms

variable (m : (ℓ : Loc nD τ sig) → Buf (Elt Ideal) ℓ)

/-- Which block each window holds at grid point `t`: the rows' and the result's move with the row tile, the weights' and the result's with the column tile. -/
theorem idx : ∀ t : Fin cfg0.N, win0_0.index t = ![t.val / 1, 0] ∧ win0_1.index t = ![0, 0] ∧ win0_2.index t = ![0, t.val % 1]
    ∧ win0_3.index t = ![t.val / 1, t.val % 1] :=
  (by decide +kernel : ∀ t : Fin grid0.N, _)

/-- What the body keeps in its scratch: the block's rows, normalised. -/
theorem pay1_at (x : Vec Ideal S640x1024 .f32) (g : Vec Ideal S1x1024 .f32) (r : Fin 640) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S640x1024 .f32) (w : Vec Ideal S1024x768 .f32) (r : Fin 640) (k : Fin 768) :
    k0_pay2 h w (ix2 r k) = ∑ j : Fin 1024, h (ix2 r j) * w (ix2 j k) := by
  pointwise [k0_pay2]

/-- Row `r` of the rows the call is handed. -/
abbrev X (c : Dev nD) (r : Fin 16640) (k : Fin 1024) : EReal := V (F := Ideal) m c main_v2 (ix2 r k)

/-- The gain the call is handed. -/
abbrev G (c : Dev nD) (k : Fin 1024) : EReal := V (F := Ideal) m c main_v11 (ix2 0 k)

/-- Column `n` of the weights the call is handed. -/
abbrev W (c : Dev nD) (n : Fin 768) (k : Fin 1024) : EReal := V (F := Ideal) m c main_v10 (ix2 k n)

/-- The row of the whole array that is row `r` of the tile met at grid point `n`. -/
abbrev row (n : ℕ) (hn : n < cfg0.N) (r : Fin 640) : Fin 16640 := ⟨n / 1 * 640 + r.val, by have h : cfg0.N = 26 := rfl; omega⟩

/-- Where the body normalises, it normalises the rows of its own tile. -/
theorem fresh (c : Dev nD) (t : Fin cfg0.N) (r : Fin 640) (k : Fin 1024) :
    k0_pay1 (iblk m c 0 t) (iblk m c 1 t) (ix2 r k) = nrm (X m c (row t.val t.isLt r)) (G m c) k := by
  refine (pay1_at _ _ r k).trans ?_
  have hx : (fun j : Fin 1024 => (iblk m c 0 t) (ix2 r j)) = X m c (row t.val t.isLt r) := by
    funext j
    blk_point [iblk, idx t]
  have hg : (fun j : Fin 1024 => (iblk m c 1 t) (ix2 0 j)) = G m c := by
    funext j
    blk_point [iblk, idx t]
  exact congrArg₂ (fun a b => nrm a b k) hx hg

/-- The block of the weights at grid point `t` is column tile `t % 1`. -/
theorem wblk (c : Dev nD) (t : Fin cfg0.N) (j : Fin 1024) (k : Fin 768) (n : Fin 768) (h : n.val = t.val % 1 * 768 + k.val) :
    (iblk m c 2 t) (ix2 j k) = W m c n j := by
  blk_point [iblk, idx t]

/-- The block stored at grid point `t`: each entry the projection of its row on its column. -/
theorem out_at (c : Dev nD) (t : Fin cfg0.N) (r : Fin 640) (k : Fin 768) (n : Fin 768) (h : n.val = t.val % 1 * 768 + k.val) :
    outsAt0 m c t (ix2 r k) = proj (X m c (row t.val t.isLt r)) (G m c) (W m c n) := by
  unfold outsAt0; frame_out
  refine (pay2_at _ _ r k).trans (Finset.sum_congr rfl fun j _ => ?_)
  exact congrArg₂ (· * ·) (fresh m c t r j) (wblk m c t j k n h)

/-- The array of the projections of all rows on all columns. -/
def arr (c : Dev nD) : S16640x768.Idx → EReal := fun i => proj (X m c (i 0)) (G m c) (W m c (i 1))

/-- After the last grid point the result array holds them. -/
theorem final (c : Dev nD) : (dats m 0 c).arrAt 3 (cfgs 0).N = arr m c := by
  refine (dats m 0 c).arrAt_eq_of_covers 3 _ (by decide +kernel) fun t _ y => ?_
  blk_simp
  rw [after0_3]
  obtain ⟨r, k, rfl⟩ : ∃ (r : Fin 640) (k : Fin 768), y = ix2 r k := ⟨y 0, y 1, eq_ix2 y⟩
  have ht : t.val % 1 < 1 := Nat.mod_lt _ (by decide)
  refine (out_at m c t r k ⟨t.val % 1 * 768 + k.val, by omega⟩ rfl).trans ?_
  refine Eq.trans (b := arr m c (ix2 (row t.val t.isLt r) ⟨t.val % 1 * 768 + k.val, by omega⟩)) rfl (congrArg _ ?_)
  blk_ext [idx t]

variable (x0 : Vec Ideal S1x16384x1024 .f32) (x1 : Vec Ideal S16x1024 .f32) (x2 : Vec Ideal S1x1024 .f32) (x3 : Vec Ideal S1x1024x10856 .f32)

/-- Row `r` of the prompt with the meta rows in front. -/
def rowOf (r : Fin 16400) (k : Fin 1024) : EReal :=
  if h : r.val < 16 then x1 (ix2 ⟨r.val, h⟩ k) else x0 (ix3 0 ⟨r.val - 16, by have := r.isLt; omega⟩ k)

/-- The reference's product at row `r` and column `q`. -/
theorem ref_at (r : Fin 16400) (q : Fin 10856) :
    val_main_v17 (F := Ideal) x0 x1 x2 x3 (ix2 r q) = proj (rowOf x0 x1 r) (fun k => x2 (ix2 0 k)) (fun k => x3 (ix3 0 k q)) := by
  have e : ∀ k, val_main_v16 (F := Ideal) x0 x1 x2 (ix2 r k) = nrm (rowOf x0 x1 r) (fun k => x2 (ix2 0 k)) k := by
    intro k
    unfold nrm rowOf
    pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e3 : ∀ k (q : Fin 10856), val_main_v3 (F := Ideal) x3 (ix2 k q) = x3 (ix3 0 k q) := by
    intro k q
    pointwise [val_main_v3]
  unfold proj
  simp only [← e]
  pointwise [val_main_v17]
  simp only [e3]

/-- What the lines before the call leave in a buffer. -/
theorem V_eq (c : Dev nD) (b : Ref sig .tc) :
    V (F := Ideal) m c b = StableHlo.after (hostOps0 (F := Ideal)) (fun b => m (c, b)) (Proc.tc.devRef b) := rfl

/-- The call's rows are the meta rows, the prompt and the padding, one after the other. -/
theorem V_pad (c : Dev nD) : (V (F := Ideal) m c main_v2 : S16640x1024.Idx → EReal)
    = concatenate S16640x1024 0 [⟨S16x1024, (V (F := Ideal) m c main_arg1 : Vec Ideal S16x1024 .f32)⟩, ⟨S16384x1024, (V (F := Ideal) m c main_v0 : Vec Ideal S16384x1024 .f32)⟩,
      ⟨S240x1024, (V (F := Ideal) m c main_v1 : Vec Ideal S240x1024 .f32)⟩] concatenates_S16x1024_S16384x1024_S240x1024_S16640x1024_d0 := by
  rfl

/-- The prompt without its leading axis. -/
theorem V_rows (c : Dev nD) (r : Fin 16384) (k : Fin 1024) :
    (V (F := Ideal) m c main_v0 : Vec Ideal S16384x1024 .f32) (ix2 r k) = (m ((c : Thread nD τ).loc main_arg0) : Vec Ideal S1x16384x1024 .f32) (ix3 0 r k) := by
  rw [V_eq]
  after_results
  pointwise

/-- The meta rows are the argument's. -/
theorem V_meta (c : Dev nD) : V (F := Ideal) m c main_arg1 = m ((c : Thread nD τ).loc main_arg1) := by
  rw [V_eq]
  after_results

/-- A row of the call that is not padding is the prompt's. -/
theorem X_at (c : Dev nD) (r : Fin 16640) (h : r.val < 16400) (k : Fin 1024) :
    X m c r k = rowOf (m ((c : Thread nD τ).loc main_arg0)) (m ((c : Thread nD τ).loc main_arg1)) ⟨r.val, h⟩ k := by
  refine (congrFun (V_pad m c) (ix2 r k)).trans ?_
  unfold rowOf
  pointwise
  by_cases h1 : r.val < 16
  · rw [dif_pos h1, dif_pos h1, V_meta]
  · have h2 : r.val - 16 < 16384 := by omega
    rw [dif_neg h1, dif_pos h2, dif_neg h1]
    exact V_rows m c _ k

/-- The call's gain is the argument's. -/
theorem G_at (c : Dev nD) (k : Fin 1024) : G m c k = (m ((c : Thread nD τ).loc main_arg2) : Vec Ideal S1x1024 .f32) (ix2 0 k) := by
  show V (F := Ideal) m c main_v11 (ix2 0 k) = _
  rw [V_eq]
  after_results
  pointwise

/-- The call's columns are the indexer's queries, its key and weights, zeros, the step sizes and zeros, one after the other. -/
theorem V_cols (c : Dev nD) : (V (F := Ideal) m c main_v10 : S1024x768.Idx → EReal)
    = concatenate S1024x768 1 [⟨S1024x512, (V (F := Ideal) m c main_v5 : Vec Ideal S1024x512 .f32)⟩, ⟨S1024x72, (V (F := Ideal) m c main_v6 : Vec Ideal S1024x72 .f32)⟩,
      ⟨S1024x56, (V (F := Ideal) m c main_v7 : Vec Ideal S1024x56 .f32)⟩, ⟨S1024x32, (V (F := Ideal) m c main_v8 : Vec Ideal S1024x32 .f32)⟩,
      ⟨S1024x96, (V (F := Ideal) m c main_v9 : Vec Ideal S1024x96 .f32)⟩] concatenates_S1024x512_S1024x72_S1024x56_S1024x32_S1024x96_S1024x768_d1 := by
  rfl

/-- The queries' columns. -/
theorem V_c0 (c : Dev nD) (n : Fin 512) (k : Fin 1024) : (V (F := Ideal) m c main_v5 : Vec Ideal S1024x512 .f32) (ix2 k n)
    = (m ((c : Thread nD τ).loc main_arg3) : Vec Ideal S1x1024x10856 .f32) (ix3 0 k ⟨3072 + n.val, by omega⟩) := by
  rw [V_eq]
  after_results
  pointwise

/-- The key's and the weights' columns. -/
theorem V_c1 (c : Dev nD) (n : Fin 72) (k : Fin 1024) : (V (F := Ideal) m c main_v6 : Vec Ideal S1024x72 .f32) (ix2 k n)
    = (m ((c : Thread nD τ).loc main_arg3) : Vec Ideal S1x1024x10856 .f32) (ix3 0 k ⟨3584 + n.val, by omega⟩) := by
  rw [V_eq]
  after_results
  pointwise

/-- The step sizes' columns. -/
theorem V_c3 (c : Dev nD) (n : Fin 32) (k : Fin 1024) : (V (F := Ideal) m c main_v8 : Vec Ideal S1024x32 .f32) (ix2 k n)
    = (m ((c : Thread nD τ).loc main_arg3) : Vec Ideal S1x1024x10856 .f32) (ix3 0 k ⟨8776 + n.val, by omega⟩) := by
  rw [V_eq]
  after_results
  pointwise

/-- A column of the call that is not zeros is one of the argument's weights. -/
theorem W_at (c : Dev nD) (n : Fin 768) (q : Fin 10856) (h : (n.val < 584 ∧ q.val = 3072 + n.val) ∨ (640 ≤ n.val ∧ n.val < 672 ∧ q.val = 8136 + n.val)) (k : Fin 1024) :
    W m c n k = (m ((c : Thread nD τ).loc main_arg3) : Vec Ideal S1x1024x10856 .f32) (ix3 0 k q) := by
  refine (congrFun (V_cols m c) (ix2 k n)).trans ?_
  pointwise
  by_cases h1 : n.val < 512
  · rw [dif_pos h1, V_c0]
    congr 2
    exact Fin.ext (by show 3072 + n.val = q.val; omega)
  · by_cases h2 : n.val - 512 < 72
    · rw [dif_neg h1, dif_pos h2, V_c1]
      congr 2
      exact Fin.ext (by show 3584 + (n.val - 512) = q.val; omega)
    · have h3 : ¬ n.val - 512 - 72 < 56 := by omega
      have h4 : n.val - 512 - 72 - 56 < 32 := by omega
      rw [dif_neg h1, dif_neg h2, dif_neg h3, dif_pos h4, V_c3]
      congr 2
      exact Fin.ext (by show 8776 + (n.val - 512 - 72 - 56) = q.val; omega)

/-- An entry of the call's result in a row and a column that the arguments have is the reference's product there. -/
theorem arr_at (c : Dev nD) (r : Fin 16640) (n : Fin 768) (r' : Fin 16400) (q : Fin 10856) (hr : r.val = r'.val) (h : (n.val < 584 ∧ q.val = 3072 + n.val) ∨ (640 ≤ n.val ∧ n.val < 672 ∧ q.val = 8136 + n.val)) :
    arr m c (ix2 r n) = val_main_v17 (F := Ideal) (m ((c : Thread nD τ).loc main_arg0)) (m ((c : Thread nD τ).loc main_arg1)) (m ((c : Thread nD τ).loc main_arg2)) (m ((c : Thread nD τ).loc main_arg3)) (ix2 r' q) := by
  have h' : r.val < 16400 := hr ▸ r'.isLt
  have er : r' = ⟨r.val, h'⟩ := Fin.ext hr.symm
  subst er
  refine Eq.trans ?_ (ref_at _ _ _ _ ⟨r.val, h'⟩ q).symm
  have e1 : X m c r = _ := funext fun k => X_at m c r h' k
  have e2 : G m c = _ := funext fun k => G_at m c k
  have e3 : W m c n = _ := funext fun k => W_at m c n q h k
  show proj (X m c r) (G m c) (W m c n) = _
  rw [e1, e2, e3]

/-- What the lines after the call find in its result's buffer. -/
theorem found (c : Dev nD) : Pipeline.withArrays (cfgs 0).spec c (V0 m c) (fun w => (dats m 0 c).arrAt w (cfgs 0).N) (Proc.tc.devRef main_v12) = arr m c :=
  (Pipeline.withArrays_arr (cfgs 0).spec launch0.win.arr_inj c (V0 m c) (fun w => (dats m 0 c).arrAt w (cfgs 0).N) 3).trans (final m c)

/-- The reference's result 0 of this memory's arguments. -/
abbrev result0 (c : Dev nD) := val_main_v18 (F := Ideal) (m ((c : Thread nD τ).loc main_arg0)) (m ((c : Thread nD τ).loc main_arg1)) (m ((c : Thread nD τ).loc main_arg2)) (m ((c : Thread nD τ).loc main_arg3))

/-- The slice taken after the call is the reference's result 0. -/
theorem tail0 (c : Dev nD) : Pipeline.afterTail₀ cfgs (dats m) 0 (V0 m) [hostOps1] c main_v13 = result0 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 512), i = ix2 r n := ⟨i 0, i 1, eq_ix2 i⟩
  refine Eq.trans (b := arr m c (ix2 ⟨r.val, by omega⟩ ⟨n.val, by omega⟩)) (by pointwise) ?_
  refine (arr_at m c _ _ ⟨r.val, by omega⟩ ⟨3072 + n.val, by omega⟩ rfl (by first | rfl | (dsimp only; omega))).trans ?_
  pointwise [val_main_v18]

/-- The reference's result 1 of this memory's arguments. -/
abbrev result1 (c : Dev nD) := val_main_v19 (F := Ideal) (m ((c : Thread nD τ).loc main_arg0)) (m ((c : Thread nD τ).loc main_arg1)) (m ((c : Thread nD τ).loc main_arg2)) (m ((c : Thread nD τ).loc main_arg3))

/-- The slice taken after the call is the reference's result 1. -/
theorem tail1 (c : Dev nD) : Pipeline.afterTail₀ cfgs (dats m) 0 (V0 m) [hostOps1] c main_v14 = result1 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 64), i = ix2 r n := ⟨i 0, i 1, eq_ix2 i⟩
  refine Eq.trans (b := arr m c (ix2 ⟨r.val, by omega⟩ ⟨512 + n.val, by omega⟩)) (by pointwise) ?_
  refine (arr_at m c _ _ ⟨r.val, by omega⟩ ⟨3584 + n.val, by omega⟩ rfl (by first | rfl | (dsimp only; omega))).trans ?_
  pointwise [val_main_v19]

/-- The reference's result 2 of this memory's arguments. -/
abbrev result2 (c : Dev nD) := val_main_v20 (F := Ideal) (m ((c : Thread nD τ).loc main_arg0)) (m ((c : Thread nD τ).loc main_arg1)) (m ((c : Thread nD τ).loc main_arg2)) (m ((c : Thread nD τ).loc main_arg3))

/-- The slice taken after the call is the reference's result 2. -/
theorem tail2 (c : Dev nD) : Pipeline.afterTail₀ cfgs (dats m) 0 (V0 m) [hostOps1] c main_v15 = result2 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 8), i = ix2 r n := ⟨i 0, i 1, eq_ix2 i⟩
  refine Eq.trans (b := arr m c (ix2 ⟨r.val, by omega⟩ ⟨576 + n.val, by omega⟩)) (by pointwise) ?_
  refine (arr_at m c _ _ ⟨r.val, by omega⟩ ⟨3648 + n.val, by omega⟩ rfl (by first | rfl | (dsimp only; omega))).trans ?_
  pointwise [val_main_v20]

/-- The reference's result 3 of this memory's arguments. -/
abbrev result3 (c : Dev nD) := val_main_v21 (F := Ideal) (m ((c : Thread nD τ).loc main_arg0)) (m ((c : Thread nD τ).loc main_arg1)) (m ((c : Thread nD τ).loc main_arg2)) (m ((c : Thread nD τ).loc main_arg3))

/-- The slice taken after the call is the reference's result 3. -/
theorem tail3 (c : Dev nD) : Pipeline.afterTail₀ cfgs (dats m) 0 (V0 m) [hostOps1] c main_v16 = result3 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 32), i = ix2 r n := ⟨i 0, i 1, eq_ix2 i⟩
  refine Eq.trans (b := arr m c (ix2 ⟨r.val, by omega⟩ ⟨640 + n.val, by omega⟩)) (by pointwise) ?_
  refine (arr_at m c _ _ ⟨r.val, by omega⟩ ⟨8776 + n.val, by omega⟩ rfl (by first | rfl | (dsimp only; omega))).trans ?_
  pointwise [val_main_v21]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v13) = result0 m c
      ∧ r.2.mem ((c.tc : Thread nD τ).loc main_v14) = result1 m c
      ∧ r.2.mem ((c.tc : Thread nD τ).loc main_v15) = result2 m c
      ∧ r.2.mem ((c.tc : Thread nD τ).loc main_v16) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).2 main_v13 (Pipeline.mem_restRefs_of main_v13 (by decide) (by decide))).trans (tail0 m c),
    ((h.1 c).2 main_v14 (Pipeline.mem_restRefs_of main_v14 (by decide) (by decide))).trans (tail1 m c),
    ((h.1 c).2 main_v15 (Pipeline.mem_restRefs_of main_v15 (by decide) (by decide))).trans (tail2 m c),
    ((h.1 c).2 main_v16 (Pipeline.mem_restRefs_of main_v16 (by decide) (by decide))).trans (tail3 m c), h.2 c⟩

end Cert.Kernel5Ideal.Proj

end
-- ==== Proof.PromptQkv.lean ====
module

public import proofs.«01_k».proof.Proof.Gen.Kernel3Ideal.Frame
public import proofs.«01_k».proof.Proof.Gen.Reference3Ideal.Read
public import proofs.«01_k».proof.Proof.Rms
public import Idealize.ShloMosaic.Lib.Pipeline.ValueKit
public import Idealize.ShloMosaic.Lib.Pipeline.ReadBack

/-!
The queries, keys and values of the prompt: each row is normalised and multiplied with its columns of the weights; the call's result, cut to the prompt's rows, is the reference's.

The padded rows are walked 640 at a time and the columns 1024 at a time, the columns inside. The first column tile of a row tile normalises the rows and keeps them for the others.
-/

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)
open Cert.Reference3Ideal.Read Cert.Rms

variable (m : (ℓ : Loc nD τ sig) → Buf (Elt Ideal) ℓ)

/-- Which block each window holds at grid point `t`: the rows' and the result's move with the row tile, the weights' and the result's with the column tile. -/
theorem idx : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- What the body keeps in its scratch: the block's rows, normalised. -/
theorem pay1_at (x : Vec Ideal S640x1024 .f32) (g : Vec Ideal S1x1024 .f32) (r : Fin 640) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S640x1024 .bf16) (w : Vec Ideal S1024x1024 .bf16) (r : Fin 640) (k : Fin 1024) :
    k0_pay2 h w (ix2 r k) = ∑ j : Fin 1024, h (ix2 r j) * w (ix2 j k) := by
  pointwise [k0_pay2]

/-- Row `r` of the rows the call is handed. -/
abbrev X (c : Dev nD) (r : Fin 16640) (k : Fin 1024) : EReal := V (F := Ideal) m c main_v5 (ix2 r k)

/-- The gain the call is handed. -/
abbrev G (c : Dev nD) (k : Fin 1024) : EReal := V (F := Ideal) m c main_v7 (ix2 0 k)

/-- Column `n` of the weights the call is handed. -/
abbrev W (c : Dev nD) (n : Fin 3072) (k : Fin 1024) : EReal := V (F := Ideal) m c main_v2 (ix2 k n)

/-- The row of the whole array that is row `r` of the tile met at grid point `n`. -/
abbrev row (n : ℕ) (hn : n < cfg0.N) (r : Fin 640) : Fin 16640 := ⟨n / 3 * 640 + r.val, by have h : cfg0.N = 78 := rfl; omega⟩

/-- Where the body normalises, it normalises the rows of its own tile. -/
theorem fresh (c : Dev nD) (t : Fin cfg0.N) (r : Fin 640) (k : Fin 1024) :
    k0_pay1 (iblk m c 0 t) (iblk m c 1 t) (ix2 r k) = nrm (X m c (row t.val t.isLt r)) (G m c) k := by
  refine (pay1_at _ _ r k).trans ?_
  have hx : (fun j : Fin 1024 => (iblk m c 0 t) (ix2 r j)) = X m c (row t.val t.isLt r) := by
    funext j
    blk_point [iblk, idx t]
  have hg : (fun j : Fin 1024 => (iblk m c 1 t) (ix2 0 j)) = G m c := by
    funext j
    blk_point [iblk, idx t]
  exact congrArg₂ (fun a b => nrm a b k) hx hg

/-- The block of the weights at grid point `t` is column tile `t % 3`. -/
theorem wblk (c : Dev nD) (t : Fin cfg0.N) (j : Fin 1024) (k : Fin 1024) (n : Fin 3072) (h : n.val = t.val % 3 * 1024 + k.val) :
    (iblk m c 2 t) (ix2 j k) = W m c n j := by
  blk_point [iblk, idx t]

/-- Past the first column tile the scratch is what the point before left. -/
theorem keep (c : Dev nD) (t : Fin cfg0.N) (h : ¬ t.val % 3 = 0) (h1 : 1 ≤ t.val % 3) :
    (outsAt0 m c t.val t.isLt).2.2 = (outsAt0 m c (t.val - 1) (Nat.lt_of_le_of_lt (Nat.sub_le _ _) t.isLt)).2.2 := by
  rw [outsAt0_B m c t h h1, sout0_B_0]

/-- After every grid point the scratch holds the normalised rows of the point's row tile. -/
theorem scr (c : Dev nD) : ∀ (n : ℕ) (hn : n < cfg0.N) (r : Fin 640) (k : Fin 1024),
    (outsAt0 m c n hn).2.2 (ix2 r k) = nrm (X m c (row n hn r)) (G m c) k := by
  intro n
  induction n with
  | zero =>
    intro hn r k
    rw [outsAt0_A m c ⟨0, hn⟩ rfl (by show ¬ 1 ≤ 0 % 3; omega)]; frame_out
    exact fresh m c ⟨0, hn⟩ r k
  | succ n ih =>
    intro hn r k
    by_cases h : (n + 1) % 3 = 0
    · rw [outsAt0_A m c ⟨n + 1, hn⟩ h (by first | omega | (dsimp only; omega))]; frame_out
      exact fresh m c ⟨n + 1, hn⟩ r k
    · have hr : row n (Nat.lt_of_succ_lt hn) r = row (n + 1) hn r := Fin.ext (by show n / 3 * 640 + r.val = (n + 1) / 3 * 640 + r.val; omega)
      rw [← hr]
      exact (congrFun (keep m c ⟨n + 1, hn⟩ h (by first | omega | (dsimp only; omega))) _).trans (ih _ r k)

/-- The block stored at grid point `t`: each entry the projection of its row on its column. -/
theorem out_at (c : Dev nD) (t : Fin cfg0.N) (r : Fin 640) (k : Fin 1024) (n : Fin 3072) (h : n.val = t.val % 3 * 1024 + k.val) :
    (outsAt0 m c t.val t.isLt).1 (ix2 r k) = proj (X m c (row t.val t.isLt r)) (G m c) (W m c n) := by
  by_cases h0 : t.val % 3 = 0
  · rw [outsAt0_A m c t h0 (by first | omega | (dsimp only; omega))]; frame_out
    refine (pay2_at _ _ r k).trans (Finset.sum_congr rfl fun j _ => ?_)
    exact congrArg₂ (· * ·) (fresh m c t r j) (wblk m c t j k n h)
  · have e := scr m c t.val t.isLt
    rw [keep m c t h0 (by first | omega | (dsimp only; omega))] at e
    rw [outsAt0_B m c t h0 (by first | omega | (dsimp only; omega))]; frame_out
    rw [read_unread_whole]
    refine (pay2_at _ _ r k).trans (Finset.sum_congr rfl fun j _ => ?_)
    exact congrArg₂ (· * ·) (e r j) (wblk m c t j k n h)

/-- The array of the projections of all rows on all columns. -/
def arr (c : Dev nD) : S16640x3072.Idx → EReal := fun i => proj (X m c (i 0)) (G m c) (W m c (i 1))

/-- After the last grid point the result array holds them. -/
theorem final (c : Dev nD) : (dats m 0 c).arrAt 3 (cfgs 0).N = arr m c := by
  refine (dats m 0 c).arrAt_eq_of_covers 3 _ (by decide +kernel) fun t _ y => ?_
  blk_simp
  rw [after0_3]
  obtain ⟨r, k, rfl⟩ : ∃ (r : Fin 640) (k : Fin 1024), y = ix2 r k := ⟨y 0, y 1, eq_ix2 y⟩
  have ht : t.val % 3 < 3 := Nat.mod_lt _ (by decide)
  refine (out_at m c t r k ⟨t.val % 3 * 1024 + k.val, by omega⟩ rfl).trans ?_
  refine Eq.trans (b := arr m c (ix2 (row t.val t.isLt r) ⟨t.val % 3 * 1024 + k.val, by omega⟩)) rfl (congrArg _ ?_)
  blk_ext [idx t]

variable (x0 : Vec Ideal S1x16384x1024 .f32) (x1 : Vec Ideal S16x1024 .f32) (x2 : Vec Ideal S1x1024 .f32) (x3 : Vec Ideal S1x1024x10856 .f32)

/-- Row `r` of the prompt with the meta rows in front. -/
def rowOf (r : Fin 16400) (k : Fin 1024) : EReal :=
  if h : r.val < 16 then x1 (ix2 ⟨r.val, h⟩ k) else x0 (ix3 0 ⟨r.val - 16, by have := r.isLt; omega⟩ k)

/-- The reference's product at row `r` and column `q`. -/
theorem ref_at (r : Fin 16400) (q : Fin 10856) :
    val_main_v17 (F := Ideal) x0 x1 x2 x3 (ix2 r q) = proj (rowOf x0 x1 r) (fun k => x2 (ix2 0 k)) (fun k => x3 (ix3 0 k q)) := by
  have e : ∀ k, val_main_v16 (F := Ideal) x0 x1 x2 (ix2 r k) = nrm (rowOf x0 x1 r) (fun k => x2 (ix2 0 k)) k := by
    intro k
    unfold nrm rowOf
    pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e3 : ∀ k (q : Fin 10856), val_main_v3 (F := Ideal) x3 (ix2 k q) = x3 (ix3 0 k q) := by
    intro k q
    pointwise [val_main_v3]
  unfold proj
  simp only [← e]
  pointwise [val_main_v17]
  simp only [e3]

/-- What the lines before the call leave in a buffer. -/
theorem V_eq (c : Dev nD) (b : Ref sig .tc) :
    V (F := Ideal) m c b = StableHlo.after (hostOps0 (F := Ideal)) (fun b => m (c, b)) (Proc.tc.devRef b) := rfl

/-- The call's rows are the meta rows, the prompt and the padding, one after the other. -/
theorem V_pad (c : Dev nD) : (V (F := Ideal) m c main_v5 : S16640x1024.Idx → EReal)
    = concatenate S16640x1024 0 [⟨S16x1024, (V (F := Ideal) m c main_arg1 : Vec Ideal S16x1024 .f32)⟩, ⟨S16384x1024, (V (F := Ideal) m c main_v3 : Vec Ideal S16384x1024 .f32)⟩,
      ⟨S240x1024, (V (F := Ideal) m c main_v4 : Vec Ideal S240x1024 .f32)⟩] concatenates_S16x1024_S16384x1024_S240x1024_S16640x1024_d0 := by
  rfl

/-- The prompt without its leading axis. -/
theorem V_rows (c : Dev nD) (r : Fin 16384) (k : Fin 1024) :
    (V (F := Ideal) m c main_v3 : Vec Ideal S16384x1024 .f32) (ix2 r k) = (m ((c : Thread nD τ).loc main_arg0) : Vec Ideal S1x16384x1024 .f32) (ix3 0 r k) := by
  rw [V_eq]
  after_results
  pointwise

/-- The meta rows are the argument's. -/
theorem V_meta (c : Dev nD) : V (F := Ideal) m c main_arg1 = m ((c : Thread nD τ).loc main_arg1) := by
  rw [V_eq]
  after_results

/-- A row of the call that is not padding is the prompt's. -/
theorem X_at (c : Dev nD) (r : Fin 16640) (h : r.val < 16400) (k : Fin 1024) :
    X m c r k = rowOf (m ((c : Thread nD τ).loc main_arg0)) (m ((c : Thread nD τ).loc main_arg1)) ⟨r.val, h⟩ k := by
  refine (congrFun (V_pad m c) (ix2 r k)).trans ?_
  unfold rowOf
  pointwise
  by_cases h1 : r.val < 16
  · rw [dif_pos h1, dif_pos h1, V_meta]
  · have h2 : r.val - 16 < 16384 := by omega
    rw [dif_neg h1, dif_pos h2, dif_neg h1]
    exact V_rows m c _ k

/-- The call's gain is the argument's. -/
theorem G_at (c : Dev nD) (k : Fin 1024) : G m c k = (m ((c : Thread nD τ).loc main_arg2) : Vec Ideal S1x1024 .f32) (ix2 0 k) := by
  show V (F := Ideal) m c main_v7 (ix2 0 k) = _
  rw [V_eq]
  after_results
  pointwise

/-- The call's columns are those of the argument's weights that begin at 0. -/
theorem W_at (c : Dev nD) (n : Fin 3072) (q : Fin 10856) (h : q.val = n.val) (k : Fin 1024) :
    W m c n k = (m ((c : Thread nD τ).loc main_arg3) : Vec Ideal S1x1024x10856 .f32) (ix3 0 k q) := by
  obtain ⟨q, hq⟩ := q
  subst h
  show V (F := Ideal) m c main_v2 (ix2 k n) = _
  rw [V_eq]
  after_results
  pointwise

/-- An entry of the call's result in a row and a column that the arguments have is the reference's product there. -/
theorem arr_at (c : Dev nD) (r : Fin 16640) (n : Fin 3072) (r' : Fin 16400) (q : Fin 10856) (hr : r.val = r'.val) (h : q.val = n.val) :
    arr m c (ix2 r n) = val_main_v17 (F := Ideal) (m ((c : Thread nD τ).loc main_arg0)) (m ((c : Thread nD τ).loc main_arg1)) (m ((c : Thread nD τ).loc main_arg2)) (m ((c : Thread nD τ).loc main_arg3)) (ix2 r' q) := by
  have h' : r.val < 16400 := hr ▸ r'.isLt
  have er : r' = ⟨r.val, h'⟩ := Fin.ext hr.symm
  subst er
  refine Eq.trans ?_ (ref_at _ _ _ _ ⟨r.val, h'⟩ q).symm
  have e1 : X m c r = _ := funext fun k => X_at m c r h' k
  have e2 : G m c = _ := funext fun k => G_at m c k
  have e3 : W m c n = _ := funext fun k => W_at m c n q h k
  show proj (X m c r) (G m c) (W m c n) = _
  rw [e1, e2, e3]

/-- What the lines after the call find in its result's buffer. -/
theorem found (c : Dev nD) : Pipeline.withArrays (cfgs 0).spec c (V0 m c) (fun w => (dats m 0 c).arrAt w (cfgs 0).N) (Proc.tc.devRef main_v8_0) = arr m c :=
  (Pipeline.withArrays_arr (cfgs 0).spec launch0.win.arr_inj c (V0 m c) (fun w => (dats m 0 c).arrAt w (cfgs 0).N) 3).trans (final m c)

/-- The reference's result 0 of this memory's arguments. -/
abbrev result0 (c : Dev nD) := val_main_v18 (F := Ideal) (m ((c : Thread nD τ).loc main_arg0)) (m ((c : Thread nD τ).loc main_arg1)) (m ((c : Thread nD τ).loc main_arg2)) (m ((c : Thread nD τ).loc main_arg3))

/-- The slice taken after the call is the reference's result 0. -/
theorem tail0 (c : Dev nD) : Pipeline.afterTail₀ cfgs (dats m) 0 (V0 m) [hostOps1] c main_v9 = result0 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 1024), i = ix2 r n := ⟨i 0, i 1, eq_ix2 i⟩
  refine Eq.trans (b := arr m c (ix2 ⟨r.val, by omega⟩ ⟨n.val, by omega⟩)) (by pointwise) ?_
  refine (arr_at m c _ _ ⟨r.val, by omega⟩ ⟨n.val, by omega⟩ rfl rfl).trans ?_
  pointwise [val_main_v18]

/-- The reference's result 1 of this memory's arguments. -/
abbrev result1 (c : Dev nD) := val_main_v19 (F := Ideal) (m ((c : Thread nD τ).loc main_arg0)) (m ((c : Thread nD τ).loc main_arg1)) (m ((c : Thread nD τ).loc main_arg2)) (m ((c : Thread nD τ).loc main_arg3))

/-- The slice taken after the call is the reference's result 1. -/
theorem tail1 (c : Dev nD) : Pipeline.afterTail₀ cfgs (dats m) 0 (V0 m) [hostOps1] c main_v10 = result1 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 1024), i = ix2 r n := ⟨i 0, i 1, eq_ix2 i⟩
  refine Eq.trans (b := arr m c (ix2 ⟨r.val, by omega⟩ ⟨1024 + n.val, by omega⟩)) (by pointwise) ?_
  refine (arr_at m c _ _ ⟨r.val, by omega⟩ ⟨1024 + n.val, by omega⟩ rfl (by first | rfl | (dsimp only; omega))).trans ?_
  pointwise [val_main_v19]

/-- The reference's result 2 of this memory's arguments. -/
abbrev result2 (c : Dev nD) := val_main_v20 (F := Ideal) (m ((c : Thread nD τ).loc main_arg0)) (m ((c : Thread nD τ).loc main_arg1)) (m ((c : Thread nD τ).loc main_arg2)) (m ((c : Thread nD τ).loc main_arg3))

/-- The slice taken after the call is the reference's result 2. -/
theorem tail2 (c : Dev nD) : Pipeline.afterTail₀ cfgs (dats m) 0 (V0 m) [hostOps1] c main_v11 = result2 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 1024), i = ix2 r n := ⟨i 0, i 1, eq_ix2 i⟩
  refine Eq.trans (b := arr m c (ix2 ⟨r.val, by omega⟩ ⟨2048 + n.val, by omega⟩)) (by pointwise) ?_
  refine (arr_at m c _ _ ⟨r.val, by omega⟩ ⟨2048 + n.val, by omega⟩ rfl (by first | rfl | (dsimp only; omega))).trans ?_
  pointwise [val_main_v20]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v9) = result0 m c
      ∧ r.2.mem ((c.tc : Thread nD τ).loc main_v10) = result1 m c
      ∧ r.2.mem ((c.tc : Thread nD τ).loc main_v11) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).2 main_v9 (Pipeline.mem_restRefs_of main_v9 (by decide) (by decide))).trans (tail0 m c),
    ((h.1 c).2 main_v10 (Pipeline.mem_restRefs_of main_v10 (by decide) (by decide))).trans (tail1 m c),
    ((h.1 c).2 main_v11 (Pipeline.mem_restRefs_of main_v11 (by decide) (by decide))).trans (tail2 m c), h.2 c⟩

end Cert.Kernel3Ideal.Proj

end
-- ==== Proof.PromptXbc.lean ====
module

public import proofs.«01_k».proof.Proof.Gen.Kernel4Ideal.Frame
public import proofs.«01_k».proof.Proof.Gen.Reference4Ideal.Read
public import proofs.«01_k».proof.Proof.Rms
public import Idealize.ShloMosaic.Lib.Pipeline.ValueKit
public import Idealize.ShloMosaic.Lib.Pipeline.ReadBack

/-!
The convolution inputs of the prompt: each row is normalised and multiplied with its columns of the weights; the call's result, cut to the prompt's rows, is the reference's.

The padded rows are walked 640 at a time and the columns 1024 at a time, the columns inside. The first column tile of a row tile normalises the rows and keeps them for the others.
-/

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)
open Cert.Reference4Ideal.Read Cert.Rms

variable (m : (ℓ : Loc nD τ sig) → Buf (Elt Ideal) ℓ)

/-- Which block each window holds at grid point `t`: the rows' and the result's move with the row tile, the weights' and the result's with the column tile. -/
theorem idx : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- What the body keeps in its scratch: the block's rows, normalised. -/
theorem pay1_at (x : Vec Ideal S640x1024 .f32) (g : Vec Ideal S1x1024 .f32) (r : Fin 640) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S640x1024 .bf16) (w : Vec Ideal S1024x1024 .bf16) (r : Fin 640) (k : Fin 1024) :
    k0_pay2 h w (ix2 r k) = ∑ j : Fin 1024, h (ix2 r j) * w (ix2 j k) := by
  pointwise [k0_pay2]

/-- Row `r` of the rows the call is handed. -/
abbrev X (c : Dev nD) (r : Fin 16640) (k : Fin 1024) : EReal := V (F := Ideal) m c main_v5 (ix2 r k)

/-- The gain the call is handed. -/
abbrev G (c : Dev nD) (k : Fin 1024) : EReal := V (F := Ideal) m c main_v7 (ix2 0 k)

/-- Column `n` of the weights the call is handed. -/
abbrev W (c : Dev nD) (n : Fin 3072) (k : Fin 1024) : EReal := V (F := Ideal) m c main_v2 (ix2 k n)

/-- The row of the whole array that is row `r` of the tile met at grid point `n`. -/
abbrev row (n : ℕ) (hn : n < cfg0.N) (r : Fin 640) : Fin 16640 := ⟨n / 3 * 640 + r.val, by have h : cfg0.N = 78 := rfl; omega⟩

/-- Where the body normalises, it normalises the rows of its own tile. -/
theorem fresh (c : Dev nD) (t : Fin cfg0.N) (r : Fin 640) (k : Fin 1024) :
    k0_pay1 (iblk m c 0 t) (iblk m c 1 t) (ix2 r k) = nrm (X m c (row t.val t.isLt r)) (G m c) k := by
  refine (pay1_at _ _ r k).trans ?_
  have hx : (fun j : Fin 1024 => (iblk m c 0 t) (ix2 r j)) = X m c (row t.val t.isLt r) := by
    funext j
    blk_point [iblk, idx t]
  have hg : (fun j : Fin 1024 => (iblk m c 1 t) (ix2 0 j)) = G m c := by
    funext j
    blk_point [iblk, idx t]
  exact congrArg₂ (fun a b => nrm a b k) hx hg

/-- The block of the weights at grid point `t` is column tile `t % 3`. -/
theorem wblk (c : Dev nD) (t : Fin cfg0.N) (j : Fin 1024) (k : Fin 1024) (n : Fin 3072) (h : n.val = t.val % 3 * 1024 + k.val) :
    (iblk m c 2 t) (ix2 j k) = W m c n j := by
  blk_point [iblk, idx t]

/-- Past the first column tile the scratch is what the point before left. -/
theorem keep (c : Dev nD) (t : Fin cfg0.N) (h : ¬ t.val % 3 = 0) :
    (outsAt0 m c t.val t.isLt).2 = (outsAt0 m c (t.val - 1) (Nat.lt_of_le_of_lt (Nat.sub_le _ _) t.isLt)).2 := by
  rw [outsAt0_B m c t h, sout0_B_0]

/-- After every grid point the scratch holds the normalised rows of the point's row tile. -/
theorem scr (c : Dev nD) : ∀ (n : ℕ) (hn : n < cfg0.N) (r : Fin 640) (k : Fin 1024),
    (outsAt0 m c n hn).2 (ix2 r k) = nrm (X m c (row n hn r)) (G m c) k := by
  intro n
  induction n with
  | zero =>
    intro hn r k
    rw [outsAt0_A m c ⟨0, hn⟩ rfl]; frame_out
    exact fresh m c ⟨0, hn⟩ r k
  | succ n ih =>
    intro hn r k
    by_cases h : (n + 1) % 3 = 0
    · rw [outsAt0_A m c ⟨n + 1, hn⟩ h]; frame_out
      exact fresh m c ⟨n + 1, hn⟩ r k
    · have hr : row n (Nat.lt_of_succ_lt hn) r = row (n + 1) hn r := Fin.ext (by show n / 3 * 640 + r.val = (n + 1) / 3 * 640 + r.val; omega)
      rw [← hr]
      exact (congrFun (keep m c ⟨n + 1, hn⟩ h) _).trans (ih _ r k)

/-- The block stored at grid point `t`: each entry the projection of its row on its column. -/
theorem out_at (c : Dev nD) (t : Fin cfg0.N) (r : Fin 640) (k : Fin 1024) (n : Fin 3072) (h : n.val = t.val % 3 * 1024 + k.val) :
    (outsAt0 m c t.val t.isLt).1 (ix2 r k) = proj (X m c (row t.val t.isLt r)) (G m c) (W m c n) := by
  by_cases h0 : t.val % 3 = 0
  · rw [outsAt0_A m c t h0]; frame_out
    refine (pay2_at _ _ r k).trans (Finset.sum_congr rfl fun j _ => ?_)
    exact congrArg₂ (· * ·) (fresh m c t r j) (wblk m c t j k n h)
  · have e := scr m c t.val t.isLt
    rw [keep m c t h0] at e
    rw [outsAt0_B m c t h0]; frame_out
    rw [read_unread_whole]
    refine (pay2_at _ _ r k).trans (Finset.sum_congr rfl fun j _ => ?_)
    exact congrArg₂ (· * ·) (e r j) (wblk m c t j k n h)

/-- The array of the projections of all rows on all columns. -/
def arr (c : Dev nD) : S16640x3072.Idx → EReal := fun i => proj (X m c (i 0)) (G m c) (W m c (i 1))

/-- After the last grid point the result array holds them. -/
theorem final (c : Dev nD) : (dats m 0 c).arrAt 3 (cfgs 0).N = arr m c := by
  refine (dats m 0 c).arrAt_eq_of_covers 3 _ (by decide +kernel) fun t _ y => ?_
  blk_simp
  rw [after0_3]
  obtain ⟨r, k, rfl⟩ : ∃ (r : Fin 640) (k : Fin 1024), y = ix2 r k := ⟨y 0, y 1, eq_ix2 y⟩
  have ht : t.val % 3 < 3 := Nat.mod_lt _ (by decide)
  refine (out_at m c t r k ⟨t.val % 3 * 1024 + k.val, by omega⟩ rfl).trans ?_
  refine Eq.trans (b := arr m c (ix2 (row t.val t.isLt r) ⟨t.val % 3 * 1024 + k.val, by omega⟩)) rfl (congrArg _ ?_)
  blk_ext [idx t]

variable (x0 : Vec Ideal S1x16384x1024 .f32) (x1 : Vec Ideal S16x1024 .f32) (x2 : Vec Ideal S1x1024 .f32) (x3 : Vec Ideal S1x1024x10856 .f32)

/-- Row `r` of the prompt with the meta rows in front. -/
def rowOf (r : Fin 16400) (k : Fin 1024) : EReal :=
  if h : r.val < 16 then x1 (ix2 ⟨r.val, h⟩ k) else x0 (ix3 0 ⟨r.val - 16, by have := r.isLt; omega⟩ k)

/-- The reference's product at row `r` and column `q`. -/
theorem ref_at (r : Fin 16400) (q : Fin 10856) :
    val_main_v17 (F := Ideal) x0 x1 x2 x3 (ix2 r q) = proj (rowOf x0 x1 r) (fun k => x2 (ix2 0 k)) (fun k => x3 (ix3 0 k q)) := by
  have e : ∀ k, val_main_v16 (F := Ideal) x0 x1 x2 (ix2 r k) = nrm (rowOf x0 x1 r) (fun k => x2 (ix2 0 k)) k := by
    intro k
    unfold nrm rowOf
    pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e3 : ∀ k (q : Fin 10856), val_main_v3 (F := Ideal) x3 (ix2 k q) = x3 (ix3 0 k q) := by
    intro k q
    pointwise [val_main_v3]
  unfold proj
  simp only [← e]
  pointwise [val_main_v17]
  simp only [e3]

/-- What the lines before the call leave in a buffer. -/
theorem V_eq (c : Dev nD) (b : Ref sig .tc) :
    V (F := Ideal) m c b = StableHlo.after (hostOps0 (F := Ideal)) (fun b => m (c, b)) (Proc.tc.devRef b) := rfl

/-- The call's rows are the meta rows, the prompt and the padding, one after the other. -/
theorem V_pad (c : Dev nD) : (V (F := Ideal) m c main_v5 : S16640x1024.Idx → EReal)
    = concatenate S16640x1024 0 [⟨S16x1024, (V (F := Ideal) m c main_arg1 : Vec Ideal S16x1024 .f32)⟩, ⟨S16384x1024, (V (F := Ideal) m c main_v3 : Vec Ideal S16384x1024 .f32)⟩,
      ⟨S240x1024, (V (F := Ideal) m c main_v4 : Vec Ideal S240x1024 .f32)⟩] concatenates_S16x1024_S16384x1024_S240x1024_S16640x1024_d0 := by
  rfl

/-- The prompt without its leading axis. -/
theorem V_rows (c : Dev nD) (r : Fin 16384) (k : Fin 1024) :
    (V (F := Ideal) m c main_v3 : Vec Ideal S16384x1024 .f32) (ix2 r k) = (m ((c : Thread nD τ).loc main_arg0) : Vec Ideal S1x16384x1024 .f32) (ix3 0 r k) := by
  rw [V_eq]
  after_results
  pointwise

/-- The meta rows are the argument's. -/
theorem V_meta (c : Dev nD) : V (F := Ideal) m c main_arg1 = m ((c : Thread nD τ).loc main_arg1) := by
  rw [V_eq]
  after_results

/-- A row of the call that is not padding is the prompt's. -/
theorem X_at (c : Dev nD) (r : Fin 16640) (h : r.val < 16400) (k : Fin 1024) :
    X m c r k = rowOf (m ((c : Thread nD τ).loc main_arg0)) (m ((c : Thread nD τ).loc main_arg1)) ⟨r.val, h⟩ k := by
  refine (congrFun (V_pad m c) (ix2 r k)).trans ?_
  unfold rowOf
  pointwise
  by_cases h1 : r.val < 16
  · rw [dif_pos h1, dif_pos h1, V_meta]
  · have h2 : r.val - 16 < 16384 := by omega
    rw [dif_neg h1, dif_pos h2, dif_neg h1]
    exact V_rows m c _ k

/-- The call's gain is the argument's. -/
theorem G_at (c : Dev nD) (k : Fin 1024) : G m c k = (m ((c : Thread nD τ).loc main_arg2) : Vec Ideal S1x1024 .f32) (ix2 0 k) := by
  show V (F := Ideal) m c main_v7 (ix2 0 k) = _
  rw [V_eq]
  after_results
  pointwise

/-- The call's columns are those of the argument's weights that begin at 5704. -/
theorem W_at (c : Dev nD) (n : Fin 3072) (q : Fin 10856) (h : q.val = 5704 + n.val) (k : Fin 1024) :
    W m c n k = (m ((c : Thread nD τ).loc main_arg3) : Vec Ideal S1x1024x10856 .f32) (ix3 0 k q) := by
  obtain ⟨q, hq⟩ := q
  subst h
  show V (F := Ideal) m c main_v2 (ix2 k n) = _
  rw [V_eq]
  after_results
  pointwise

/-- An entry of the call's result in a row and a column that the arguments have is the reference's product there. -/
theorem arr_at (c : Dev nD) (r : Fin 16640) (n : Fin 3072) (r' : Fin 16400) (q : Fin 10856) (hr : r.val = r'.val) (h : q.val = 5704 + n.val) :
    arr m c (ix2 r n) = val_main_v17 (F := Ideal) (m ((c : Thread nD τ).loc main_arg0)) (m ((c : Thread nD τ).loc main_arg1)) (m ((c : Thread nD τ).loc main_arg2)) (m ((c : Thread nD τ).loc main_arg3)) (ix2 r' q) := by
  have h' : r.val < 16400 := hr ▸ r'.isLt
  have er : r' = ⟨r.val, h'⟩ := Fin.ext hr.symm
  subst er
  refine Eq.trans ?_ (ref_at _ _ _ _ ⟨r.val, h'⟩ q).symm
  have e1 : X m c r = _ := funext fun k => X_at m c r h' k
  have e2 : G m c = _ := funext fun k => G_at m c k
  have e3 : W m c n = _ := funext fun k => W_at m c n q h k
  show proj (X m c r) (G m c) (W m c n) = _
  rw [e1, e2, e3]

/-- What the lines after the call find in its result's buffer. -/
theorem found (c : Dev nD) : Pipeline.withArrays (cfgs 0).spec c (V0 m c) (fun w => (dats m 0 c).arrAt w (cfgs 0).N) (Proc.tc.devRef main_v8) = arr m c :=
  (Pipeline.withArrays_arr (cfgs 0).spec launch0.win.arr_inj c (V0 m c) (fun w => (dats m 0 c).arrAt w (cfgs 0).N) 3).trans (final m c)

/-- The reference's result 0 of this memory's arguments. -/
abbrev result0 (c : Dev nD) := val_main_v18 (F := Ideal) (m ((c : Thread nD τ).loc main_arg0)) (m ((c : Thread nD τ).loc main_arg1)) (m ((c : Thread nD τ).loc main_arg2)) (m ((c : Thread nD τ).loc main_arg3))

/-- The slice taken after the call is the reference's result 0. -/
theorem tail0 (c : Dev nD) : Pipeline.afterTail₀ cfgs (dats m) 0 (V0 m) [hostOps1] c main_v9 = result0 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 3072), i = ix2 r n := ⟨i 0, i 1, eq_ix2 i⟩
  refine Eq.trans (b := arr m c (ix2 ⟨r.val, by omega⟩ ⟨n.val, by omega⟩)) (by pointwise) ?_
  refine (arr_at m c _ _ ⟨r.val, by omega⟩ ⟨5704 + n.val, by omega⟩ rfl rfl).trans ?_
  pointwise [val_main_v18]

/-- The reference's result 1 of this memory's arguments. -/
abbrev result1 (c : Dev nD) := val_main_v19 (F := Ideal) (m ((c : Thread nD τ).loc main_arg0)) (m ((c : Thread nD τ).loc main_arg1)) (m ((c : Thread nD τ).loc main_arg2)) (m ((c : Thread nD τ).loc main_arg3))

/-- The slice taken after the call is the reference's result 1. -/
theorem tail1 (c : Dev nD) : Pipeline.afterTail₀ cfgs (dats m) 0 (V0 m) [hostOps1] c main_v10 = result1 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 3) (n : Fin 3072), i = ix2 r n := ⟨i 0, i 1, eq_ix2 i⟩
  refine Eq.trans (b := arr m c (ix2 ⟨16397 + r.val, by omega⟩ ⟨n.val, by omega⟩)) (by pointwise) ?_
  refine (arr_at m c _ _ ⟨16397 + r.val, by omega⟩ ⟨5704 + n.val, by omega⟩ rfl rfl).trans ?_
  pointwise [val_main_v19, val_main_v18]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v9) = result0 m c
      ∧ r.2.mem ((c.tc : Thread nD τ).loc main_v10) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).2 main_v9 (Pipeline.mem_restRefs_of main_v9 (by decide) (by decide))).trans (tail0 m c),
    ((h.1 c).2 main_v10 (Pipeline.mem_restRefs_of main_v10 (by decide) (by decide))).trans (tail1 m c), h.2 c⟩

end Cert.Kernel4Ideal.Proj

end
-- ==== Proof.PromptZ.lean ====
module

public import proofs.«01_k».proof.Proof.Gen.Kernel6Ideal.Frame
public import proofs.«01_k».proof.Proof.Gen.Reference6Ideal.Read
public import proofs.«01_k».proof.Proof.Rms
public import Idealize.ShloMosaic.Lib.Pipeline.ValueKit
public import Idealize.ShloMosaic.Lib.Pipeline.ReadBack

/-!
The gating columns of the prompt: each row is normalised and multiplied with its columns of the weights; the call's result, cut to the prompt's rows, is the reference's.

The padded rows are walked 640 at a time and the columns 1024 at a time, the columns inside. The first column tile of a row tile normalises the rows and keeps them for the others.
-/

@[expose] public section

set_option maxRecDepth 16384

noncomputable section

namespace Cert.Kernel6Ideal.Proj

open Cert.Kernel6Ideal Cert.Kernel6Ideal.Gen Idealize.ShloMosaic Idealize.ShloMosaic.TcCoe Idealize.SL.Sem
open Idealize.ShloMosaic.Pipeline (Dat)
open Cert.Reference6Ideal.Read Cert.Rms

variable (m : (ℓ : Loc nD τ sig) → Buf (Elt Ideal) ℓ)

/-- Which block each window holds at grid point `t`: the rows' and the result's move with the row tile, the weights' and the result's with the column tile. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

/-- What the body keeps in its scratch: the block's rows, normalised. -/
theorem pay1_at (x : Vec Ideal S640x1024 .f32) (g : Vec Ideal S1x1024 .f32) (r : Fin 640) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S640x1024 .bf16) (w : Vec Ideal S1024x1024 .bf16) (r : Fin 640) (k : Fin 1024) :
    k0_pay2 h w (ix2 r k) = ∑ j : Fin 1024, h (ix2 r j) * w (ix2 j k) := by
  pointwise [k0_pay2]

/-- Row `r` of the rows the call is handed. -/
abbrev X (c : Dev nD) (r : Fin 16640) (k : Fin 1024) : EReal := V (F := Ideal) m c main_v5 (ix2 r k)

/-- The gain the call is handed. -/
abbrev G (c : Dev nD) (k : Fin 1024) : EReal := V (F := Ideal) m c main_v7 (ix2 0 k)

/-- Column `n` of the weights the call is handed. -/
abbrev W (c : Dev nD) (n : Fin 2048) (k : Fin 1024) : EReal := V (F := Ideal) m c main_v2 (ix2 k n)

/-- The row of the whole array that is row `r` of the tile met at grid point `n`. -/
abbrev row (n : ℕ) (hn : n < cfg0.N) (r : Fin 640) : Fin 16640 := ⟨n / 2 * 640 + r.val, by have h : cfg0.N = 52 := rfl; omega⟩

/-- Where the body normalises, it normalises the rows of its own tile. -/
theorem fresh (c : Dev nD) (t : Fin cfg0.N) (r : Fin 640) (k : Fin 1024) :
    k0_pay1 (iblk m c 0 t) (iblk m c 1 t) (ix2 r k) = nrm (X m c (row t.val t.isLt r)) (G m c) k := by
  refine (pay1_at _ _ r k).trans ?_
  have hx : (fun j : Fin 1024 => (iblk m c 0 t) (ix2 r j)) = X m c (row t.val t.isLt r) := by
    funext j
    blk_point [iblk, idx t]
  have hg : (fun j : Fin 1024 => (iblk m c 1 t) (ix2 0 j)) = G m c := by
    funext j
    blk_point [iblk, idx t]
  exact congrArg₂ (fun a b => nrm a b k) hx hg

/-- The block of the weights at grid point `t` is column tile `t % 2`. -/
theorem wblk (c : Dev nD) (t : Fin cfg0.N) (j : Fin 1024) (k : Fin 1024) (n : Fin 2048) (h : n.val = t.val % 2 * 1024 + k.val) :
    (iblk m c 2 t) (ix2 j k) = W m c n j := by
  blk_point [iblk, idx t]

/-- Past the first column tile the scratch is what the point before left. -/
theorem keep (c : Dev nD) (t : Fin cfg0.N) (h : ¬ t.val % 2 = 0) :
    (outsAt0 m c t.val t.isLt).2 = (outsAt0 m c (t.val - 1) (Nat.lt_of_le_of_lt (Nat.sub_le _ _) t.isLt)).2 := by
  rw [outsAt0_B m c t h, sout0_B_0]

/-- After every grid point the scratch holds the normalised rows of the point's row tile. -/
theorem scr (c : Dev nD) : ∀ (n : ℕ) (hn : n < cfg0.N) (r : Fin 640) (k : Fin 1024),
    (outsAt0 m c n hn).2 (ix2 r k) = nrm (X m c (row n hn r)) (G m c) k := by
  intro n
  induction n with
  | zero =>
    intro hn r k
    rw [outsAt0_A m c ⟨0, hn⟩ rfl]; frame_out
    exact fresh m c ⟨0, hn⟩ r k
  | succ n ih =>
    intro hn r k
    by_cases h : (n + 1) % 2 = 0
    · rw [outsAt0_A m c ⟨n + 1, hn⟩ h]; frame_out
      exact fresh m c ⟨n + 1, hn⟩ r k
    · have hr : row n (Nat.lt_of_succ_lt hn) r = row (n + 1) hn r := Fin.ext (by show n / 2 * 640 + r.val = (n + 1) / 2 * 640 + r.val; omega)
      rw [← hr]
      exact (congrFun (keep m c ⟨n + 1, hn⟩ h) _).trans (ih _ r k)

/-- The block stored at grid point `t`: each entry the projection of its row on its column. -/
theorem out_at (c : Dev nD) (t : Fin cfg0.N) (r : Fin 640) (k : Fin 1024) (n : Fin 2048) (h : n.val = t.val % 2 * 1024 + k.val) :
    (outsAt0 m c t.val t.isLt).1 (ix2 r k) = proj (X m c (row t.val t.isLt r)) (G m c) (W m c n) := by
  by_cases h0 : t.val % 2 = 0
  · rw [outsAt0_A m c t h0]; frame_out
    refine (pay2_at _ _ r k).trans (Finset.sum_congr rfl fun j _ => ?_)
    exact congrArg₂ (· * ·) (fresh m c t r j) (wblk m c t j k n h)
  · have e := scr m c t.val t.isLt
    rw [keep m c t h0] at e
    rw [outsAt0_B m c t h0]; frame_out
    rw [read_unread_whole]
    refine (pay2_at _ _ r k).trans (Finset.sum_congr rfl fun j _ => ?_)
    exact congrArg₂ (· * ·) (e r j) (wblk m c t j k n h)

/-- The array of the projections of all rows on all columns. -/
def arr (c : Dev nD) : S16640x2048.Idx → EReal := fun i => proj (X m c (i 0)) (G m c) (W m c (i 1))

/-- After the last grid point the result array holds them. -/
theorem final (c : Dev nD) : (dats m 0 c).arrAt 3 (cfgs 0).N = arr m c := by
  refine (dats m 0 c).arrAt_eq_of_covers 3 _ (by decide +kernel) fun t _ y => ?_
  blk_simp
  rw [after0_3]
  obtain ⟨r, k, rfl⟩ : ∃ (r : Fin 640) (k : Fin 1024), y = ix2 r k := ⟨y 0, y 1, eq_ix2 y⟩
  have ht : t.val % 2 < 2 := Nat.mod_lt _ (by decide)
  refine (out_at m c t r k ⟨t.val % 2 * 1024 + k.val, by omega⟩ rfl).trans ?_
  refine Eq.trans (b := arr m c (ix2 (row t.val t.isLt r) ⟨t.val % 2 * 1024 + k.val, by omega⟩)) rfl (congrArg _ ?_)
  blk_ext [idx t]

variable (x0 : Vec Ideal S1x16384x1024 .f32) (x1 : Vec Ideal S16x1024 .f32) (x2 : Vec Ideal S1x1024 .f32) (x3 : Vec Ideal S1x1024x10856 .f32)

/-- Row `r` of the prompt with the meta rows in front. -/
def rowOf (r : Fin 16400) (k : Fin 1024) : EReal :=
  if h : r.val < 16 then x1 (ix2 ⟨r.val, h⟩ k) else x0 (ix3 0 ⟨r.val - 16, by have := r.isLt; omega⟩ k)

/-- The reference's product at row `r` and column `q`. -/
theorem ref_at (r : Fin 16400) (q : Fin 10856) :
    val_main_v17 (F := Ideal) x0 x1 x2 x3 (ix2 r q) = proj (rowOf x0 x1 r) (fun k => x2 (ix2 0 k)) (fun k => x3 (ix3 0 k q)) := by
  have e : ∀ k, val_main_v16 (F := Ideal) x0 x1 x2 (ix2 r k) = nrm (rowOf x0 x1 r) (fun k => x2 (ix2 0 k)) k := by
    intro k
    unfold nrm rowOf
    pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e3 : ∀ k (q : Fin 10856), val_main_v3 (F := Ideal) x3 (ix2 k q) = x3 (ix3 0 k q) := by
    intro k q
    pointwise [val_main_v3]
  unfold proj
  simp only [← e]
  pointwise [val_main_v17]
  simp only [e3]

/-- What the lines before the call leave in a buffer. -/
theorem V_eq (c : Dev nD) (b : Ref sig .tc) :
    V (F := Ideal) m c b = StableHlo.after (hostOps0 (F := Ideal)) (fun b => m (c, b)) (Proc.tc.devRef b) := rfl

/-- The call's rows are the meta rows, the prompt and the padding, one after the other. -/
theorem V_pad (c : Dev nD) : (V (F := Ideal) m c main_v5 : S16640x1024.Idx → EReal)
    = concatenate S16640x1024 0 [⟨S16x1024, (V (F := Ideal) m c main_arg1 : Vec Ideal S16x1024 .f32)⟩, ⟨S16384x1024, (V (F := Ideal) m c main_v3 : Vec Ideal S16384x1024 .f32)⟩,
      ⟨S240x1024, (V (F := Ideal) m c main_v4 : Vec Ideal S240x1024 .f32)⟩] concatenates_S16x1024_S16384x1024_S240x1024_S16640x1024_d0 := by
  rfl

/-- The prompt without its leading axis. -/
theorem V_rows (c : Dev nD) (r : Fin 16384) (k : Fin 1024) :
    (V (F := Ideal) m c main_v3 : Vec Ideal S16384x1024 .f32) (ix2 r k) = (m ((c : Thread nD τ).loc main_arg0) : Vec Ideal S1x16384x1024 .f32) (ix3 0 r k) := by
  rw [V_eq]
  after_results
  pointwise

/-- The meta rows are the argument's. -/
theorem V_meta (c : Dev nD) : V (F := Ideal) m c main_arg1 = m ((c : Thread nD τ).loc main_arg1) := by
  rw [V_eq]
  after_results

/-- A row of the call that is not padding is the prompt's. -/
theorem X_at (c : Dev nD) (r : Fin 16640) (h : r.val < 16400) (k : Fin 1024) :
    X m c r k = rowOf (m ((c : Thread nD τ).loc main_arg0)) (m ((c : Thread nD τ).loc main_arg1)) ⟨r.val, h⟩ k := by
  refine (congrFun (V_pad m c) (ix2 r k)).trans ?_
  unfold rowOf
  pointwise
  by_cases h1 : r.val < 16
  · rw [dif_pos h1, dif_pos h1, V_meta]
  · have h2 : r.val - 16 < 16384 := by omega
    rw [dif_neg h1, dif_pos h2, dif_neg h1]
    exact V_rows m c _ k

/-- The call's gain is the argument's. -/
theorem G_at (c : Dev nD) (k : Fin 1024) : G m c k = (m ((c : Thread nD τ).loc main_arg2) : Vec Ideal S1x1024 .f32) (ix2 0 k) := by
  show V (F := Ideal) m c main_v7 (ix2 0 k) = _
  rw [V_eq]
  after_results
  pointwise

/-- The call's columns are those of the argument's weights that begin at 3656. -/
theorem W_at (c : Dev nD) (n : Fin 2048) (q : Fin 10856) (h : q.val = 3656 + n.val) (k : Fin 1024) :
    W m c n k = (m ((c : Thread nD τ).loc main_arg3) : Vec Ideal S1x1024x10856 .f32) (ix3 0 k q) := by
  obtain ⟨q, hq⟩ := q
  subst h
  show V (F := Ideal) m c main_v2 (ix2 k n) = _
  rw [V_eq]
  after_results
  pointwise

/-- An entry of the call's result in a row and a column that the arguments have is the reference's product there. -/
theorem arr_at (c : Dev nD) (r : Fin 16640) (n : Fin 2048) (r' : Fin 16400) (q : Fin 10856) (hr : r.val = r'.val) (h : q.val = 3656 + n.val) :
    arr m c (ix2 r n) = val_main_v17 (F := Ideal) (m ((c : Thread nD τ).loc main_arg0)) (m ((c : Thread nD τ).loc main_arg1)) (m ((c : Thread nD τ).loc main_arg2)) (m ((c : Thread nD τ).loc main_arg3)) (ix2 r' q) := by
  have h' : r.val < 16400 := hr ▸ r'.isLt
  have er : r' = ⟨r.val, h'⟩ := Fin.ext hr.symm
  subst er
  refine Eq.trans ?_ (ref_at _ _ _ _ ⟨r.val, h'⟩ q).symm
  have e1 : X m c r = _ := funext fun k => X_at m c r h' k
  have e2 : G m c = _ := funext fun k => G_at m c k
  have e3 : W m c n = _ := funext fun k => W_at m c n q h k
  show proj (X m c r) (G m c) (W m c n) = _
  rw [e1, e2, e3]

/-- What the lines after the call find in its result's buffer. -/
theorem found (c : Dev nD) : Pipeline.withArrays (cfgs 0).spec c (V0 m c) (fun w => (dats m 0 c).arrAt w (cfgs 0).N) (Proc.tc.devRef main_v8) = arr m c :=
  (Pipeline.withArrays_arr (cfgs 0).spec launch0.win.arr_inj c (V0 m c) (fun w => (dats m 0 c).arrAt w (cfgs 0).N) 3).trans (final m c)

/-- The reference's result 0 of this memory's arguments. -/
abbrev result0 (c : Dev nD) := val_main_v18 (F := Ideal) (m ((c : Thread nD τ).loc main_arg0)) (m ((c : Thread nD τ).loc main_arg1)) (m ((c : Thread nD τ).loc main_arg2)) (m ((c : Thread nD τ).loc main_arg3))

/-- The slice taken after the call is the reference's result 0. -/
theorem tail0 (c : Dev nD) : Pipeline.afterTail₀ cfgs (dats m) 0 (V0 m) [hostOps1] c main_v9 = result0 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 16400) (n : Fin 2048), i = ix2 r n := ⟨i 0, i 1, eq_ix2 i⟩
  refine Eq.trans (b := arr m c (ix2 ⟨r.val, by omega⟩ ⟨n.val, by omega⟩)) (by pointwise) ?_
  refine (arr_at m c _ _ ⟨r.val, by omega⟩ ⟨3656 + n.val, by omega⟩ rfl rfl).trans ?_
  pointwise [val_main_v18]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v9) = result0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).2 main_v9 (Pipeline.mem_restRefs_of main_v9 (by decide) (by decide))).trans (tail0 m c), h.2 c⟩

end Cert.Kernel6Ideal.Proj

end
-- ==== Proof.SampleIdx.lean ====
module

public import proofs.«01_k».proof.Proof.Gen.Kernel9Ideal.Frame
public import proofs.«01_k».proof.Proof.Gen.Reference9Ideal.Read
public import proofs.«01_k».proof.Proof.Rms
public import Idealize.ShloMosaic.Lib.Pipeline.ValueKit
public import Idealize.ShloMosaic.Lib.Pipeline.ReadBack

/-!
The indexer columns and step sizes of the samples: each row is normalised and multiplied with its columns of the weights; the call's result is the reference's.

The padded rows are walked 128 at a time. Every grid point normalises its rows and multiplies them.
-/

@[expose] public section

set_option maxRecDepth 16384

noncomputable section

namespace Cert.Kernel9Ideal.Proj

open Cert.Kernel9Ideal Cert.Kernel9Ideal.Gen Idealize.ShloMosaic Idealize.ShloMosaic.TcCoe Idealize.SL.Sem
open Idealize.ShloMosaic.Pipeline (Dat)
open Cert.Reference9Ideal.Read Cert.Rms

variable (m : (ℓ : Loc nD τ sig) → Buf (Elt Ideal) ℓ)

/-- Which block each window holds at grid point `t`: the rows' and the result's move with the row tile, the weights' and the result's with the column tile. -/
theorem idx : ∀ t : Fin cfg0.N, win0_0.index t = ![t.val / 1, 0] ∧ win0_1.index t = ![0, 0] ∧ win0_2.index t = ![0, t.val % 1]
    ∧ win0_3.index t = ![t.val / 1, t.val % 1] :=
  (by decide +kernel : ∀ t : Fin grid0.N, _)

/-- What the body keeps in its scratch: the block's rows, normalised. -/
theorem pay1_at (x : Vec Ideal S128x1024 .f32) (g : Vec Ideal S1x1024 .f32) (r : Fin 128) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S128x1024 .f32) (w : Vec Ideal S1024x768 .f32) (r : Fin 128) (k : Fin 768) :
    k0_pay2 h w (ix2 r k) = ∑ j : Fin 1024, h (ix2 r j) * w (ix2 j k) := by
  pointwise [k0_pay2]

/-- Row `r` of the rows the call is handed. -/
abbrev X (c : Dev nD) (r : Fin 128) (k : Fin 1024) : EReal := V (F := Ideal) m c main_v0 (ix2 r k)

/-- The gain the call is handed. -/
abbrev G (c : Dev nD) (k : Fin 1024) : EReal := V (F := Ideal) m c main_v9 (ix2 0 k)

/-- Column `n` of the weights the call is handed. -/
abbrev W (c : Dev nD) (n : Fin 768) (k : Fin 1024) : EReal := V (F := Ideal) m c main_v8 (ix2 k n)

/-- The row of the whole array that is row `r` of the tile met at grid point `n`. -/
abbrev row (n : ℕ) (hn : n < cfg0.N) (r : Fin 128) : Fin 128 := ⟨n / 1 * 128 + r.val, by have h : cfg0.N = 1 := rfl; omega⟩

/-- Where the body normalises, it normalises the rows of its own tile. -/
theorem fresh (c : Dev nD) (t : Fin cfg0.N) (r : Fin 128) (k : Fin 1024) :
    k0_pay1 (iblk m c 0 t) (iblk m c 1 t) (ix2 r k) = nrm (X m c (row t.val t.isLt r)) (G m c) k := by
  refine (pay1_at _ _ r k).trans ?_
  have hx : (fun j : Fin 1024 => (iblk m c 0 t) (ix2 r j)) = X m c (row t.val t.isLt r) := by
    funext j
    blk_point [iblk, idx t]
  have hg : (fun j : Fin 1024 => (iblk m c 1 t) (ix2 0 j)) = G m c := by
    funext j
    blk_point [iblk, idx t]
  exact congrArg₂ (fun a b => nrm a b k) hx hg

/-- The block of the weights at grid point `t` is column tile `t % 1`. -/
theorem wblk (c : Dev nD) (t : Fin cfg0.N) (j : Fin 1024) (k : Fin 768) (n : Fin 768) (h : n.val = t.val % 1 * 768 + k.val) :
    (iblk m c 2 t) (ix2 j k) = W m c n j := by
  blk_point [iblk, idx t]

/-- The block stored at grid point `t`: each entry the projection of its row on its column. -/
theorem out_at (c : Dev nD) (t : Fin cfg0.N) (r : Fin 128) (k : Fin 768) (n : Fin 768) (h : n.val = t.val % 1 * 768 + k.val) :
    outsAt0 m c t (ix2 r k) = proj (X m c (row t.val t.isLt r)) (G m c) (W m c n) := by
  unfold outsAt0; frame_out
  refine (pay2_at _ _ r k).trans (Finset.sum_congr rfl fun j _ => ?_)
  exact congrArg₂ (· * ·) (fresh m c t r j) (wblk m c t j k n h)

/-- The array of the projections of all rows on all columns. -/
def arr (c : Dev nD) : S128x768.Idx → EReal := fun i => proj (X m c (i 0)) (G m c) (W m c (i 1))

/-- After the last grid point the result array holds them. -/
theorem final (c : Dev nD) : (dats m 0 c).arrAt 3 (cfgs 0).N = arr m c := by
  refine (dats m 0 c).arrAt_eq_of_covers 3 _ (by decide +kernel) fun t _ y => ?_
  blk_simp
  rw [after0_3]
  obtain ⟨r, k, rfl⟩ : ∃ (r : Fin 128) (k : Fin 768), y = ix2 r k := ⟨y 0, y 1, eq_ix2 y⟩
  have ht : t.val % 1 < 1 := Nat.mod_lt _ (by decide)
  refine (out_at m c t r k ⟨t.val % 1 * 768 + k.val, by omega⟩ rfl).trans ?_
  refine Eq.trans (b := arr m c (ix2 (row t.val t.isLt r) ⟨t.val % 1 * 768 + k.val, by omega⟩)) rfl (congrArg _ ?_)
  blk_ext [idx t]

variable (x0 : Vec Ideal S128x1x1024 .f32) (x1 : Vec Ideal S1x1024 .f32) (x2 : Vec Ideal S1x1024x10856 .f32)

/-- The row of sample `r`. -/
def rowOf (r : Fin 128) (k : Fin 1024) : EReal := x0 (ix3 r 0 k)

/-- The reference's product at row `r` and column `q`. -/
theorem ref_at (r : Fin 128) (q : Fin 10856) :
    val_main_v16 (F := Ideal) x0 x1 x2 (ix2 r q) = proj (rowOf x0 r) (fun k => x1 (ix2 0 k)) (fun k => x2 (ix3 0 k q)) := by
  have e : ∀ k, val_main_v15 (F := Ideal) x0 x1 (ix2 r k) = nrm (rowOf x0 r) (fun k => x1 (ix2 0 k)) k := by
    intro k
    unfold nrm rowOf
    pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e3 : ∀ k (q : Fin 10856), val_main_v2 (F := Ideal) x2 (ix2 k q) = x2 (ix3 0 k q) := by
    intro k q
    pointwise [val_main_v2]
  unfold proj
  simp only [← e]
  pointwise [val_main_v16]
  simp only [e3]

/-- What the lines before the call leave in a buffer. -/
theorem V_eq (c : Dev nD) (b : Ref sig .tc) :
    V (F := Ideal) m c b = StableHlo.after (hostOps0 (F := Ideal)) (fun b => m (c, b)) (Proc.tc.devRef b) := rfl

/-- The call's rows are the samples'. -/
theorem X_at (c : Dev nD) (r : Fin 128) (h : r.val < 128) (k : Fin 1024) :
    X m c r k = rowOf (m ((c : Thread nD τ).loc main_arg0)) ⟨r.val, h⟩ k := by
  unfold rowOf
  show V (F := Ideal) m c main_v0 (ix2 r k) = _
  rw [V_eq]
  after_results
  pointwise

/-- The call's gain is the argument's. -/
theorem G_at (c : Dev nD) (k : Fin 1024) : G m c k = (m ((c : Thread nD τ).loc main_arg1) : Vec Ideal S1x1024 .f32) (ix2 0 k) := by
  show V (F := Ideal) m c main_v9 (ix2 0 k) = _
  rw [V_eq]
  after_results
  pointwise

/-- The call's columns are the indexer's queries, its key and weights, zeros, the step sizes and zeros, one after the other. -/
theorem V_cols (c : Dev nD) : (V (F := Ideal) m c main_v8 : S1024x768.Idx → EReal)
    = concatenate S1024x768 1 [⟨S1024x512, (V (F := Ideal) m c main_v3 : Vec Ideal S1024x512 .f32)⟩, ⟨S1024x72, (V (F := Ideal) m c main_v4 : Vec Ideal S1024x72 .f32)⟩,
      ⟨S1024x56, (V (F := Ideal) m c main_v5 : Vec Ideal S1024x56 .f32)⟩, ⟨S1024x32, (V (F := Ideal) m c main_v6 : Vec Ideal S1024x32 .f32)⟩,
      ⟨S1024x96, (V (F := Ideal) m c main_v7 : Vec Ideal S1024x96 .f32)⟩] concatenates_S1024x512_S1024x72_S1024x56_S1024x32_S1024x96_S1024x768_d1 := by
  rfl

/-- The queries' columns. -/
theorem V_c0 (c : Dev nD) (n : Fin 512) (k : Fin 1024) : (V (F := Ideal) m c main_v3 : Vec Ideal S1024x512 .f32) (ix2 k n)
    = (m ((c : Thread nD τ).loc main_arg2) : Vec Ideal S1x1024x10856 .f32) (ix3 0 k ⟨3072 + n.val, by omega⟩) := by
  rw [V_eq]
  after_results
  pointwise

/-- The key's and the weights' columns. -/
theorem V_c1 (c : Dev nD) (n : Fin 72) (k : Fin 1024) : (V (F := Ideal) m c main_v4 : Vec Ideal S1024x72 .f32) (ix2 k n)
    = (m ((c : Thread nD τ).loc main_arg2) : Vec Ideal S1x1024x10856 .f32) (ix3 0 k ⟨3584 + n.val, by omega⟩) := by
  rw [V_eq]
  after_results
  pointwise

/-- The step sizes' columns. -/
theorem V_c3 (c : Dev nD) (n : Fin 32) (k : Fin 1024) : (V (F := Ideal) m c main_v6 : Vec Ideal S1024x32 .f32) (ix2 k n)
    = (m ((c : Thread nD τ).loc main_arg2) : Vec Ideal S1x1024x10856 .f32) (ix3 0 k ⟨8776 + n.val, by omega⟩) := by
  rw [V_eq]
  after_results
  pointwise

/-- A column of the call that is not zeros is one of the argument's weights. -/
theorem W_at (c : Dev nD) (n : Fin 768) (q : Fin 10856) (h : (n.val < 584 ∧ q.val = 3072 + n.val) ∨ (640 ≤ n.val ∧ n.val < 672 ∧ q.val = 8136 + n.val)) (k : Fin 1024) :
    W m c n k = (m ((c : Thread nD τ).loc main_arg2) : Vec Ideal S1x1024x10856 .f32) (ix3 0 k q) := by
  refine (congrFun (V_cols m c) (ix2 k n)).trans ?_
  pointwise
  by_cases h1 : n.val < 512
  · rw [dif_pos h1, V_c0]
    congr 2
    exact Fin.ext (by show 3072 + n.val = q.val; omega)
  · by_cases h2 : n.val - 512 < 72
    · rw [dif_neg h1, dif_pos h2, V_c1]
      congr 2
      exact Fin.ext (by show 3584 + (n.val - 512) = q.val; omega)
    · have h3 : ¬ n.val - 512 - 72 < 56 := by omega
      have h4 : n.val - 512 - 72 - 56 < 32 := by omega
      rw [dif_neg h1, dif_neg h2, dif_neg h3, dif_pos h4, V_c3]
      congr 2
      exact Fin.ext (by show 8776 + (n.val - 512 - 72 - 56) = q.val; omega)

/-- An entry of the call's result in a row and a column that the arguments have is the reference's product there. -/
theorem arr_at (c : Dev nD) (r : Fin 128) (n : Fin 768) (r' : Fin 128) (q : Fin 10856) (hr : r.val = r'.val) (h : (n.val < 584 ∧ q.val = 3072 + n.val) ∨ (640 ≤ n.val ∧ n.val < 672 ∧ q.val = 8136 + n.val)) :
    arr m c (ix2 r n) = val_main_v16 (F := Ideal) (m ((c : Thread nD τ).loc main_arg0)) (m ((c : Thread nD τ).loc main_arg1)) (m ((c : Thread nD τ).loc main_arg2)) (ix2 r' q) := by
  have h' : r.val < 128 := hr ▸ r'.isLt
  have er : r' = ⟨r.val, h'⟩ := Fin.ext hr.symm
  subst er
  refine Eq.trans ?_ (ref_at _ _ _ ⟨r.val, h'⟩ q).symm
  have e1 : X m c r = _ := funext fun k => X_at m c r h' k
  have e2 : G m c = _ := funext fun k => G_at m c k
  have e3 : W m c n = _ := funext fun k => W_at m c n q h k
  show proj (X m c r) (G m c) (W m c n) = _
  rw [e1, e2, e3]

/-- What the lines after the call find in its result's buffer. -/
theorem found (c : Dev nD) : Pipeline.withArrays (cfgs 0).spec c (V0 m c) (fun w => (dats m 0 c).arrAt w (cfgs 0).N) (Proc.tc.devRef main_v10) = arr m c :=
  (Pipeline.withArrays_arr (cfgs 0).spec launch0.win.arr_inj c (V0 m c) (fun w => (dats m 0 c).arrAt w (cfgs 0).N) 3).trans (final m c)

/-- The reference's result 0 of this memory's arguments. -/
abbrev result0 (c : Dev nD) := val_main_v17 (F := Ideal) (m ((c : Thread nD τ).loc main_arg0)) (m ((c : Thread nD τ).loc main_arg1)) (m ((c : Thread nD τ).loc main_arg2))

/-- The slice taken after the call is the reference's result 0. -/
theorem tail0 (c : Dev nD) : Pipeline.afterTail₀ cfgs (dats m) 0 (V0 m) [hostOps1] c main_v11 = result0 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 128) (n : Fin 512), i = ix2 r n := ⟨i 0, i 1, eq_ix2 i⟩
  refine Eq.trans (b := arr m c (ix2 ⟨r.val, by omega⟩ ⟨n.val, by omega⟩)) (by pointwise) ?_
  refine (arr_at m c _ _ ⟨r.val, by omega⟩ ⟨3072 + n.val, by omega⟩ rfl (by first | rfl | (dsimp only; omega))).trans ?_
  pointwise [val_main_v17]

/-- The reference's result 1 of this memory's arguments. -/
abbrev result1 (c : Dev nD) := val_main_v18 (F := Ideal) (m ((c : Thread nD τ).loc main_arg0)) (m ((c : Thread nD τ).loc main_arg1)) (m ((c : Thread nD τ).loc main_arg2))

/-- The slice taken after the call is the reference's result 1. -/
theorem tail1 (c : Dev nD) : Pipeline.afterTail₀ cfgs (dats m) 0 (V0 m) [hostOps1] c main_v12 = result1 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 128) (n : Fin 64), i = ix2 r n := ⟨i 0, i 1, eq_ix2 i⟩
  refine Eq.trans (b := arr m c (ix2 ⟨r.val, by omega⟩ ⟨512 + n.val, by omega⟩)) (by pointwise) ?_
  refine (arr_at m c _ _ ⟨r.val, by omega⟩ ⟨3584 + n.val, by omega⟩ rfl (by first | rfl | (dsimp only; omega))).trans ?_
  pointwise [val_main_v18]

/-- The reference's result 2 of this memory's arguments. -/
abbrev result2 (c : Dev nD) := val_main_v19 (F := Ideal) (m ((c : Thread nD τ).loc main_arg0)) (m ((c : Thread nD τ).loc main_arg1)) (m ((c : Thread nD τ).loc main_arg2))

/-- The slice taken after the call is the reference's result 2. -/
theorem tail2 (c : Dev nD) : Pipeline.afterTail₀ cfgs (dats m) 0 (V0 m) [hostOps1] c main_v13 = result2 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 128) (n : Fin 8), i = ix2 r n := ⟨i 0, i 1, eq_ix2 i⟩
  refine Eq.trans (b := arr m c (ix2 ⟨r.val, by omega⟩ ⟨576 + n.val, by omega⟩)) (by pointwise) ?_
  refine (arr_at m c _ _ ⟨r.val, by omega⟩ ⟨3648 + n.val, by omega⟩ rfl (by first | rfl | (dsimp only; omega))).trans ?_
  pointwise [val_main_v19]

/-- The reference's result 3 of this memory's arguments. -/
abbrev result3 (c : Dev nD) := val_main_v20 (F := Ideal) (m ((c : Thread nD τ).loc main_arg0)) (m ((c : Thread nD τ).loc main_arg1)) (m ((c : Thread nD τ).loc main_arg2))

/-- The slice taken after the call is the reference's result 3. -/
theorem tail3 (c : Dev nD) : Pipeline.afterTail₀ cfgs (dats m) 0 (V0 m) [hostOps1] c main_v14 = result3 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 128) (n : Fin 32), i = ix2 r n := ⟨i 0, i 1, eq_ix2 i⟩
  refine Eq.trans (b := arr m c (ix2 ⟨r.val, by omega⟩ ⟨640 + n.val, by omega⟩)) (by pointwise) ?_
  refine (arr_at m c _ _ ⟨r.val, by omega⟩ ⟨8776 + n.val, by omega⟩ rfl (by first | rfl | (dsimp only; omega))).trans ?_
  pointwise [val_main_v20]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v11) = result0 m c
      ∧ r.2.mem ((c.tc : Thread nD τ).loc main_v12) = result1 m c
      ∧ r.2.mem ((c.tc : Thread nD τ).loc main_v13) = result2 m c
      ∧ r.2.mem ((c.tc : Thread nD τ).loc main_v14) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (unchanged m ρ))
  exact ⟨((h.1 c).2 main_v11 (Pipeline.mem_restRefs_of main_v11 (by decide) (by decide))).trans (tail0 m c),
    ((h.1 c).2 main_v12 (Pipeline.mem_restRefs_of main_v12 (by decide) (by decide))).trans (tail1 m c),
    ((h.1 c).2 main_v13 (Pipeline.mem_restRefs_of main_v13 (by decide) (by decide))).trans (tail2 m c),
    ((h.1 c).2 main_v14 (Pipeline.mem_restRefs_of main_v14 (by decide) (by decide))).trans (tail3 m c), h.2 c⟩

end Cert.Kernel9Ideal.Proj

end
-- ==== Proof.SampleQkv.lean ====
module

public import proofs.«01_k».proof.Proof.Gen.Kernel8Ideal.Frame
public import proofs.«01_k».proof.Proof.Gen.Reference8Ideal.Read
public import proofs.«01_k».proof.Proof.Rms
public import Idealize.ShloMosaic.Lib.Pipeline.ValueKit
public import Idealize.ShloMosaic.Lib.Pipeline.ReadBack

/-!
The queries, keys and values of the samples: each row is normalised and multiplied with its columns of the weights; the call's result is the reference's.

The padded rows are walked 128 at a time and the columns 1024 at a time, the columns inside. The first column tile of a row tile normalises the rows and keeps them for the others.
-/

@[expose] public section

set_option maxRecDepth 16384

noncomputable section

namespace Cert.Kernel8Ideal.Proj

open Cert.Kernel8Ideal Cert.Kernel8Ideal.Gen Idealize.ShloMosaic Idealize.ShloMosaic.TcCoe Idealize.SL.Sem
open Idealize.ShloMosaic.Pipeline (Dat)
open Cert.Reference8Ideal.Read Cert.Rms

variable (m : (ℓ : Loc nD τ sig) → Buf (Elt Ideal) ℓ)

/-- Which block each window holds at grid point `t`: the rows' and the result's move with the row tile, the weights' and the result's with the column tile. -/
theorem idx : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- What the body keeps in its scratch: the block's rows, normalised. -/
theorem pay1_at (x : Vec Ideal S128x1024 .f32) (g : Vec Ideal S1x1024 .f32) (r : Fin 128) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S128x1024 .bf16) (w : Vec Ideal S1024x1024 .bf16) (r : Fin 128) (k : Fin 1024) :
    k0_pay2 h w (ix2 r k) = ∑ j : Fin 1024, h (ix2 r j) * w (ix2 j k) := by
  pointwise [k0_pay2]

/-- Row `r` of the rows the call is handed. -/
abbrev X (c : Dev nD) (r : Fin 128) (k : Fin 1024) : EReal := V (F := Ideal) m c main_v3 (ix2 r k)

/-- The gain the call is handed. -/
abbrev G (c : Dev nD) (k : Fin 1024) : EReal := V (F := Ideal) m c main_v5 (ix2 0 k)

/-- Column `n` of the weights the call is handed. -/
abbrev W (c : Dev nD) (n : Fin 3072) (k : Fin 1024) : EReal := V (F := Ideal) m c main_v2 (ix2 k n)

/-- The row of the whole array that is row `r` of the tile met at grid point `n`. -/
abbrev row (n : ℕ) (hn : n < cfg0.N) (r : Fin 128) : Fin 128 := ⟨n / 3 * 128 + r.val, by have h : cfg0.N = 3 := rfl; omega⟩

/-- Where the body normalises, it normalises the rows of its own tile. -/
theorem fresh (c : Dev nD) (t : Fin cfg0.N) (r : Fin 128) (k : Fin 1024) :
    k0_pay1 (iblk m c 0 t) (iblk m c 1 t) (ix2 r k) = nrm (X m c (row t.val t.isLt r)) (G m c) k := by
  refine (pay1_at _ _ r k).trans ?_
  have hx : (fun j : Fin 1024 => (iblk m c 0 t) (ix2 r j)) = X m c (row t.val t.isLt r) := by
    funext j
    blk_point [iblk, idx t]
  have hg : (fun j : Fin 1024 => (iblk m c 1 t) (ix2 0 j)) = G m c := by
    funext j
    blk_point [iblk, idx t]
  exact congrArg₂ (fun a b => nrm a b k) hx hg

/-- The block of the weights at grid point `t` is column tile `t % 3`. -/
theorem wblk (c : Dev nD) (t : Fin cfg0.N) (j : Fin 1024) (k : Fin 1024) (n : Fin 3072) (h : n.val = t.val % 3 * 1024 + k.val) :
    (iblk m c 2 t) (ix2 j k) = W m c n j := by
  blk_point [iblk, idx t]

/-- Past the first column tile the scratch is what the point before left. -/
theorem keep (c : Dev nD) (t : Fin cfg0.N) (h : ¬ t.val % 3 = 0) :
    (outsAt0 m c t.val t.isLt).2 = (outsAt0 m c (t.val - 1) (Nat.lt_of_le_of_lt (Nat.sub_le _ _) t.isLt)).2 := by
  rw [outsAt0_B m c t h, sout0_B_0]

/-- After every grid point the scratch holds the normalised rows of the point's row tile. -/
theorem scr (c : Dev nD) : ∀ (n : ℕ) (hn : n < cfg0.N) (r : Fin 128) (k : Fin 1024),
    (outsAt0 m c n hn).2 (ix2 r k) = nrm (X m c (row n hn r)) (G m c) k := by
  intro n
  induction n with
  | zero =>
    intro hn r k
    rw [outsAt0_A m c ⟨0, hn⟩ rfl]; frame_out
    exact fresh m c ⟨0, hn⟩ r k
  | succ n ih =>
    intro hn r k
    by_cases h : (n + 1) % 3 = 0
    · rw [outsAt0_A m c ⟨n + 1, hn⟩ h]; frame_out
      exact fresh m c ⟨n + 1, hn⟩ r k
    · have hr : row n (Nat.lt_of_succ_lt hn) r = row (n + 1) hn r := Fin.ext (by show n / 3 * 128 + r.val = (n + 1) / 3 * 128 + r.val; omega)
      rw [← hr]
      exact (congrFun (keep m c ⟨n + 1, hn⟩ h) _).trans (ih _ r k)

/-- The block stored at grid point `t`: each entry the projection of its row on its column. -/
theorem out_at (c : Dev nD) (t : Fin cfg0.N) (r : Fin 128) (k : Fin 1024) (n : Fin 3072) (h : n.val = t.val % 3 * 1024 + k.val) :
    (outsAt0 m c t.val t.isLt).1 (ix2 r k) = proj (X m c (row t.val t.isLt r)) (G m c) (W m c n) := by
  by_cases h0 : t.val % 3 = 0
  · rw [outsAt0_A m c t h0]; frame_out
    refine (pay2_at _ _ r k).trans (Finset.sum_congr rfl fun j _ => ?_)
    exact congrArg₂ (· * ·) (fresh m c t r j) (wblk m c t j k n h)
  · have e := scr m c t.val t.isLt
    rw [keep m c t h0] at e
    rw [outsAt0_B m c t h0]; frame_out
    rw [read_unread_whole]
    refine (pay2_at _ _ r k).trans (Finset.sum_congr rfl fun j _ => ?_)
    exact congrArg₂ (· * ·) (e r j) (wblk m c t j k n h)

/-- The array of the projections of all rows on all columns. -/
def arr (c : Dev nD) : S128x3072.Idx → EReal := fun i => proj (X m c (i 0)) (G m c) (W m c (i 1))

/-- After the last grid point the result array holds them. -/
theorem final (c : Dev nD) : (dats m 0 c).arrAt 3 (cfgs 0).N = arr m c := by
  refine (dats m 0 c).arrAt_eq_of_covers 3 _ (by decide +kernel) fun t _ y => ?_
  blk_simp
  rw [after0_3]
  obtain ⟨r, k, rfl⟩ : ∃ (r : Fin 128) (k : Fin 1024), y = ix2 r k := ⟨y 0, y 1, eq_ix2 y⟩
  have ht : t.val % 3 < 3 := Nat.mod_lt _ (by decide)
  refine (out_at m c t r k ⟨t.val % 3 * 1024 + k.val, by omega⟩ rfl).trans ?_
  refine Eq.trans (b := arr m c (ix2 (row t.val t.isLt r) ⟨t.val % 3 * 1024 + k.val, by omega⟩)) rfl (congrArg _ ?_)
  blk_ext [idx t]

variable (x0 : Vec Ideal S128x1x1024 .f32) (x1 : Vec Ideal S1x1024 .f32) (x2 : Vec Ideal S1x1024x10856 .f32)

/-- The row of sample `r`. -/
def rowOf (r : Fin 128) (k : Fin 1024) : EReal := x0 (ix3 r 0 k)

/-- The reference's product at row `r` and column `q`. -/
theorem ref_at (r : Fin 128) (q : Fin 10856) :
    val_main_v16 (F := Ideal) x0 x1 x2 (ix2 r q) = proj (rowOf x0 r) (fun k => x1 (ix2 0 k)) (fun k => x2 (ix3 0 k q)) := by
  have e : ∀ k, val_main_v15 (F := Ideal) x0 x1 (ix2 r k) = nrm (rowOf x0 r) (fun k => x1 (ix2 0 k)) k := by
    intro k
    unfold nrm rowOf
    pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e3 : ∀ k (q : Fin 10856), val_main_v2 (F := Ideal) x2 (ix2 k q) = x2 (ix3 0 k q) := by
    intro k q
    pointwise [val_main_v2]
  unfold proj
  simp only [← e]
  pointwise [val_main_v16]
  simp only [e3]

/-- What the lines before the call leave in a buffer. -/
theorem V_eq (c : Dev nD) (b : Ref sig .tc) :
    V (F := Ideal) m c b = StableHlo.after (hostOps0 (F := Ideal)) (fun b => m (c, b)) (Proc.tc.devRef b) := rfl

/-- The call's rows are the samples'. -/
theorem X_at (c : Dev nD) (r : Fin 128) (h : r.val < 128) (k : Fin 1024) :
    X m c r k = rowOf (m ((c : Thread nD τ).loc main_arg0)) ⟨r.val, h⟩ k := by
  unfold rowOf
  show V (F := Ideal) m c main_v3 (ix2 r k) = _
  rw [V_eq]
  after_results
  pointwise

/-- The call's gain is the argument's. -/
theorem G_at (c : Dev nD) (k : Fin 1024) : G m c k = (m ((c : Thread nD τ).loc main_arg1) : Vec Ideal S1x1024 .f32) (ix2 0 k) := by
  show V (F := Ideal) m c main_v5 (ix2 0 k) = _
  rw [V_eq]
  after_results
  pointwise

/-- The call's columns are those of the argument's weights that begin at 0. -/
theorem W_at (c : Dev nD) (n : Fin 3072) (q : Fin 10856) (h : q.val = n.val) (k : Fin 1024) :
    W m c n k = (m ((c : Thread nD τ).loc main_arg2) : Vec Ideal S1x1024x10856 .f32) (ix3 0 k q) := by
  obtain ⟨q, hq⟩ := q
  subst h
  show V (F := Ideal) m c main_v2 (ix2 k n) = _
  rw [V_eq]
  after_results
  pointwise

/-- An entry of the call's result in a row and a column that the arguments have is the reference's product there. -/
theorem arr_at (c : Dev nD) (r : Fin 128) (n : Fin 3072) (r' : Fin 128) (q : Fin 10856) (hr : r.val = r'.val) (h : q.val = n.val) :
    arr m c (ix2 r n) = val_main_v16 (F := Ideal) (m ((c : Thread nD τ).loc main_arg0)) (m ((c : Thread nD τ).loc main_arg1)) (m ((c : Thread nD τ).loc main_arg2)) (ix2 r' q) := by
  have h' : r.val < 128 := hr ▸ r'.isLt
  have er : r' = ⟨r.val, h'⟩ := Fin.ext hr.symm
  subst er
  refine Eq.trans ?_ (ref_at _ _ _ ⟨r.val, h'⟩ q).symm
  have e1 : X m c r = _ := funext fun k => X_at m c r h' k
  have e2 : G m c = _ := funext fun k => G_at m c k
  have e3 : W m c n = _ := funext fun k => W_at m c n q h k
  show proj (X m c r) (G m c) (W m c n) = _
  rw [e1, e2, e3]

/-- What the lines after the call find in its result's buffer. -/
theorem found (c : Dev nD) : Pipeline.withArrays (cfgs 0).spec c (V0 m c) (fun w => (dats m 0 c).arrAt w (cfgs 0).N) (Proc.tc.devRef main_v6) = arr m c :=
  (Pipeline.withArrays_arr (cfgs 0).spec launch0.win.arr_inj c (V0 m c) (fun w => (dats m 0 c).arrAt w (cfgs 0).N) 3).trans (final m c)

/-- The reference's result 0 of this memory's arguments. -/
abbrev result0 (c : Dev nD) := val_main_v17 (F := Ideal) (m ((c : Thread nD τ).loc main_arg0)) (m ((c : Thread nD τ).loc main_arg1)) (m ((c : Thread nD τ).loc main_arg2))

/-- The slice taken after the call is the reference's result 0. -/
theorem tail0 (c : Dev nD) : Pipeline.afterTail₀ cfgs (dats m) 0 (V0 m) [hostOps1] c main_v7 = result0 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 128) (n : Fin 1024), i = ix2 r n := ⟨i 0, i 1, eq_ix2 i⟩
  refine Eq.trans (b := arr m c (ix2 ⟨r.val, by omega⟩ ⟨n.val, by omega⟩)) (by pointwise) ?_
  refine (arr_at m c _ _ ⟨r.val, by omega⟩ ⟨n.val, by omega⟩ rfl rfl).trans ?_
  pointwise [val_main_v17]

/-- The reference's result 1 of this memory's arguments. -/
abbrev result1 (c : Dev nD) := val_main_v18 (F := Ideal) (m ((c : Thread nD τ).loc main_arg0)) (m ((c : Thread nD τ).loc main_arg1)) (m ((c : Thread nD τ).loc main_arg2))

/-- The slice taken after the call is the reference's result 1. -/
theorem tail1 (c : Dev nD) : Pipeline.afterTail₀ cfgs (dats m) 0 (V0 m) [hostOps1] c main_v8 = result1 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 128) (n : Fin 1024), i = ix2 r n := ⟨i 0, i 1, eq_ix2 i⟩
  refine Eq.trans (b := arr m c (ix2 ⟨r.val, by omega⟩ ⟨1024 + n.val, by omega⟩)) (by pointwise) ?_
  refine (arr_at m c _ _ ⟨r.val, by omega⟩ ⟨1024 + n.val, by omega⟩ rfl (by first | rfl | (dsimp only; omega))).trans ?_
  pointwise [val_main_v18]

/-- The reference's result 2 of this memory's arguments. -/
abbrev result2 (c : Dev nD) := val_main_v19 (F := Ideal) (m ((c : Thread nD τ).loc main_arg0)) (m ((c : Thread nD τ).loc main_arg1)) (m ((c : Thread nD τ).loc main_arg2))

/-- The slice taken after the call is the reference's result 2. -/
theorem tail2 (c : Dev nD) : Pipeline.afterTail₀ cfgs (dats m) 0 (V0 m) [hostOps1] c main_v9 = result2 m c := by
  unfold Pipeline.afterTail₀
  have e : StableHlo.after [hostOps1 (F := Ideal)].flatten = StableHlo.after (hostOps1 (F := Ideal)) := rfl
  rw [e]
  after_results
  rw [found]
  funext i
  obtain ⟨r, n, rfl⟩ : ∃ (r : Fin 128) (n : Fin 1024), i = ix2 r n := ⟨i 0, i 1, eq_ix2 i⟩
  refine Eq.trans (b := arr m c (ix2 ⟨r.val, by omega⟩ ⟨2048 + n.val, by omega⟩)) (by pointwise) ?_
  refine (arr_at m c _ _ ⟨r.val, by omega⟩ ⟨2048 + n.val, by omega⟩ rfl (by first | rfl | (dsimp only; omega))).trans ?_
  pointwise [val_main_v19]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v7) = result0 m c
      ∧ r.2.mem ((c.tc : Thread nD τ).loc main_v8) = result1 m c
      ∧ r.2.mem ((c.tc : Thread nD τ).loc main_v9) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (unchanged m ρ))
  exact ⟨((h.1 c).2 main_v7 (Pipeline.mem_restRefs_of main_v7 (by decide) (by decide))).trans (tail0 m c),
    ((h.1 c).2 main_v8 (Pipeline.mem_restRefs_of main_v8 (by decide) (by decide))).trans (tail1 m c),
    ((h.1 c).2 main_v9 (Pipeline.mem_restRefs_of main_v9 (by decide) (by decide))).trans (tail2 m c), h.2 c⟩

end Cert.Kernel8Ideal.Proj

end
-- ==== Proof.Kernel11IdealH.lean ====
module

public import proofs.«01_k».proof.Proof.Gen.Kernel11Ideal.Regions
public import Idealize.ShloMosaic.Lib.Pipeline.ValueKit

/-!
What the host lines between the four calls of the decoding step leave in the arrays the calls are handed, entry by entry, from any contents `W` before the lines.
-/

@[expose] public section

set_option maxRecDepth 16384

noncomputable section

namespace Cert.Kernel11Ideal.Host

open Cert.Kernel11Ideal Cert.Kernel11Ideal.Gen Idealize.ShloMosaic Idealize.ShloMosaic.TcCoe Idealize.SL.Sem

variable (W : Valuation τ sig (Elt Ideal))

/-- The rows the projections read are the samples'. -/
theorem rows (r : Fin 128) (k : Fin 1024) :
    (StableHlo.after (hostOps0 (F := Ideal)) W (Proc.devRef .tc main_v1) : Vec Ideal S128x1024 .f32) (ix2 r k) = (W (Proc.devRef .tc main_arg0) : Vec Ideal S128x1x1024 .f32) (ix3 r 0 k) := by
  after_results
  pointwise

/-- The first call's gain is the argument's. -/
theorem gain0 (k : Fin 1024) :
    (StableHlo.after (hostOps0 (F := Ideal)) W (Proc.devRef .tc main_v5) : Vec Ideal S1x1024 .f32) (ix2 0 k) = (W (Proc.devRef .tc main_arg3) : Vec Ideal S1x1024 .f32) (ix2 0 k) := by
  after_results
  pointwise

/-- The first call's columns are those that begin at 3656. -/
theorem weights0 (k : Fin 1024) (n : Fin 2048) (q : Fin 10856) (h : q.val = 3656 + n.val) :
    (StableHlo.after (hostOps0 (F := Ideal)) W (Proc.devRef .tc main_v4) : Vec Ideal S1024x2048 .bf16) (ix2 k n) = (W (Proc.devRef .tc main_arg4) : Vec Ideal S1x1024x10856 .f32) (ix3 0 k q) := by
  obtain ⟨q, hq⟩ := q
  subst h
  after_results
  pointwise

/-- The weights without their leading axis. -/
theorem all0 (k : Fin 1024) (q : Fin 10856) :
    (StableHlo.after (hostOps0 (F := Ideal)) W (Proc.devRef .tc main_v0) : Vec Ideal S1024x10856 .f32) (ix2 k q) = (W (Proc.devRef .tc main_arg4) : Vec Ideal S1x1024x10856 .f32) (ix3 0 k q) := by
  after_results
  pointwise

/-- The second call's gain is the argument's. -/
theorem gain1 (k : Fin 1024) :
    (StableHlo.after (hostOps1 (F := Ideal)) W (Proc.devRef .tc main_v10) : Vec Ideal S1x1024 .f32) (ix2 0 k) = (W (Proc.devRef .tc main_arg3) : Vec Ideal S1x1024 .f32) (ix2 0 k) := by
  after_results
  pointwise

/-- The second call's columns are those that begin at 5704. -/
theorem weights1 (k : Fin 1024) (n : Fin 3072) (q : Fin 10856) (h : q.val = 5704 + n.val) :
    (StableHlo.after (hostOps1 (F := Ideal)) W (Proc.devRef .tc main_v9) : Vec Ideal S1024x3072 .bf16) (ix2 k n) = (W (Proc.devRef .tc main_v0) : Vec Ideal S1024x10856 .f32) (ix2 k q) := by
  obtain ⟨q, hq⟩ := q
  subst h
  after_results
  pointwise

/-- The third call's gain is the argument's. -/
theorem gain2 (k : Fin 1024) :
    (StableHlo.after (hostOps2 (F := Ideal)) W (Proc.devRef .tc main_v16) : Vec Ideal S1x1024 .f32) (ix2 0 k) = (W (Proc.devRef .tc main_arg3) : Vec Ideal S1x1024 .f32) (ix2 0 k) := by
  after_results
  pointwise

/-- The third call's columns are those that begin at 8776, each once per channel of its head. -/
theorem weights2 (k : Fin 1024) (n : Fin 2048) (q : Fin 10856) (h : q.val = 8776 + n.val / 64) :
    (StableHlo.after (hostOps2 (F := Ideal)) W (Proc.devRef .tc main_v15) : Vec Ideal S1024x2048 .f32) (ix2 k n) = (W (Proc.devRef .tc main_v0) : Vec Ideal S1024x10856 .f32) (ix2 k q) := by
  obtain ⟨q, hq⟩ := q
  subst h
  after_results
  pointwise

/-- The step's convolution inputs. -/
theorem in0 (r : Fin 128) (j : Fin 3072) :
    (StableHlo.after (hostOps3 (F := Ideal)) W (Proc.devRef .tc main_v18) : Vec Ideal S128x1x3072 .f32) (ix3 r 0 j) = (W (Proc.devRef .tc main_v11) : Vec Ideal S128x3072 .f32) (ix2 r j) := by
  after_results
  pointwise

/-- The step's window of earlier inputs. -/
theorem in1 (r : Fin 128) (s : Fin 3) (j : Fin 3072) :
    (StableHlo.after (hostOps3 (F := Ideal)) W (Proc.devRef .tc main_v19) : Vec Ideal S128x3x3072 .f32) (ix3 r s j) = (W (Proc.devRef .tc main_arg2) : Vec Ideal S1x128x3x3072 .f32) (ix4 0 r s j) := by
  after_results
  pointwise

/-- The step's gates. -/
theorem in2 (r : Fin 128) (j : Fin 2048) :
    (StableHlo.after (hostOps3 (F := Ideal)) W (Proc.devRef .tc main_v20) : Vec Ideal S128x1x2048 .f32) (ix3 r 0 j) = (W (Proc.devRef .tc main_v6) : Vec Ideal S128x2048 .f32) (ix2 r j) := by
  after_results
  pointwise

/-- The step's step sizes, one per channel. -/
theorem in3 (r : Fin 128) (j : Fin 2048) :
    (StableHlo.after (hostOps3 (F := Ideal)) W (Proc.devRef .tc main_v21) : Vec Ideal S128x1x2048 .f32) (ix3 r 0 j) = (W (Proc.devRef .tc main_v17) : Vec Ideal S128x2048 .f32) (ix2 r j) := by
  after_results
  pointwise

/-- The step's states, head and channel side by side. -/
theorem in4 (r : Fin 128) (p : Fin 2048) (n : Fin 128) :
    (StableHlo.after (hostOps3 (F := Ideal)) W (Proc.devRef .tc main_v23) : Vec Ideal S128x2048x128 .f32) (ix3 r p n) = (W (Proc.devRef .tc main_arg1) : Vec Ideal S1x128x32x64x128 .f32) (ix5 0 r ⟨p.val / 64, by omega⟩ ⟨p.val % 64, by omega⟩ n) := by
  after_results
  pointwise

/-- The step's convolution weights. -/
theorem in5 (s : Fin 4) (j : Fin 3072) :
    (StableHlo.after (hostOps3 (F := Ideal)) W (Proc.devRef .tc main_v24) : Vec Ideal S4x3072 .f32) (ix2 s j) = (W (Proc.devRef .tc main_arg5) : Vec Ideal S1x4x3072 .f32) (ix3 0 s j) := by
  after_results
  pointwise

/-- The step's convolution bias. -/
theorem in6 (j : Fin 3072) :
    (StableHlo.after (hostOps3 (F := Ideal)) W (Proc.devRef .tc main_v30) : Vec Ideal S1x3072 .f32) (ix2 0 j) = (W (Proc.devRef .tc main_arg6) : Vec Ideal S1x3072 .f32) (ix2 0 j) := by
  after_results
  pointwise

/-- The step's biases of the step sizes, each once per channel of its head. -/
theorem in7 (p : Fin 2048) :
    (StableHlo.after (hostOps3 (F := Ideal)) W (Proc.devRef .tc main_v33) : Vec Ideal S1x2048 .f32) (ix2 0 p) = (W (Proc.devRef .tc main_arg7) : Vec Ideal S1x32 .f32) (ix2 0 ⟨p.val / 64, by omega⟩) := by
  after_results
  pointwise

/-- The step's decay rates, each once per channel of its head. -/
theorem in8 (p : Fin 2048) :
    (StableHlo.after (hostOps3 (F := Ideal)) W (Proc.devRef .tc main_v36) : Vec Ideal S1x2048 .f32) (ix2 0 p) = (W (Proc.devRef .tc main_arg8) : Vec Ideal S1x32 .f32) (ix2 0 ⟨p.val / 64, by omega⟩) := by
  after_results
  pointwise

/-- The step's skip weights, each once per channel of its head. -/
theorem in9 (p : Fin 2048) :
    (StableHlo.after (hostOps3 (F := Ideal)) W (Proc.devRef .tc main_v39) : Vec Ideal S1x2048 .f32) (ix2 0 p) = (W (Proc.devRef .tc main_arg9) : Vec Ideal S1x32 .f32) (ix2 0 ⟨p.val / 64, by omega⟩) := by
  after_results
  pointwise

/-- The step's norm weights. -/
theorem in10 (p : Fin 2048) :
    (StableHlo.after (hostOps3 (F := Ideal)) W (Proc.devRef .tc main_v40) : Vec Ideal S1x2048 .f32) (ix2 0 p) = (W (Proc.devRef .tc main_arg10) : Vec Ideal S1x2048 .f32) (ix2 0 p) := by
  after_results
  pointwise

end Cert.Kernel11Ideal.Host

end
-- ==== Proof.Kernel11IdealR0.lean ====
/- The region of `sample_z` in `Kernel11Ideal`: its body's run at each grid point over any entry contents of its arrays,
    and what its output array holds afterwards. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel11Ideal.R0

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the array the region finds. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 stages its own block, in any proof data over `V`. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 stages its own block, in any proof data over `V`. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 stages its own block, in any proof data over `V`. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's branch condition. -/
abbrev cond0_0 (i : grid0.Coords) : Prop := (Scalar.cmpi .ne (Scalar.extui (Scalar.cmpi .eq (BitVec.ofNat 32 (i 1).val) 0#32)) 0#32) = 1#1
/-- It holds at the first column tile of a row tile. -/
theorem hcond0_0 : ∀ t : Fin cfg0.N, cond0_0 (grid0.coords t) ↔ t.val % 2 = 0 :=
  (fun t => by
    have ht : t.val < 2 := Nat.lt_of_lt_of_eq t.isLt N_0
    have e0 : (grid0.coords t 0).val = t.val / 2 % 1 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The view of output 3. -/
abbrev VO0_3 : View sig .tc .vmem S128x1024 .f32 := (Memref.whole cc0_stg3_0 : Memref sig .tc .vmem S128x1024 .f32).view
/-- Window 0's staging buffer at a grid point. -/
abbrev ms0_0 (t : Fin cfg0.N) : Memref sig .tc .vmem S128x1024 .f32 := win0_0.stage (cfg0.slots t 0)
/-- It is a whole buffer. -/
abbrev hs0_0 (t : Fin cfg0.N) : (ms0_0 t).IsWhole := hstage0_0 ((cfg0.slots t 0).cast nbuf0_0)
/-- Window 1's staging buffer at a grid point. -/
abbrev ms0_1 (t : Fin cfg0.N) : Memref sig .tc .vmem S1x1024 .f32 := win0_1.stage (cfg0.slots t 1)
/-- It is a whole buffer. -/
abbrev hs0_1 (t : Fin cfg0.N) : (ms0_1 t).IsWhole := hstage0_1 ((cfg0.slots t 1).cast nbuf0_1)
/-- Window 2's staging buffer at a grid point. -/
abbrev ms0_2 (t : Fin cfg0.N) : Memref sig .tc .vmem S1024x1024 .bf16 := win0_2.stage (cfg0.slots t 2)
/-- It is a whole buffer. -/
abbrev hs0_2 (t : Fin cfg0.N) : (ms0_2 t).IsWhole := hstage0_2 ((cfg0.slots t 2).cast nbuf0_2)
/-- Window 3's staging buffer at a grid point. -/
abbrev ms0_3 (t : Fin cfg0.N) : Memref sig .tc .vmem S128x1024 .f32 := win0_3.stage (cfg0.slots t 3)
/-- It is a whole buffer. -/
abbrev hs0_3 (t : Fin cfg0.N) : (ms0_3 t).IsWhole := hstage0_3 ((cfg0.slots t 3).cast nbuf0_3)
/-- The scratch. -/
abbrev scM0_0 : Memref sig .tc .vmem S128x1024 .bf16 := Memref.whole cc0_scratch0
/-- Its view. -/
abbrev VS0_0 : View sig .tc .vmem S128x1024 .bf16 := scM0_0.view

/-- The scoped buffers the region neither stages nor carries. -/
abbrev rest (c : Dev nD) : sProp 𝕄 := Pipeline.scopedRestBut spec0 c [cc0_scratch0]

/-- The region's scoped buffers, the scratch apart. -/
theorem PhiA0_eq (c : Dev nD) :
    (Pipeline.ΦA spec0 c : sProp 𝕄)
      = iprop(iprop((∃ d, owns (c : Thread nD τ) scM0_0 fullShare d) ∗ rest (F := F) c) ∗ (∃ r, prngReg c r)) := by
  unfold Pipeline.ΦA; rw [scopedRest0_split]; simp only [scM0_0, owns_whole]; try rfl

set_option maxHeartbeats 1000000 in
/-- The body's run at the first point, with the pieces it leaves in the output and the scratch. -/
noncomputable def kernelRun0_A (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond0_0 i)
    (x0 : Vec F S128x1024 .f32) (x1 : Vec F S1x1024 .f32) (x2 : Vec F S1024x1024 .bf16) :
    Σ' (L3 : List (View.Piece (Elt F) S128x1024 .f32)), { LS0 : List (View.Piece (Elt F) S128x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_sample_z i arg2 harg2 arg3 harg3 arg4 harg4 arg5 harg5 arg6 harg6) K } := by
  refine ⟨?_, ?_, fun E K => ?run⟩
  case run =>
    simp only [cc0_sample_z_eq_skeleton]; unfold cc0_sample_z_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- The body's run at a later point: the scratch is read and left as it was. -/
noncomputable def kernelRun0_B (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : ¬cond0_0 i)
    (x0 : Vec F S128x1024 .f32) (x1 : Vec F S1x1024 .f32) (x2 : Vec F S1024x1024 .bf16) (xs0 : Vec F S128x1024 .bf16) :
    Σ' (L3 : List (View.Piece (Elt F) S128x1024 .f32)), { LS0 : List (View.Piece (Elt F) S128x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc0_sample_z i arg2 harg2 arg3 harg3 arg4 harg4 arg5 harg5 arg6 harg6) K } := by
  refine ⟨?_, [], fun E K => ?run⟩
  case run =>
    simp only [cc0_sample_z_eq_skeleton]; unfold cc0_sample_z_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0
/-- The stores fill output 3. -/
theorem cover0_A_3 (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond0_0 i)
    (x0 : Vec F S128x1024 .f32) (x1 : Vec F S1x1024 .f32) (x2 : Vec F S1024x1024 .bf16) (y : S128x1024.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S128x1024.size (by sl_kernel_rfl) y

/-- What output 3 then holds. -/
def out0_A_3 (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond0_0 i)
    (x0 : Vec F S128x1024 .f32) (x1 : Vec F S1x1024 .f32) (x2 : Vec F S1024x1024 .bf16) : Vec F S128x1024 .f32 :=
  VO0_3.read (Elt F) (VO0_3.writes (Elt F) VO0_3.junk (kernelRun0_A c i arg2 harg2 arg3 harg3 arg4 harg4 arg5 harg5 arg6 harg6 hc0 x0 x1 x2).1)

/-- The store fills the scratch. -/
theorem scover0_A_0 (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond0_0 i)
    (x0 : Vec F S128x1024 .f32) (x1 : Vec F S1x1024 .f32) (x2 : Vec F S1024x1024 .bf16) (y : S128x1024.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S128x1024.size (by sl_kernel_rfl) y

/-- What the scratch then holds. -/
def sout0_A_0 (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond0_0 i)
    (x0 : Vec F S128x1024 .f32) (x1 : Vec F S1x1024 .f32) (x2 : Vec F S1024x1024 .bf16) : Vec F S128x1024 .bf16 :=
  VS0_0.read (Elt F) (VS0_0.writes (Elt F) VS0_0.junk (kernelRun0_A c i arg2 harg2 arg3 harg3 arg4 harg4 arg5 harg5 arg6 harg6 hc0 x0 x1 x2).2.1)

/-- The store fills output 3. -/
theorem cover0_B_3 (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : ¬cond0_0 i)
    (x0 : Vec F S128x1024 .f32) (x1 : Vec F S1x1024 .f32) (x2 : Vec F S1024x1024 .bf16) (xs0 : Vec F S128x1024 .bf16) (y : S128x1024.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S128x1024.size (by sl_kernel_rfl) y

/-- What output 3 then holds. -/
def out0_B_3 (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : ¬cond0_0 i)
    (x0 : Vec F S128x1024 .f32) (x1 : Vec F S1x1024 .f32) (x2 : Vec F S1024x1024 .bf16) (xs0 : Vec F S128x1024 .bf16) : Vec F S128x1024 .f32 :=
  VO0_3.read (Elt F) (VO0_3.writes (Elt F) VO0_3.junk (kernelRun0_B c i arg2 harg2 arg3 harg3 arg4 harg4 arg5 harg5 arg6 harg6 hc0 x0 x1 x2 xs0).1)

/-- What the scratch then holds. -/
def sout0_B_0 (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : ¬cond0_0 i)
    (x0 : Vec F S128x1024 .f32) (x1 : Vec F S1x1024 .f32) (x2 : Vec F S1024x1024 .bf16) (xs0 : Vec F S128x1024 .bf16) : Vec F S128x1024 .bf16 := xs0

/-- What the output's staging buffer and the carried scratch hold after each grid point: at the first point
    the body normalises the rows into the scratch, at the later points it reads them back. -/
def outsAt0 (c : Dev nD) : (n : ℕ) → n < cfg0.N → Vec F S128x1024 .f32 × Vec F S128x1024 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩))
  | n + 1, hn =>
    if h0 : (n + 1) % 2 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (outsAt0 c n (Nat.lt_of_succ_lt hn)).2)

/-- At the first column tile. -/
theorem outsAt0_A (c : Dev nD) (t : Fin cfg0.N) (h0 : t.val % 2 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t)) := by
  obtain ⟨n, hn⟩ := t
  cases n with
  | zero => exact rfl
  | succ n => exact (dif_pos h0).trans rfl

/-- At the later ones. -/
theorem outsAt0_B (c : Dev nD) (t : Fin cfg0.N) (h0 : ¬t.val % 2 = 0) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant between points: before the first point the scratch holds anything, afterwards what the
    last point left; the other scoped buffers and the generator ride along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest (F := F) c) ∗ (∃ r, prngReg c r))

/-- Before the first point nothing is known of the scratch. -/
theorem PhiS_zero (c : Dev nD) (n : ℕ) (h : n ≤ cfg0.N) (hz : n = 0) : PhiS V c n h = Pipeline.ΦA spec0 c := by
  subst hz; rfl

/-- After a point the scratch is what it left. -/
theorem PhiS_succ (c : Dev nD) (n : ℕ) (hn : n < cfg0.N) :
    PhiS V c (n + 1) hn = iprop(iprop(owns (c : Thread nD τ) scM0_0 fullShare ((outsAt0 V c n hn).2) ∗ rest (F := F) c) ∗ (∃ r, prngReg c r)) := rfl

/-- The same at a position that is not the first. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest (F := F) c) ∗ (∃ r, prngReg c r)) := by
  cases n with
  | zero => exact absurd rfl hz
  | succ n => rfl

/-- The proof data of this region over arrays `V`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 V c t.val t.isLt).1
  Φ t := PhiS V c t.val (Nat.le_of_lt_succ t.isLt)
  q _ := fullShare
  owed _ := 0

/-- The arrays of the proof data are `V`'s. -/
theorem A_eq (c : Dev nD) (w : Fin cfg0.W) : (dat V c).A w = V c (Pipeline.arrRef spec0 w) := by
  dsimp only [dat]

/-- The invariant before a point. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves in window 0. -/
theorem after0_0 (c : Dev nD) (t : Fin cfg0.N) : (dat V c).after 0 t = iblk V c 0 t := by dsimp only [dat]
/-- What the body leaves in window 1. -/
theorem after0_1 (c : Dev nD) (t : Fin cfg0.N) : (dat V c).after 1 t = iblk V c 1 t := by dsimp only [dat]
/-- What the body leaves in window 2. -/
theorem after0_2 (c : Dev nD) (t : Fin cfg0.N) : (dat V c).after 2 t = iblk V c 2 t := by dsimp only [dat]
/-- What the body leaves in window 3. -/
theorem after0_3 (c : Dev nD) (t : Fin cfg0.N) : (dat V c).after 3 t = (outsAt0 V c t.val t.isLt).1 := by dsimp only [dat]

/-- The body finds window 0's own block. -/
theorem before0_0 (c : Dev nD) (t : Fin cfg0.N) (d) : (dat V c).before 0 t d = iblk V c 0 t :=
  before0_0_of V (dat V c) (A_eq V c 0) (after0_0 V c) t d
/-- The body finds window 1's own block. -/
theorem before0_1 (c : Dev nD) (t : Fin cfg0.N) (d) : (dat V c).before 1 t d = iblk V c 1 t :=
  before0_1_of V (dat V c) (A_eq V c 1) (after0_1 V c) t d
/-- The body finds window 2's own block. -/
theorem before0_2 (c : Dev nD) (t : Fin cfg0.N) (d) : (dat V c).before 2 t d = iblk V c 2 t :=
  before0_2_of V (dat V c) (A_eq V c 2) (after0_2 V c) t d

/-- What the body is given. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- What the body gives back. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t))

set_option maxHeartbeats 3200000 in
/-- The body runs at every point, from the windows' blocks to the contents `outsAt` states. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt () t.succ = (dat V c).owesAt () t.castSucc from rfl,
    after0_0, after0_1, after0_2, after0_3]
  rw [show (dat V c).Φ t.succ = PhiS V c (t.val + 1) t.isLt from rfl, PhiS_succ]
  have hN : t.val < 2 := lt_of_lt_of_eq t.isLt (show cfg0.N = 2 from N_0)
  by_cases h0 : t.val % 2 = 0
  · by_cases hz : t.val = 0
    · rw [PhiS_castSucc V c t, PhiS_zero V c _ _ hz, PhiA0_eq]
      rw [outsAt0_A V c t h0]
      unfold out0_A_3 sout0_A_0; (try dsimp only)
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk V c 0 t) (iblk V c 1 t) (iblk V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitr [Hg]
        · isplitr [HR]
          swap; · iexact HR
          unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · exfalso; have hN : t.val < 2 := lt_of_lt_of_eq t.isLt (show cfg0.N = 2 from N_0); omega
  · by_cases hz : t.val = 0
    · exfalso; have hN : t.val < 2 := lt_of_lt_of_eq t.isLt (show cfg0.N = 2 from N_0); omega
    · rw [PhiS_castSucc V c t, PhiS_pos V c _ _ hz]
      rw [outsAt0_B V c t h0]
      unfold out0_B_3 sout0_B_0; (try dsimp only)
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 HR Hg]
      · isplitr [Hg]
        · isplitl [HS0]
          · iexact HS0
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _)

/-- The function the program calls at a grid point. -/
theorem defs₀_row (t : Fin cfg0.N) :
    defs₀ (F := F) .tc cfg0.body (cfg0.bodyArgs t (cfg0.slots t)) = bodyAt0 t := by
  unfold defs₀; rw [Defs.onTc_tc]

/-- The same in the library's form. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The invariant holds at the start. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- The invariant gives the scoped buffers back. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HR⟩, Hg⟩
  isplitr [Hg]
  · isplitl [HS0]
    · iexists _; iexact HS0
    iexact HR
  iexact Hg

/-- In particular at the end. -/
theorem hout (c : Dev nD) : (dat V c).Φ (Fin.last cfg0.N) ⊢ Pipeline.ΦA spec0 c :=
  Phi_out V c _ (by rw [Fin.val_last]; have : cfg0.N = 2 := N_0; omega)

end Cert.Kernel11Ideal.R0

end
-- ==== Proof.Kernel11IdealP0.lean ====
module

public import proofs.«01_k».proof.Proof.Kernel11IdealR0
public import proofs.«01_k».proof.Proof.Rms
public import Idealize.ShloMosaic.Lib.Pipeline.ValueKit
public import Idealize.ShloMosaic.Lib.Pipeline.ReadBack

/-!
The call that computes the gates of the decoding step, over whatever arrays it is handed: every entry of its result is the projection of a normalised row on a column of the weights.
-/

@[expose] public section

set_option maxRecDepth 16384

noncomputable section

namespace Cert.Kernel11Ideal.R0

open Cert.Kernel11Ideal Cert.Kernel11Ideal.Gen Idealize.ShloMosaic Idealize.ShloMosaic.TcCoe Idealize.SL.Sem
open Idealize.ShloMosaic.Pipeline (Dat)
open Cert.Rms

variable (V : (c : Dev nD) → (b : Ref sig .tc) → Buf (Elt Ideal) ((c : Thread nD τ).loc b))

/-- Which block each window holds at grid point `t`: the rows' and the result's move with the row tile, the weights' and the result's with the column tile. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

/-- What the body keeps in its scratch: the block's rows, normalised. -/
theorem pay1_at (x : Vec Ideal S128x1024 .f32) (g : Vec Ideal S1x1024 .f32) (r : Fin 128) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S128x1024 .bf16) (w : Vec Ideal S1024x1024 .bf16) (r : Fin 128) (k : Fin 1024) :
    k0_pay2 h w (ix2 r k) = ∑ j : Fin 1024, h (ix2 r j) * w (ix2 j k) := by
  pointwise [k0_pay2]

/-- Row `r` of the rows the call is handed. -/
abbrev X (c : Dev nD) (r : Fin 128) (k : Fin 1024) : EReal := V c main_v1 (ix2 r k)

/-- The gain the call is handed. -/
abbrev G (c : Dev nD) (k : Fin 1024) : EReal := V c main_v5 (ix2 0 k)

/-- Column `n` of the weights the call is handed. -/
abbrev W (c : Dev nD) (n : Fin 2048) (k : Fin 1024) : EReal := V c main_v4 (ix2 k n)

/-- The row of the whole array that is row `r` of the tile met at grid point `n`. -/
abbrev row (n : ℕ) (hn : n < cfg0.N) (r : Fin 128) : Fin 128 := ⟨n / 2 * 128 + r.val, by have h : cfg0.N = 2 := rfl; omega⟩

/-- Where the body normalises, it normalises the rows of its own tile. -/
theorem fresh (c : Dev nD) (t : Fin cfg0.N) (r : Fin 128) (k : Fin 1024) :
    k0_pay1 (iblk V c 0 t) (iblk V c 1 t) (ix2 r k) = nrm (X V c (row t.val t.isLt r)) (G V c) k := by
  refine (pay1_at _ _ r k).trans ?_
  have hx : (fun j : Fin 1024 => (iblk V c 0 t) (ix2 r j)) = X V c (row t.val t.isLt r) := by
    funext j
    blk_point [iblk, idx t]
  have hg : (fun j : Fin 1024 => (iblk V c 1 t) (ix2 0 j)) = G V c := by
    funext j
    blk_point [iblk, idx t]
  exact congrArg₂ (fun a b => nrm a b k) hx hg

/-- The block of the weights at grid point `t` is column tile `t % 2`. -/
theorem wblk (c : Dev nD) (t : Fin cfg0.N) (j : Fin 1024) (k : Fin 1024) (n : Fin 2048) (h : n.val = t.val % 2 * 1024 + k.val) :
    (iblk V c 2 t) (ix2 j k) = W V c n j := by
  blk_point [iblk, idx t]

/-- Past the first column tile the scratch is what the point before left. -/
theorem keep (c : Dev nD) (t : Fin cfg0.N) (h : ¬ t.val % 2 = 0) :
    (outsAt0 V c t.val t.isLt).2 = (outsAt0 V c (t.val - 1) (Nat.lt_of_le_of_lt (Nat.sub_le _ _) t.isLt)).2 := by
  rw [outsAt0_B V c t h, sout0_B_0]

/-- After every grid point the scratch holds the normalised rows of the point's row tile. -/
theorem scr (c : Dev nD) : ∀ (n : ℕ) (hn : n < cfg0.N) (r : Fin 128) (k : Fin 1024),
    (outsAt0 V c n hn).2 (ix2 r k) = nrm (X V c (row n hn r)) (G V c) k := by
  intro n
  induction n with
  | zero =>
    intro hn r k
    rw [outsAt0_A V c ⟨0, hn⟩ rfl]; frame_out
    exact fresh V c ⟨0, hn⟩ r k
  | succ n ih =>
    intro hn r k
    by_cases h : (n + 1) % 2 = 0
    · rw [outsAt0_A V c ⟨n + 1, hn⟩ h]; frame_out
      exact fresh V c ⟨n + 1, hn⟩ r k
    · have hr : row n (Nat.lt_of_succ_lt hn) r = row (n + 1) hn r := Fin.ext (by show n / 2 * 128 + r.val = (n + 1) / 2 * 128 + r.val; omega)
      rw [← hr]
      exact (congrFun (keep V c ⟨n + 1, hn⟩ h) _).trans (ih _ r k)

/-- The block stored at grid point `t`: each entry the projection of its row on its column. -/
theorem out_at (c : Dev nD) (t : Fin cfg0.N) (r : Fin 128) (k : Fin 1024) (n : Fin 2048) (h : n.val = t.val % 2 * 1024 + k.val) :
    (outsAt0 V c t.val t.isLt).1 (ix2 r k) = proj (X V c (row t.val t.isLt r)) (G V c) (W V c n) := by
  by_cases h0 : t.val % 2 = 0
  · rw [outsAt0_A V c t h0]; frame_out
    refine (pay2_at _ _ r k).trans (Finset.sum_congr rfl fun j _ => ?_)
    exact congrArg₂ (· * ·) (fresh V c t r j) (wblk V c t j k n h)
  · have e := scr V c t.val t.isLt
    rw [keep V c t h0] at e
    rw [outsAt0_B V c t h0]; frame_out
    rw [read_unread_whole]
    refine (pay2_at _ _ r k).trans (Finset.sum_congr rfl fun j _ => ?_)
    exact congrArg₂ (· * ·) (e r j) (wblk V c t j k n h)

/-- The array of the projections of all rows on all columns. -/
def arr (c : Dev nD) : S128x2048.Idx → EReal := fun i => proj (X V c (i 0)) (G V c) (W V c (i 1))

/-- After the last grid point the result array holds them. -/
theorem final (c : Dev nD) : (dat V c).arrAt 3 cfg0.N = arr V c := by
  refine (dat V c).arrAt_eq_of_covers 3 _ (by decide +kernel) fun t _ y => ?_
  blk_simp
  rw [after0_3]
  obtain ⟨r, k, rfl⟩ : ∃ (r : Fin 128) (k : Fin 1024), y = ix2 r k := ⟨y 0, y 1, eq_ix2 y⟩
  have ht : t.val % 2 < 2 := Nat.mod_lt _ (by decide)
  refine (out_at V c t r k ⟨t.val % 2 * 1024 + k.val, by omega⟩ rfl).trans ?_
  refine Eq.trans (b := arr V c (ix2 (row t.val t.isLt r) ⟨t.val % 2 * 1024 + k.val, by omega⟩)) rfl (congrArg _ ?_)
  blk_ext [idx t]

end Cert.Kernel11Ideal.R0

end
-- ==== Proof.Kernel11IdealR1.lean ====
/- The region of `sample_xbc` in `Kernel11Ideal`: its body's run at each grid point over any entry contents of its arrays,
    and what its output array holds afterwards. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel11Ideal.R1

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the array the region finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 stages its own block, in any proof data over `V`. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 stages its own block, in any proof data over `V`. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 stages its own block, in any proof data over `V`. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's branch condition. -/
abbrev cond1_0 (i : grid1.Coords) : Prop := (Scalar.cmpi .ne (Scalar.extui (Scalar.cmpi .eq (BitVec.ofNat 32 (i 1).val) 0#32)) 0#32) = 1#1
/-- It holds at the first column tile of a row tile. -/
theorem hcond1_0 : ∀ t : Fin cfg1.N, cond1_0 (grid1.coords t) ↔ t.val % 3 = 0 :=
  (fun t => by
    have ht : t.val < 3 := Nat.lt_of_lt_of_eq t.isLt N_1
    have e0 : (grid1.coords t 0).val = t.val / 3 % 1 := Pipeline.Grid.coords_val t 0 (by decide) rfl
    have e1 : (grid1.coords t 1).val = t.val / 1 % 3 := Pipeline.Grid.coords_val t 1 (by decide) rfl
    simp only [cond1_0, e0, e1]
    word_cmp
   : ∀ t : Fin grid1.N, cond1_0 (grid1.coords t) ↔ t.val % 3 = 0)

/-- The view of output 3. -/
abbrev VO1_3 : View sig .tc .vmem S128x1024 .f32 := (Memref.whole cc1_stg3_0 : Memref sig .tc .vmem S128x1024 .f32).view
/-- Window 0's staging buffer at a grid point. -/
abbrev ms1_0 (t : Fin cfg1.N) : Memref sig .tc .vmem S128x1024 .f32 := win1_0.stage (cfg1.slots t 0)
/-- It is a whole buffer. -/
abbrev hs1_0 (t : Fin cfg1.N) : (ms1_0 t).IsWhole := hstage1_0 ((cfg1.slots t 0).cast nbuf1_0)
/-- Window 1's staging buffer at a grid point. -/
abbrev ms1_1 (t : Fin cfg1.N) : Memref sig .tc .vmem S1x1024 .f32 := win1_1.stage (cfg1.slots t 1)
/-- It is a whole buffer. -/
abbrev hs1_1 (t : Fin cfg1.N) : (ms1_1 t).IsWhole := hstage1_1 ((cfg1.slots t 1).cast nbuf1_1)
/-- Window 2's staging buffer at a grid point. -/
abbrev ms1_2 (t : Fin cfg1.N) : Memref sig .tc .vmem S1024x1024 .bf16 := win1_2.stage (cfg1.slots t 2)
/-- It is a whole buffer. -/
abbrev hs1_2 (t : Fin cfg1.N) : (ms1_2 t).IsWhole := hstage1_2 ((cfg1.slots t 2).cast nbuf1_2)
/-- Window 3's staging buffer at a grid point. -/
abbrev ms1_3 (t : Fin cfg1.N) : Memref sig .tc .vmem S128x1024 .f32 := win1_3.stage (cfg1.slots t 3)
/-- It is a whole buffer. -/
abbrev hs1_3 (t : Fin cfg1.N) : (ms1_3 t).IsWhole := hstage1_3 ((cfg1.slots t 3).cast nbuf1_3)
/-- The scratch. -/
abbrev scM1_0 : Memref sig .tc .vmem S128x1024 .bf16 := Memref.whole cc1_scratch0
/-- Its view. -/
abbrev VS1_0 : View sig .tc .vmem S128x1024 .bf16 := scM1_0.view

/-- The scoped buffers the region neither stages nor carries. -/
abbrev rest (c : Dev nD) : sProp 𝕄 := Pipeline.scopedRestBut spec1 c [cc1_scratch0]

/-- The region's scoped buffers, the scratch apart. -/
theorem PhiA1_eq (c : Dev nD) :
    (Pipeline.ΦA spec1 c : sProp 𝕄)
      = iprop(iprop((∃ d, owns (c : Thread nD τ) scM1_0 fullShare d) ∗ rest (F := F) c) ∗ (∃ r, prngReg c r)) := by
  unfold Pipeline.ΦA; rw [scopedRest1_split]; simp only [scM1_0, owns_whole]; try rfl

set_option maxHeartbeats 1000000 in
/-- The body's run at the first point, with the pieces it leaves in the output and the scratch. -/
noncomputable def kernelRun1_A (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond1_0 i)
    (x0 : Vec F S128x1024 .f32) (x1 : Vec F S1x1024 .f32) (x2 : Vec F S1024x1024 .bf16) :
    Σ' (L3 : List (View.Piece (Elt F) S128x1024 .f32)), { LS0 : List (View.Piece (Elt F) S128x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_sample_xbc i arg2 harg2 arg3 harg3 arg4 harg4 arg5 harg5 arg6 harg6) K } := by
  refine ⟨?_, ?_, fun E K => ?run⟩
  case run =>
    simp only [cc1_sample_xbc_eq_skeleton]; unfold cc1_sample_xbc_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- The body's run at a later point: the scratch is read and left as it was. -/
noncomputable def kernelRun1_B (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : ¬cond1_0 i)
    (x0 : Vec F S128x1024 .f32) (x1 : Vec F S1x1024 .f32) (x2 : Vec F S1024x1024 .bf16) (xs0 : Vec F S128x1024 .bf16) :
    Σ' (L3 : List (View.Piece (Elt F) S128x1024 .f32)), { LS0 : List (View.Piece (Elt F) S128x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc1_sample_xbc i arg2 harg2 arg3 harg3 arg4 harg4 arg5 harg5 arg6 harg6) K } := by
  refine ⟨?_, [], fun E K => ?run⟩
  case run =>
    simp only [cc1_sample_xbc_eq_skeleton]; unfold cc1_sample_xbc_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0
/-- The stores fill output 3. -/
theorem cover1_A_3 (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond1_0 i)
    (x0 : Vec F S128x1024 .f32) (x1 : Vec F S1x1024 .f32) (x2 : Vec F S1024x1024 .bf16) (y : S128x1024.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S128x1024.size (by sl_kernel_rfl) y

/-- What output 3 then holds. -/
def out1_A_3 (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond1_0 i)
    (x0 : Vec F S128x1024 .f32) (x1 : Vec F S1x1024 .f32) (x2 : Vec F S1024x1024 .bf16) : Vec F S128x1024 .f32 :=
  VO1_3.read (Elt F) (VO1_3.writes (Elt F) VO1_3.junk (kernelRun1_A c i arg2 harg2 arg3 harg3 arg4 harg4 arg5 harg5 arg6 harg6 hc0 x0 x1 x2).1)

/-- The store fills the scratch. -/
theorem scover1_A_0 (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond1_0 i)
    (x0 : Vec F S128x1024 .f32) (x1 : Vec F S1x1024 .f32) (x2 : Vec F S1024x1024 .bf16) (y : S128x1024.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S128x1024.size (by sl_kernel_rfl) y

/-- What the scratch then holds. -/
def sout1_A_0 (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : cond1_0 i)
    (x0 : Vec F S128x1024 .f32) (x1 : Vec F S1x1024 .f32) (x2 : Vec F S1024x1024 .bf16) : Vec F S128x1024 .bf16 :=
  VS1_0.read (Elt F) (VS1_0.writes (Elt F) VS1_0.junk (kernelRun1_A c i arg2 harg2 arg3 harg3 arg4 harg4 arg5 harg5 arg6 harg6 hc0 x0 x1 x2).2.1)

/-- The store fills output 3. -/
theorem cover1_B_3 (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : ¬cond1_0 i)
    (x0 : Vec F S128x1024 .f32) (x1 : Vec F S1x1024 .f32) (x2 : Vec F S1024x1024 .bf16) (xs0 : Vec F S128x1024 .bf16) (y : S128x1024.Idx) :
    ∃ pc ∈ (kernelRun1_B c i arg2 harg2 arg3 harg3 arg4 harg4 arg5 harg5 arg6 harg6 hc0 x0 x1 x2 xs0).1, y ∈ pc.1.set :=
  View.cover_of_tiledL (kernelRun1_B c i arg2 harg2 arg3 harg3 arg4 harg4 arg5 harg5 arg6 harg6 hc0 x0 x1 x2 xs0).1 S128x1024.size (by sl_kernel_rfl) y

/-- What output 3 then holds. -/
def out1_B_3 (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : ¬cond1_0 i)
    (x0 : Vec F S128x1024 .f32) (x1 : Vec F S1x1024 .f32) (x2 : Vec F S1024x1024 .bf16) (xs0 : Vec F S128x1024 .bf16) : Vec F S128x1024 .f32 :=
  VO1_3.read (Elt F) (VO1_3.writes (Elt F) VO1_3.junk (kernelRun1_B c i arg2 harg2 arg3 harg3 arg4 harg4 arg5 harg5 arg6 harg6 hc0 x0 x1 x2 xs0).1)

/-- What the scratch then holds. -/
def sout1_B_0 (c : Dev nD) (i : grid1.Coords) (arg2 : Memref sig .tc .vmem S128x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .f32) (harg5 : arg5.IsWhole) (arg6 : Memref sig .tc .vmem S128x1024 .bf16) (harg6 : arg6.IsWhole) (hc0 : ¬cond1_0 i)
    (x0 : Vec F S128x1024 .f32) (x1 : Vec F S1x1024 .f32) (x2 : Vec F S1024x1024 .bf16) (xs0 : Vec F S128x1024 .bf16) : Vec F S128x1024 .bf16 := xs0

/-- What the output's staging buffer and the carried scratch hold after each grid point: at the first point
    the body normalises the rows into the scratch, at the later points it reads them back. -/
def outsAt1 (c : Dev nD) : (n : ℕ) → n < cfg1.N → Vec F S128x1024 .f32 × Vec F S128x1024 .bf16
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩))
  | n + 1, hn =>
    if h0 : (n + 1) % 3 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (outsAt1 c n (Nat.lt_of_succ_lt hn)).2)

/-- At the first column tile. -/
theorem outsAt1_A (c : Dev nD) (t : Fin cfg1.N) (h0 : t.val % 3 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk V c 0 t) (iblk V c 1 t) (iblk V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk V c 0 t) (iblk V c 1 t) (iblk V c 2 t)) := by
  obtain ⟨n, hn⟩ := t
  cases n with
  | zero => exact rfl
  | succ n => exact (dif_pos h0).trans rfl

/-- At the later ones. -/
theorem outsAt1_B (c : Dev nD) (t : Fin cfg1.N) (h0 : ¬t.val % 3 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk V c 0 t) (iblk V c 1 t) (iblk V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk V c 0 t) (iblk V c 1 t) (iblk V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant between points: before the first point the scratch holds anything, afterwards what the
    last point left; the other scoped buffers and the generator ride along. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest (F := F) c) ∗ (∃ r, prngReg c r))

/-- Before the first point nothing is known of the scratch. -/
theorem PhiS_zero (c : Dev nD) (n : ℕ) (h : n ≤ cfg1.N) (hz : n = 0) : PhiS V c n h = Pipeline.ΦA spec1 c := by
  subst hz; rfl

/-- After a point the scratch is what it left. -/
theorem PhiS_succ (c : Dev nD) (n : ℕ) (hn : n < cfg1.N) :
    PhiS V c (n + 1) hn = iprop(iprop(owns (c : Thread nD τ) scM1_0 fullShare ((outsAt1 V c n hn).2) ∗ rest (F := F) c) ∗ (∃ r, prngReg c r)) := rfl

/-- The same at a position that is not the first. -/
theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ rest (F := F) c) ∗ (∃ r, prngReg c r)) := by
  cases n with
  | zero => exact absurd rfl hz
  | succ n => rfl

/-- The proof data of this region over arrays `V`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt1 V c t.val t.isLt).1
  Φ t := PhiS V c t.val (Nat.le_of_lt_succ t.isLt)
  q _ := fullShare
  owed _ := 0

/-- The arrays of the proof data are `V`'s. -/
theorem A_eq (c : Dev nD) (w : Fin cfg1.W) : (dat V c).A w = V c (Pipeline.arrRef spec1 w) := by
  dsimp only [dat]

/-- The invariant before a point. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves in window 0. -/
theorem after1_0 (c : Dev nD) (t : Fin cfg1.N) : (dat V c).after 0 t = iblk V c 0 t := by dsimp only [dat]
/-- What the body leaves in window 1. -/
theorem after1_1 (c : Dev nD) (t : Fin cfg1.N) : (dat V c).after 1 t = iblk V c 1 t := by dsimp only [dat]
/-- What the body leaves in window 2. -/
theorem after1_2 (c : Dev nD) (t : Fin cfg1.N) : (dat V c).after 2 t = iblk V c 2 t := by dsimp only [dat]
/-- What the body leaves in window 3. -/
theorem after1_3 (c : Dev nD) (t : Fin cfg1.N) : (dat V c).after 3 t = (outsAt1 V c t.val t.isLt).1 := by dsimp only [dat]

/-- The body finds window 0's own block. -/
theorem before1_0 (c : Dev nD) (t : Fin cfg1.N) (d) : (dat V c).before 0 t d = iblk V c 0 t :=
  before1_0_of V (dat V c) (A_eq V c 0) (after1_0 V c) t d
/-- The body finds window 1's own block. -/
theorem before1_1 (c : Dev nD) (t : Fin cfg1.N) (d) : (dat V c).before 1 t d = iblk V c 1 t :=
  before1_1_of V (dat V c) (A_eq V c 1) (after1_1 V c) t d
/-- The body finds window 2's own block. -/
theorem before1_2 (c : Dev nD) (t : Fin cfg1.N) (d) : (dat V c).before 2 t d = iblk V c 2 t :=
  before1_2_of V (dat V c) (A_eq V c 2) (after1_2 V c) t d

/-- What the body is given. -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d)))

/-- What the body gives back. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t))

set_option maxHeartbeats 3200000 in
/-- The body runs at every point, from the windows' blocks to the contents `outsAt` states. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat V c).owesAt () t.succ = (dat V c).owesAt () t.castSucc from rfl,
    after1_0, after1_1, after1_2, after1_3]
  rw [show (dat V c).Φ t.succ = PhiS V c (t.val + 1) t.isLt from rfl, PhiS_succ]
  have hN : t.val < 3 := lt_of_lt_of_eq t.isLt (show cfg1.N = 3 from N_1)
  by_cases h0 : t.val % 3 = 0
  · by_cases hz : t.val = 0
    · rw [PhiS_castSucc V c t, PhiS_zero V c _ _ hz, PhiA1_eq]
      rw [outsAt1_A V c t h0]
      unfold out1_A_3 sout1_A_0; (try dsimp only)
      iintro ⟨⟨⟨HS0, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk V c 0 t) (iblk V c 1 t) (iblk V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitr [Hg]
        · isplitr [HR]
          swap; · iexact HR
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · exfalso; have hN : t.val < 3 := lt_of_lt_of_eq t.isLt (show cfg1.N = 3 from N_1); omega
  · by_cases hz : t.val = 0
    · exfalso; have hN : t.val < 3 := lt_of_lt_of_eq t.isLt (show cfg1.N = 3 from N_1); omega
    · rw [PhiS_castSucc V c t, PhiS_pos V c _ _ hz]
      rw [outsAt1_B V c t h0]
      unfold out1_B_3 sout1_B_0; (try dsimp only)
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 HR Hg]
      · isplitr [Hg]
        · isplitl [HS0]
          · iexact HS0
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The function the program calls at a grid point. -/
theorem defs₀_row (t : Fin cfg1.N) :
    defs₀ (F := F) .tc cfg1.body (cfg1.bodyArgs t (cfg1.slots t)) = bodyAt1 t := by
  unfold defs₀; rw [Defs.onTc_tc]

/-- The same in the library's form. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- The invariant holds at the start. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- The invariant gives the scoped buffers back. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HR⟩, Hg⟩
  isplitr [Hg]
  · isplitl [HS0]
    · iexists _; iexact HS0
    iexact HR
  iexact Hg

/-- In particular at the end. -/
theorem hout (c : Dev nD) : (dat V c).Φ (Fin.last cfg1.N) ⊢ Pipeline.ΦA spec1 c :=
  Phi_out V c _ (by rw [Fin.val_last]; have : cfg1.N = 3 := N_1; omega)

end Cert.Kernel11Ideal.R1

end
-- ==== Proof.Kernel11IdealP1.lean ====
module

public import proofs.«01_k».proof.Proof.Kernel11IdealR1
public import proofs.«01_k».proof.Proof.Rms
public import Idealize.ShloMosaic.Lib.Pipeline.ValueKit
public import Idealize.ShloMosaic.Lib.Pipeline.ReadBack

/-!
The call that computes the convolution inputs of the decoding step, over whatever arrays it is handed: every entry of its result is the projection of a normalised row on a column of the weights.
-/

@[expose] public section

set_option maxRecDepth 16384

noncomputable section

namespace Cert.Kernel11Ideal.R1

open Cert.Kernel11Ideal Cert.Kernel11Ideal.Gen Idealize.ShloMosaic Idealize.ShloMosaic.TcCoe Idealize.SL.Sem
open Idealize.ShloMosaic.Pipeline (Dat)
open Cert.Rms

variable (V : (c : Dev nD) → (b : Ref sig .tc) → Buf (Elt Ideal) ((c : Thread nD τ).loc b))

/-- Which block each window holds at grid point `t`: the rows' and the result's move with the row tile, the weights' and the result's with the column tile. -/
theorem idx : ∀ t : Fin cfg1.N, win1_0.index t = ![t.val / 3, 0] ∧ win1_1.index t = ![0, 0] ∧ win1_2.index t = ![0, t.val % 3]
    ∧ win1_3.index t = ![t.val / 3, t.val % 3] :=
  (by decide +kernel : ∀ t : Fin grid1.N, _)

/-- What the body keeps in its scratch: the block's rows, normalised. -/
theorem pay1_at (x : Vec Ideal S128x1024 .f32) (g : Vec Ideal S1x1024 .f32) (r : Fin 128) (k : Fin 1024) :
    k1_pay1 x g (ix2 r k) = nrm (fun j => x (ix2 r j)) (fun j => g (ix2 0 j)) k := by
  unfold nrm
  pointwise [k1_pay1]

/-- What the body stores: the kept rows times the block of the weights. -/
theorem pay2_at (h : Vec Ideal S128x1024 .bf16) (w : Vec Ideal S1024x1024 .bf16) (r : Fin 128) (k : Fin 1024) :
    k1_pay2 h w (ix2 r k) = ∑ j : Fin 1024, h (ix2 r j) * w (ix2 j k) := by
  pointwise [k1_pay2]

/-- Row `r` of the rows the call is handed. -/
abbrev X (c : Dev nD) (r : Fin 128) (k : Fin 1024) : EReal := V c main_v1 (ix2 r k)

/-- The gain the call is handed. -/
abbrev G (c : Dev nD) (k : Fin 1024) : EReal := V c main_v10 (ix2 0 k)

/-- Column `n` of the weights the call is handed. -/
abbrev W (c : Dev nD) (n : Fin 3072) (k : Fin 1024) : EReal := V c main_v9 (ix2 k n)

/-- The row of the whole array that is row `r` of the tile met at grid point `n`. -/
abbrev row (n : ℕ) (hn : n < cfg1.N) (r : Fin 128) : Fin 128 := ⟨n / 3 * 128 + r.val, by have h : cfg1.N = 3 := rfl; omega⟩

/-- Where the body normalises, it normalises the rows of its own tile. -/
theorem fresh (c : Dev nD) (t : Fin cfg1.N) (r : Fin 128) (k : Fin 1024) :
    k1_pay1 (iblk V c 0 t) (iblk V c 1 t) (ix2 r k) = nrm (X V c (row t.val t.isLt r)) (G V c) k := by
  refine (pay1_at _ _ r k).trans ?_
  have hx : (fun j : Fin 1024 => (iblk V c 0 t) (ix2 r j)) = X V c (row t.val t.isLt r) := by
    funext j
    blk_point [iblk, idx t]
  have hg : (fun j : Fin 1024 => (iblk V c 1 t) (ix2 0 j)) = G V c := by
    funext j
    blk_point [iblk, idx t]
  exact congrArg₂ (fun a b => nrm a b k) hx hg

/-- The block of the weights at grid point `t` is column tile `t % 3`. -/
theorem wblk (c : Dev nD) (t : Fin cfg1.N) (j : Fin 1024) (k : Fin 1024) (n : Fin 3072) (h : n.val = t.val % 3 * 1024 + k.val) :
    (iblk V c 2 t) (ix2 j k) = W V c n j := by
  blk_point [iblk, idx t]

/-- Past the first column tile the scratch is what the point before left. -/
theorem keep (c : Dev nD) (t : Fin cfg1.N) (h : ¬ t.val % 3 = 0) :
    (outsAt1 V c t.val t.isLt).2 = (outsAt1 V c (t.val - 1) (Nat.lt_of_le_of_lt (Nat.sub_le _ _) t.isLt)).2 := by
  rw [outsAt1_B V c t h, sout1_B_0]

/-- After every grid point the scratch holds the normalised rows of the point's row tile. -/
theorem scr (c : Dev nD) : ∀ (n : ℕ) (hn : n < cfg1.N) (r : Fin 128) (k : Fin 1024),
    (outsAt1 V c n hn).2 (ix2 r k) = nrm (X V c (row n hn r)) (G V c) k := by
  intro n
  induction n with
  | zero =>
    intro hn r k
    rw [outsAt1_A V c ⟨0, hn⟩ rfl]; frame_out
    exact fresh V c ⟨0, hn⟩ r k
  | succ n ih =>
    intro hn r k
    by_cases h : (n + 1) % 3 = 0
    · rw [outsAt1_A V c ⟨n + 1, hn⟩ h]; frame_out
      exact fresh V c ⟨n + 1, hn⟩ r k
    · have hr : row n (Nat.lt_of_succ_lt hn) r = row (n + 1) hn r := Fin.ext (by show n / 3 * 128 + r.val = (n + 1) / 3 * 128 + r.val; omega)
      rw [← hr]
      exact (congrFun (keep V c ⟨n + 1, hn⟩ h) _).trans (ih _ r k)

/-- The block stored at grid point `t`: each entry the projection of its row on its column. -/
theorem out_at (c : Dev nD) (t : Fin cfg1.N) (r : Fin 128) (k : Fin 1024) (n : Fin 3072) (h : n.val = t.val % 3 * 1024 + k.val) :
    (outsAt1 V c t.val t.isLt).1 (ix2 r k) = proj (X V c (row t.val t.isLt r)) (G V c) (W V c n) := by
  by_cases h0 : t.val % 3 = 0
  · rw [outsAt1_A V c t h0]; frame_out
    refine (pay2_at _ _ r k).trans (Finset.sum_congr rfl fun j _ => ?_)
    exact congrArg₂ (· * ·) (fresh V c t r j) (wblk V c t j k n h)
  · have e := scr V c t.val t.isLt
    rw [keep V c t h0] at e
    rw [outsAt1_B V c t h0]; frame_out
    rw [read_unread_whole]
    refine (pay2_at _ _ r k).trans (Finset.sum_congr rfl fun j _ => ?_)
    exact congrArg₂ (· * ·) (e r j) (wblk V c t j k n h)

/-- The array of the projections of all rows on all columns. -/
def arr (c : Dev nD) : S128x3072.Idx → EReal := fun i => proj (X V c (i 0)) (G V c) (W V c (i 1))

/-- After the last grid point the result array holds them. -/
theorem final (c : Dev nD) : (dat V c).arrAt 3 cfg1.N = arr V c := by
  refine (dat V c).arrAt_eq_of_covers 3 _ (by decide +kernel) fun t _ y => ?_
  blk_simp
  rw [after1_3]
  obtain ⟨r, k, rfl⟩ : ∃ (r : Fin 128) (k : Fin 1024), y = ix2 r k := ⟨y 0, y 1, eq_ix2 y⟩
  have ht : t.val % 3 < 3 := Nat.mod_lt _ (by decide)
  refine (out_at V c t r k ⟨t.val % 3 * 1024 + k.val, by omega⟩ rfl).trans ?_
  refine Eq.trans (b := arr V c (ix2 (row t.val t.isLt r) ⟨t.val % 3 * 1024 + k.val, by omega⟩)) rfl (congrArg _ ?_)
  blk_ext [idx t]

end Cert.Kernel11Ideal.R1

end
-- ==== Proof.Kernel11IdealR2.lean ====
/- The region of `sample_dt` in `Kernel11Ideal`: its body's run at each grid point over any entry contents of its arrays,
    and what its output array holds afterwards. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel11Ideal.R2

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the array the region finds. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 stages its own block, in any proof data over `V`. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 stages its own block, in any proof data over `V`. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 stages its own block, in any proof data over `V`. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's branch condition. -/
abbrev cond2_0 (i : grid2.Coords) : Prop := (Scalar.cmpi .ne (Scalar.extui (Scalar.cmpi .eq (BitVec.ofNat 32 (i 1).val) 0#32)) 0#32) = 1#1
/-- It holds at the first column tile of a row tile. -/
theorem hcond2_0 : ∀ t : Fin cfg2.N, cond2_0 (grid2.coords t) ↔ t.val % 4 = 0 :=
  (fun t => by
    have ht : t.val < 4 := Nat.lt_of_lt_of_eq t.isLt N_2
    have e0 : (grid2.coords t 0).val = t.val / 4 % 1 := Pipeline.Grid.coords_val t 0 (by decide) rfl
    have e1 : (grid2.coords t 1).val = t.val / 1 % 4 := Pipeline.Grid.coords_val t 1 (by decide) rfl
    simp only [cond2_0, e0, e1]
    word_cmp
   : ∀ t : Fin grid2.N, cond2_0 (grid2.coords t) ↔ t.val % 4 = 0)

/-- The view of output 3. -/
abbrev VO2_3 : View sig .tc .vmem S128x512 .f32 := (Memref.whole cc2_stg3_0 : Memref sig .tc .vmem S128x512 .f32).view
/-- Window 0's staging buffer at a grid point. -/
abbrev ms2_0 (t : Fin cfg2.N) : Memref sig .tc .vmem S128x1024 .f32 := win2_0.stage (cfg2.slots t 0)
/-- It is a whole buffer. -/
abbrev hs2_0 (t : Fin cfg2.N) : (ms2_0 t).IsWhole := hstage2_0 ((cfg2.slots t 0).cast nbuf2_0)
/-- Window 1's staging buffer at a grid point. -/
abbrev ms2_1 (t : Fin cfg2.N) : Memref sig .tc .vmem S1x1024 .f32 := win2_1.stage (cfg2.slots t 1)
/-- It is a whole buffer. -/
abbrev hs2_1 (t : Fin cfg2.N) : (ms2_1 t).IsWhole := hstage2_1 ((cfg2.slots t 1).cast nbuf2_1)
/-- Window 2's staging buffer at a grid point. -/
abbrev ms2_2 (t : Fin cfg2.N) : Memref sig .tc .vmem S1024x512 .f32 := win2_2.stage (cfg2.slots t 2)
/-- It is a whole buffer. -/
abbrev hs2_2 (t : Fin cfg2.N) : (ms2_2 t).IsWhole := hstage2_2 ((cfg2.slots t 2).cast nbuf2_2)
/-- Window 3's staging buffer at a grid point. -/
abbrev ms2_3 (t : Fin cfg2.N) : Memref sig .tc .vmem S128x512 .f32 := win2_3.stage (cfg2.slots t 3)
/-- It is a whole buffer. -/
abbrev hs2_3 (t : Fin cfg2.N) : (ms2_3 t).IsWhole := hstage2_3 ((cfg2.slots t 3).cast nbuf2_3)
/-- The scratch. -/
abbrev scM2_0 : Memref sig .tc .vmem S128x1024 .f32 := Memref.whole cc2_scratch0
/-- Its view. -/
abbrev VS2_0 : View sig .tc .vmem S128x1024 .f32 := scM2_0.view

/-- The scoped buffers the region neither stages nor carries. -/
abbrev rest (c : Dev nD) : sProp 𝕄 := Pipeline.scopedRestBut spec2 c [cc2_scratch0]

/-- The region's scoped buffers, the scratch apart. -/
theorem PhiA2_eq (c : Dev nD) :
    (Pipeline.ΦA spec2 c : sProp 𝕄)
      = iprop(iprop((∃ d, owns (c : Thread nD τ) scM2_0 fullShare d) ∗ rest (F := F) c) ∗ (∃ r, prngReg c r)) := by
  unfold Pipeline.ΦA; rw [scopedRest2_split]; simp only [scM2_0, owns_whole]; try rfl

set_option maxHeartbeats 1000000 in
/-- The body's run at the first point, with the pieces it leaves in the output and the scratch. -/
noncomputable def kernelRun2_A (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : cond2_0 i)
    (x0 : Vec F S128x1024 .f32) (x1 : Vec F S1x1024 .f32) (x2 : Vec F S1024x512 .f32) :
    Σ' (L3 : List (View.Piece (Elt F) S128x512 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_sample_dt i arg2 harg2 arg3 harg3 arg4 harg4 arg5 harg5 arg6 harg6) K } := by
  refine ⟨?_, ?_, fun E K => ?run⟩
  case run =>
    simp only [cc2_sample_dt_eq_skeleton]; unfold cc2_sample_dt_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- The body's run at a later point: the scratch is read and left as it was. -/
noncomputable def kernelRun2_B (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : ¬cond2_0 i)
    (x0 : Vec F S128x1024 .f32) (x1 : Vec F S1x1024 .f32) (x2 : Vec F S1024x512 .f32) (xs0 : Vec F S128x1024 .f32) :
    Σ' (L3 : List (View.Piece (Elt F) S128x512 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc2_sample_dt i arg2 harg2 arg3 harg3 arg4 harg4 arg5 harg5 arg6 harg6) K } := by
  refine ⟨?_, [], fun E K => ?run⟩
  case run =>
    simp only [cc2_sample_dt_eq_skeleton]; unfold cc2_sample_dt_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0
/-- The stores fill output 3. -/
theorem cover2_A_3 (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : cond2_0 i)
    (x0 : Vec F S128x1024 .f32) (x1 : Vec F S1x1024 .f32) (x2 : Vec F S1024x512 .f32) (y : S128x512.Idx) :
    ∃ pc ∈ (kernelRun2_A c i arg2 harg2 arg3 harg3 arg4 harg4 arg5 harg5 arg6 harg6 hc0 x0 x1 x2).1, y ∈ pc.1.set :=
  View.cover_of_tiledL (kernelRun2_A c i arg2 harg2 arg3 harg3 arg4 harg4 arg5 harg5 arg6 harg6 hc0 x0 x1 x2).1 S128x512.size (by sl_kernel_rfl) y

/-- What output 3 then holds. -/
def out2_A_3 (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : cond2_0 i)
    (x0 : Vec F S128x1024 .f32) (x1 : Vec F S1x1024 .f32) (x2 : Vec F S1024x512 .f32) : Vec F S128x512 .f32 :=
  VO2_3.read (Elt F) (VO2_3.writes (Elt F) VO2_3.junk (kernelRun2_A c i arg2 harg2 arg3 harg3 arg4 harg4 arg5 harg5 arg6 harg6 hc0 x0 x1 x2).1)

/-- The store fills the scratch. -/
theorem scover2_A_0 (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : cond2_0 i)
    (x0 : Vec F S128x1024 .f32) (x1 : Vec F S1x1024 .f32) (x2 : Vec F S1024x512 .f32) (y : S128x1024.Idx) :
    ∃ pc ∈ (kernelRun2_A c i arg2 harg2 arg3 harg3 arg4 harg4 arg5 harg5 arg6 harg6 hc0 x0 x1 x2).2.1, y ∈ pc.1.set :=
  View.cover_of_tiledL (kernelRun2_A c i arg2 harg2 arg3 harg3 arg4 harg4 arg5 harg5 arg6 harg6 hc0 x0 x1 x2).2.1 S128x1024.size (by sl_kernel_rfl) y

/-- What the scratch then holds. -/
def sout2_A_0 (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : cond2_0 i)
    (x0 : Vec F S128x1024 .f32) (x1 : Vec F S1x1024 .f32) (x2 : Vec F S1024x512 .f32) : Vec F S128x1024 .f32 :=
  VS2_0.read (Elt F) (VS2_0.writes (Elt F) VS2_0.junk (kernelRun2_A c i arg2 harg2 arg3 harg3 arg4 harg4 arg5 harg5 arg6 harg6 hc0 x0 x1 x2).2.1)

/-- The store fills output 3. -/
theorem cover2_B_3 (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : ¬cond2_0 i)
    (x0 : Vec F S128x1024 .f32) (x1 : Vec F S1x1024 .f32) (x2 : Vec F S1024x512 .f32) (xs0 : Vec F S128x1024 .f32) (y : S128x512.Idx) :
    ∃ pc ∈ (kernelRun2_B c i arg2 harg2 arg3 harg3 arg4 harg4 arg5 harg5 arg6 harg6 hc0 x0 x1 x2 xs0).1, y ∈ pc.1.set :=
  View.cover_of_tiledL (kernelRun2_B c i arg2 harg2 arg3 harg3 arg4 harg4 arg5 harg5 arg6 harg6 hc0 x0 x1 x2 xs0).1 S128x512.size (by sl_kernel_rfl) y

/-- What output 3 then holds. -/
def out2_B_3 (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : ¬cond2_0 i)
    (x0 : Vec F S128x1024 .f32) (x1 : Vec F S1x1024 .f32) (x2 : Vec F S1024x512 .f32) (xs0 : Vec F S128x1024 .f32) : Vec F S128x512 .f32 :=
  VO2_3.read (Elt F) (VO2_3.writes (Elt F) VO2_3.junk (kernelRun2_B c i arg2 harg2 arg3 harg3 arg4 harg4 arg5 harg5 arg6 harg6 hc0 x0 x1 x2 xs0).1)

/-- What the scratch then holds. -/
def sout2_B_0 (c : Dev nD) (i : grid2.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (hc0 : ¬cond2_0 i)
    (x0 : Vec F S128x1024 .f32) (x1 : Vec F S1x1024 .f32) (x2 : Vec F S1024x512 .f32) (xs0 : Vec F S128x1024 .f32) : Vec F S128x1024 .f32 := xs0

/-- What the output's staging buffer and the carried scratch hold after each grid point: at the first point
    the body normalises the rows into the scratch, at the later points it reads them back. -/
def outsAt2 (c : Dev nD) : (n : ℕ) → n < cfg2.N → Vec F S128x512 .f32 × Vec F S128x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (iblk V c 0 ⟨0, hn⟩) (iblk V c 1 ⟨0, hn⟩) (iblk V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (iblk V c 0 ⟨0, hn⟩) (iblk V c 1 ⟨0, hn⟩) (iblk V c 2 ⟨0, hn⟩))
  | n + 1, hn =>
    if h0 : (n + 1) % 4 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (iblk V c 0 ⟨n + 1, hn⟩) (iblk V c 1 ⟨n + 1, hn⟩) (iblk V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (iblk V c 0 ⟨n + 1, hn⟩) (iblk V c 1 ⟨n + 1, hn⟩) (iblk V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (iblk V c 0 ⟨n + 1, hn⟩) (iblk V c 1 ⟨n + 1, hn⟩) (iblk V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (iblk V c 0 ⟨n + 1, hn⟩) (iblk V c 1 ⟨n + 1, hn⟩) (iblk V c 2 ⟨n + 1, hn⟩) (outsAt2 c n (Nat.lt_of_succ_lt hn)).2)

/-- At the first column tile. -/
theorem outsAt2_A (c : Dev nD) (t : Fin cfg2.N) (h0 : t.val % 4 = 0) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (iblk V c 0 t) (iblk V c 1 t) (iblk V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (iblk V c 0 t) (iblk V c 1 t) (iblk V c 2 t)) := by
  obtain ⟨n, hn⟩ := t
  cases n with
  | zero => exact rfl
  | succ n => exact (dif_pos h0).trans rfl

/-- At the later ones. -/
theorem outsAt2_B (c : Dev nD) (t : Fin cfg2.N) (h0 : ¬t.val % 4 = 0) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk V c 0 t) (iblk V c 1 t) (iblk V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk V c 0 t) (iblk V c 1 t) (iblk V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant between points: before the first point the scratch holds anything, afterwards what the
    last point left; the other scoped buffers and the generator ride along. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest (F := F) c) ∗ (∃ r, prngReg c r))

/-- Before the first point nothing is known of the scratch. -/
theorem PhiS_zero (c : Dev nD) (n : ℕ) (h : n ≤ cfg2.N) (hz : n = 0) : PhiS V c n h = Pipeline.ΦA spec2 c := by
  subst hz; rfl

/-- After a point the scratch is what it left. -/
theorem PhiS_succ (c : Dev nD) (n : ℕ) (hn : n < cfg2.N) :
    PhiS V c (n + 1) hn = iprop(iprop(owns (c : Thread nD τ) scM2_0 fullShare ((outsAt2 V c n hn).2) ∗ rest (F := F) c) ∗ (∃ r, prngReg c r)) := rfl

/-- The same at a position that is not the first. -/
theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ rest (F := F) c) ∗ (∃ r, prngReg c r)) := by
  cases n with
  | zero => exact absurd rfl hz
  | succ n => rfl

/-- The proof data of this region over arrays `V`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2 V c t.val t.isLt).1
  Φ t := PhiS V c t.val (Nat.le_of_lt_succ t.isLt)
  q _ := fullShare
  owed _ := 0

/-- The arrays of the proof data are `V`'s. -/
theorem A_eq (c : Dev nD) (w : Fin cfg2.W) : (dat V c).A w = V c (Pipeline.arrRef spec2 w) := by
  dsimp only [dat]

/-- The invariant before a point. -/
theorem PhiS_castSucc (c : Dev nD) (t : Fin cfg2.N) :
    (dat V c).Φ t.castSucc = PhiS V c t.val (Nat.le_of_lt t.isLt) := by
  dsimp only [dat]; exact Pipeline.Dat.Φ_castSucc (PhiS V c) t

/-- What the body leaves in window 0. -/
theorem after2_0 (c : Dev nD) (t : Fin cfg2.N) : (dat V c).after 0 t = iblk V c 0 t := by dsimp only [dat]
/-- What the body leaves in window 1. -/
theorem after2_1 (c : Dev nD) (t : Fin cfg2.N) : (dat V c).after 1 t = iblk V c 1 t := by dsimp only [dat]
/-- What the body leaves in window 2. -/
theorem after2_2 (c : Dev nD) (t : Fin cfg2.N) : (dat V c).after 2 t = iblk V c 2 t := by dsimp only [dat]
/-- What the body leaves in window 3. -/
theorem after2_3 (c : Dev nD) (t : Fin cfg2.N) : (dat V c).after 3 t = (outsAt2 V c t.val t.isLt).1 := by dsimp only [dat]

/-- The body finds window 0's own block. -/
theorem before2_0 (c : Dev nD) (t : Fin cfg2.N) (d) : (dat V c).before 0 t d = iblk V c 0 t :=
  before2_0_of V (dat V c) (A_eq V c 0) (after2_0 V c) t d
/-- The body finds window 1's own block. -/
theorem before2_1 (c : Dev nD) (t : Fin cfg2.N) (d) : (dat V c).before 1 t d = iblk V c 1 t :=
  before2_1_of V (dat V c) (A_eq V c 1) (after2_1 V c) t d
/-- The body finds window 2's own block. -/
theorem before2_2 (c : Dev nD) (t : Fin cfg2.N) (d) : (dat V c).before 2 t d = iblk V c 2 t :=
  before2_2_of V (dat V c) (A_eq V c 2) (after2_2 V c) t d

/-- What the body is given. -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d)))

/-- What the body gives back. -/
def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t))

set_option maxHeartbeats 3200000 in
/-- The body runs at every point, from the windows' blocks to the contents `outsAt` states. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2]
  rw [show (dat V c).owesAt () t.succ = (dat V c).owesAt () t.castSucc from rfl,
    after2_0, after2_1, after2_2, after2_3]
  rw [show (dat V c).Φ t.succ = PhiS V c (t.val + 1) t.isLt from rfl, PhiS_succ]
  have hN : t.val < 4 := lt_of_lt_of_eq t.isLt (show cfg2.N = 4 from N_2)
  by_cases h0 : t.val % 4 = 0
  · by_cases hz : t.val = 0
    · rw [PhiS_castSucc V c t, PhiS_zero V c _ _ hz, PhiA2_eq]
      rw [outsAt2_A V c t h0]
      unfold out2_A_3 sout2_A_0; (try dsimp only)
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (iblk V c 0 t) (iblk V c 1 t) (iblk V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitr [Hg]
        · isplitr [HR]
          swap; · iexact HR
          unfold owns; iexists _; isplitr
          swap; · iexact HS0
          ipureintro; exact View.read_writes_of_cover _ _ _ _ _ (scover2_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
    · exfalso; have hN : t.val < 4 := lt_of_lt_of_eq t.isLt (show cfg2.N = 4 from N_2); omega
  · by_cases hz : t.val = 0
    · exfalso; have hN : t.val < 4 := lt_of_lt_of_eq t.isLt (show cfg2.N = 4 from N_2); omega
    · rw [PhiS_castSucc V c t, PhiS_pos V c _ _ hz]
      rw [outsAt2_B V c t h0]
      unfold out2_B_3 sout2_B_0; (try dsimp only)
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 HR Hg]
      · isplitr [Hg]
        · isplitl [HS0]
          · iexact HS0
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_B_3 c _ _ _ _ _ _ _ _ _ _ _ _ _ _ _ _)

/-- The function the program calls at a grid point. -/
theorem defs₀_row (t : Fin cfg2.N) :
    defs₀ (F := F) .tc cfg2.body (cfg2.bodyArgs t (cfg2.slots t)) = bodyAt2 t := by
  unfold defs₀; rw [Defs.onTc_tc]

/-- The same in the library's form. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- The invariant holds at the start. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- The invariant gives the scoped buffers back. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA2_eq]
  iintro ⟨⟨HS0, HR⟩, Hg⟩
  isplitr [Hg]
  · isplitl [HS0]
    · iexists _; iexact HS0
    iexact HR
  iexact Hg

/-- In particular at the end. -/
theorem hout (c : Dev nD) : (dat V c).Φ (Fin.last cfg2.N) ⊢ Pipeline.ΦA spec2 c :=
  Phi_out V c _ (by rw [Fin.val_last]; have : cfg2.N = 4 := N_2; omega)

end Cert.Kernel11Ideal.R2

end
-- ==== Proof.Kernel11IdealP2.lean ====
module

public import proofs.«01_k».proof.Proof.Kernel11IdealR2
public import proofs.«01_k».proof.Proof.Rms
public import Idealize.ShloMosaic.Lib.Pipeline.ValueKit
public import Idealize.ShloMosaic.Lib.Pipeline.ReadBack

/-!
The call that computes the step sizes of the decoding step, over whatever arrays it is handed: every entry of its result is the projection of a normalised row on a column of the weights.
-/

@[expose] public section

set_option maxRecDepth 16384

noncomputable section

namespace Cert.Kernel11Ideal.R2

open Cert.Kernel11Ideal Cert.Kernel11Ideal.Gen Idealize.ShloMosaic Idealize.ShloMosaic.TcCoe Idealize.SL.Sem
open Idealize.ShloMosaic.Pipeline (Dat)
open Cert.Rms

variable (V : (c : Dev nD) → (b : Ref sig .tc) → Buf (Elt Ideal) ((c : Thread nD τ).loc b))

/-- Which block each window holds at grid point `t`: the rows' and the result's move with the row tile, the weights' and the result's with the column tile. -/
theorem idx : ∀ t : Fin cfg2.N, win2_0.index t = ![t.val / 4, 0] ∧ win2_1.index t = ![0, 0] ∧ win2_2.index t = ![0, t.val % 4]
    ∧ win2_3.index t = ![t.val / 4, t.val % 4] :=
  (by decide +kernel : ∀ t : Fin grid2.N, _)

/-- What the body keeps in its scratch: the block's rows, normalised. -/
theorem pay1_at (x : Vec Ideal S128x1024 .f32) (g : Vec Ideal S1x1024 .f32) (r : Fin 128) (k : Fin 1024) :
    k2_pay1 x g (ix2 r k) = nrm (fun j => x (ix2 r j)) (fun j => g (ix2 0 j)) k := by
  unfold nrm
  pointwise [k2_pay1]

/-- What the body stores: the kept rows times the block of the weights. -/
theorem pay2_at (h : Vec Ideal S128x1024 .f32) (w : Vec Ideal S1024x512 .f32) (r : Fin 128) (k : Fin 512) :
    k2_pay2 h w (ix2 r k) = ∑ j : Fin 1024, h (ix2 r j) * w (ix2 j k) := by
  pointwise [k2_pay2]

/-- Row `r` of the rows the call is handed. -/
abbrev X (c : Dev nD) (r : Fin 128) (k : Fin 1024) : EReal := V c main_v1 (ix2 r k)

/-- The gain the call is handed. -/
abbrev G (c : Dev nD) (k : Fin 1024) : EReal := V c main_v16 (ix2 0 k)

/-- Column `n` of the weights the call is handed. -/
abbrev W (c : Dev nD) (n : Fin 2048) (k : Fin 1024) : EReal := V c main_v15 (ix2 k n)

/-- The row of the whole array that is row `r` of the tile met at grid point `n`. -/
abbrev row (n : ℕ) (hn : n < cfg2.N) (r : Fin 128) : Fin 128 := ⟨n / 4 * 128 + r.val, by have h : cfg2.N = 4 := rfl; omega⟩

/-- Where the body normalises, it normalises the rows of its own tile. -/
theorem fresh (c : Dev nD) (t : Fin cfg2.N) (r : Fin 128) (k : Fin 1024) :
    k2_pay1 (iblk V c 0 t) (iblk V c 1 t) (ix2 r k) = nrm (X V c (row t.val t.isLt r)) (G V c) k := by
  refine (pay1_at _ _ r k).trans ?_
  have hx : (fun j : Fin 1024 => (iblk V c 0 t) (ix2 r j)) = X V c (row t.val t.isLt r) := by
    funext j
    blk_point [iblk, idx t]
  have hg : (fun j : Fin 1024 => (iblk V c 1 t) (ix2 0 j)) = G V c := by
    funext j
    blk_point [iblk, idx t]
  exact congrArg₂ (fun a b => nrm a b k) hx hg

/-- The block of the weights at grid point `t` is column tile `t % 4`. -/
theorem wblk (c : Dev nD) (t : Fin cfg2.N) (j : Fin 1024) (k : Fin 512) (n : Fin 2048) (h : n.val = t.val % 4 * 512 + k.val) :
    (iblk V c 2 t) (ix2 j k) = W V c n j := by
  blk_point [iblk, idx t]

/-- Past the first column tile the scratch is what the point before left. -/
theorem keep (c : Dev nD) (t : Fin cfg2.N) (h : ¬ t.val % 4 = 0) :
    (outsAt2 V c t.val t.isLt).2 = (outsAt2 V c (t.val - 1) (Nat.lt_of_le_of_lt (Nat.sub_le _ _) t.isLt)).2 := by
  rw [outsAt2_B V c t h, sout2_B_0]

/-- After every grid point the scratch holds the normalised rows of the point's row tile. -/
theorem scr (c : Dev nD) : ∀ (n : ℕ) (hn : n < cfg2.N) (r : Fin 128) (k : Fin 1024),
    (outsAt2 V c n hn).2 (ix2 r k) = nrm (X V c (row n hn r)) (G V c) k := by
  intro n
  induction n with
  | zero =>
    intro hn r k
    rw [outsAt2_A V c ⟨0, hn⟩ rfl]; frame_out
    exact fresh V c ⟨0, hn⟩ r k
  | succ n ih =>
    intro hn r k
    by_cases h : (n + 1) % 4 = 0
    · rw [outsAt2_A V c ⟨n + 1, hn⟩ h]; frame_out
      exact fresh V c ⟨n + 1, hn⟩ r k
    · have hr : row n (Nat.lt_of_succ_lt hn) r = row (n + 1) hn r := Fin.ext (by show n / 4 * 128 + r.val = (n + 1) / 4 * 128 + r.val; omega)
      rw [← hr]
      exact (congrFun (keep V c ⟨n + 1, hn⟩ h) _).trans (ih _ r k)

/-- The block stored at grid point `t`: each entry the projection of its row on its column. -/
theorem out_at (c : Dev nD) (t : Fin cfg2.N) (r : Fin 128) (k : Fin 512) (n : Fin 2048) (h : n.val = t.val % 4 * 512 + k.val) :
    (outsAt2 V c t.val t.isLt).1 (ix2 r k) = proj (X V c (row t.val t.isLt r)) (G V c) (W V c n) := by
  by_cases h0 : t.val % 4 = 0
  · rw [outsAt2_A V c t h0]; frame_out
    refine (pay2_at _ _ r k).trans (Finset.sum_congr rfl fun j _ => ?_)
    exact congrArg₂ (· * ·) (fresh V c t r j) (wblk V c t j k n h)
  · have e := scr V c t.val t.isLt
    rw [keep V c t h0] at e
    rw [outsAt2_B V c t h0]; frame_out
    rw [read_unread_whole]
    refine (pay2_at _ _ r k).trans (Finset.sum_congr rfl fun j _ => ?_)
    exact congrArg₂ (· * ·) (e r j) (wblk V c t j k n h)

/-- The array of the projections of all rows on all columns. -/
def arr (c : Dev nD) : S128x2048.Idx → EReal := fun i => proj (X V c (i 0)) (G V c) (W V c (i 1))

/-- After the last grid point the result array holds them. -/
theorem final (c : Dev nD) : (dat V c).arrAt 3 cfg2.N = arr V c := by
  refine (dat V c).arrAt_eq_of_covers 3 _ (by decide +kernel) fun t _ y => ?_
  blk_simp
  rw [after2_3]
  obtain ⟨r, k, rfl⟩ : ∃ (r : Fin 128) (k : Fin 512), y = ix2 r k := ⟨y 0, y 1, eq_ix2 y⟩
  have ht : t.val % 4 < 4 := Nat.mod_lt _ (by decide)
  refine (out_at V c t r k ⟨t.val % 4 * 512 + k.val, by omega⟩ rfl).trans ?_
  refine Eq.trans (b := arr V c (ix2 (row t.val t.isLt r) ⟨t.val % 4 * 512 + k.val, by omega⟩)) rfl (congrArg _ ?_)
  blk_ext [idx t]

end Cert.Kernel11Ideal.R2

end
-- ==== Proof.Kernel11IdealR3.lean ====
/- The region of `sample_ssm` in `Kernel11Ideal`: its body's run at each grid point over any entry contents of its arrays,
    and what its two output arrays hold afterwards. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel11Ideal.R3

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The buffers that ride along. -/
def ΦK (c : Dev nD) : sProp 𝕄 :=
  iprop(Pipeline.scopedRest (Ix := Ix) (Name := ℕ) (U := U) (Lvl := Lvl) (Val := Elt F) spec3 c ∗ ∃ r, prngReg c r)

/-- The block of window `w` at grid point `t`, read off the array the region finds. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 stages its own block, in any proof data over `V`. -/
theorem before3_0_of {c : Dev nD} (dat : Dat τ (Elt F) Ix ℕ U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 stages its own block, in any proof data over `V`. -/
theorem before3_1_of {c : Dev nD} (dat : Dat τ (Elt F) Ix ℕ U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 stages its own block, in any proof data over `V`. -/
theorem before3_2_of {c : Dev nD} (dat : Dat τ (Elt F) Ix ℕ U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 stages its own block, in any proof data over `V`. -/
theorem before3_3_of {c : Dev nD} (dat : Dat τ (Elt F) Ix ℕ U Lvl cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 stages its own block, in any proof data over `V`. -/
theorem before3_4_of {c : Dev nD} (dat : Dat τ (Elt F) Ix ℕ U Lvl cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 stages its own block, in any proof data over `V`. -/
theorem before3_5_of {c : Dev nD} (dat : Dat τ (Elt F) Ix ℕ U Lvl cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 stages its own block, in any proof data over `V`. -/
theorem before3_6_of {c : Dev nD} (dat : Dat τ (Elt F) Ix ℕ U Lvl cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 stages its own block, in any proof data over `V`. -/
theorem before3_7_of {c : Dev nD} (dat : Dat τ (Elt F) Ix ℕ U Lvl cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8 stages its own block, in any proof data over `V`. -/
theorem before3_8_of {c : Dev nD} (dat : Dat τ (Elt F) Ix ℕ U Lvl cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9 stages its own block, in any proof data over `V`. -/
theorem before3_9_of {c : Dev nD} (dat : Dat τ (Elt F) Ix ℕ U Lvl cfg3 c) (hA : dat.A 9 = V c (Pipeline.arrRef spec3 9))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Window 10 stages its own block, in any proof data over `V`. -/
theorem before3_10_of {c : Dev nD} (dat : Dat τ (Elt F) Ix ℕ U Lvl cfg3 c) (hA : dat.A 10 = V c (Pipeline.arrRef spec3 10))
    (hafter : ∀ t, dat.after 10 t = iblk V c 10 t) (t : Fin cfg3.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- The view of output 11. -/
abbrev VO3_11 : View sig .tc .vmem S1x1x2048 .f32 := (Memref.whole cc3_stg11_0 : Memref sig .tc .vmem S1x1x2048 .f32).view
/-- The view of output 12. -/
abbrev VO3_12 : View sig .tc .vmem S1x2048x128 .f32 := (Memref.whole cc3_stg12_0 : Memref sig .tc .vmem S1x2048x128 .f32).view
/-- Window 0's staging buffer at a grid point. -/
abbrev ms3_0 (t : Fin cfg3.N) : Memref sig .tc .vmem S1x1x3072 .f32 := win3_0.stage (cfg3.slots t 0)
/-- It is a whole buffer. -/
abbrev hs3_0 (t : Fin cfg3.N) : (ms3_0 t).IsWhole := hstage3_0 ((cfg3.slots t 0).cast nbuf3_0)
/-- Window 1's staging buffer at a grid point. -/
abbrev ms3_1 (t : Fin cfg3.N) : Memref sig .tc .vmem S1x3x3072 .f32 := win3_1.stage (cfg3.slots t 1)
/-- It is a whole buffer. -/
abbrev hs3_1 (t : Fin cfg3.N) : (ms3_1 t).IsWhole := hstage3_1 ((cfg3.slots t 1).cast nbuf3_1)
/-- Window 2's staging buffer at a grid point. -/
abbrev ms3_2 (t : Fin cfg3.N) : Memref sig .tc .vmem S1x1x2048 .f32 := win3_2.stage (cfg3.slots t 2)
/-- It is a whole buffer. -/
abbrev hs3_2 (t : Fin cfg3.N) : (ms3_2 t).IsWhole := hstage3_2 ((cfg3.slots t 2).cast nbuf3_2)
/-- Window 3's staging buffer at a grid point. -/
abbrev ms3_3 (t : Fin cfg3.N) : Memref sig .tc .vmem S1x1x2048 .f32 := win3_3.stage (cfg3.slots t 3)
/-- It is a whole buffer. -/
abbrev hs3_3 (t : Fin cfg3.N) : (ms3_3 t).IsWhole := hstage3_3 ((cfg3.slots t 3).cast nbuf3_3)
/-- Window 4's staging buffer at a grid point. -/
abbrev ms3_4 (t : Fin cfg3.N) : Memref sig .tc .vmem S1x2048x128 .f32 := win3_4.stage (cfg3.slots t 4)
/-- It is a whole buffer. -/
abbrev hs3_4 (t : Fin cfg3.N) : (ms3_4 t).IsWhole := hstage3_4 ((cfg3.slots t 4).cast nbuf3_4)
/-- Window 5's staging buffer at a grid point. -/
abbrev ms3_5 (t : Fin cfg3.N) : Memref sig .tc .vmem S4x3072 .f32 := win3_5.stage (cfg3.slots t 5)
/-- It is a whole buffer. -/
abbrev hs3_5 (t : Fin cfg3.N) : (ms3_5 t).IsWhole := hstage3_5 ((cfg3.slots t 5).cast nbuf3_5)
/-- Window 6's staging buffer at a grid point. -/
abbrev ms3_6 (t : Fin cfg3.N) : Memref sig .tc .vmem S1x3072 .f32 := win3_6.stage (cfg3.slots t 6)
/-- It is a whole buffer. -/
abbrev hs3_6 (t : Fin cfg3.N) : (ms3_6 t).IsWhole := hstage3_6 ((cfg3.slots t 6).cast nbuf3_6)
/-- Window 7's staging buffer at a grid point. -/
abbrev ms3_7 (t : Fin cfg3.N) : Memref sig .tc .vmem S1x2048 .f32 := win3_7.stage (cfg3.slots t 7)
/-- It is a whole buffer. -/
abbrev hs3_7 (t : Fin cfg3.N) : (ms3_7 t).IsWhole := hstage3_7 ((cfg3.slots t 7).cast nbuf3_7)
/-- Window 8's staging buffer at a grid point. -/
abbrev ms3_8 (t : Fin cfg3.N) : Memref sig .tc .vmem S1x2048 .f32 := win3_8.stage (cfg3.slots t 8)
/-- It is a whole buffer. -/
abbrev hs3_8 (t : Fin cfg3.N) : (ms3_8 t).IsWhole := hstage3_8 ((cfg3.slots t 8).cast nbuf3_8)
/-- Window 9's staging buffer at a grid point. -/
abbrev ms3_9 (t : Fin cfg3.N) : Memref sig .tc .vmem S1x2048 .f32 := win3_9.stage (cfg3.slots t 9)
/-- It is a whole buffer. -/
abbrev hs3_9 (t : Fin cfg3.N) : (ms3_9 t).IsWhole := hstage3_9 ((cfg3.slots t 9).cast nbuf3_9)
/-- Window 10's staging buffer at a grid point. -/
abbrev ms3_10 (t : Fin cfg3.N) : Memref sig .tc .vmem S1x2048 .f32 := win3_10.stage (cfg3.slots t 10)
/-- It is a whole buffer. -/
abbrev hs3_10 (t : Fin cfg3.N) : (ms3_10 t).IsWhole := hstage3_10 ((cfg3.slots t 10).cast nbuf3_10)
/-- Window 11's staging buffer at a grid point. -/
abbrev ms3_11 (t : Fin cfg3.N) : Memref sig .tc .vmem S1x1x2048 .f32 := win3_11.stage (cfg3.slots t 11)
/-- It is a whole buffer. -/
abbrev hs3_11 (t : Fin cfg3.N) : (ms3_11 t).IsWhole := hstage3_11 ((cfg3.slots t 11).cast nbuf3_11)
/-- Window 12's staging buffer at a grid point. -/
abbrev ms3_12 (t : Fin cfg3.N) : Memref sig .tc .vmem S1x2048x128 .f32 := win3_12.stage (cfg3.slots t 12)
/-- It is a whole buffer. -/
abbrev hs3_12 (t : Fin cfg3.N) : (ms3_12 t).IsWhole := hstage3_12 ((cfg3.slots t 12).cast nbuf3_12)

set_option maxHeartbeats 1000000 in
/-- The body's run at any point, with the pieces it leaves in the two outputs. -/
noncomputable def kernelRun3_A (c : Dev nD) (i : grid3.Coords) (arg1 : Memref sig .tc .vmem S1x1x3072 .f32) (harg1 : arg1.IsWhole) (arg2 : Memref sig .tc .vmem S1x3x3072 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048x128 .f32) (harg5 : arg5.IsWhole) (arg6 : Memref sig .tc .vmem S4x3072 .f32) (harg6 : arg6.IsWhole) (arg7 : Memref sig .tc .vmem S1x3072 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x2048x128 .f32) (harg13 : arg13.IsWhole)
    (x0 : Vec F S1x1x3072 .f32) (x1 : Vec F S1x3x3072 .f32) (x2 : Vec F S1x1x2048 .f32) (x3 : Vec F S1x1x2048 .f32) (x4 : Vec F S1x2048x128 .f32) (x5 : Vec F S4x3072 .f32) (x6 : Vec F S1x3072 .f32) (x7 : Vec F S1x2048 .f32) (x8 : Vec F S1x2048 .f32) (x9 : Vec F S1x2048 .f32) (x10 : Vec F S1x2048 .f32) :
    Σ' (L11 : List (View.Piece (Elt F) S1x1x2048 .f32)), { L12 : List (View.Piece (Elt F) S1x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) 𝒱₀ c none) E (cc3_sample_ssm i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc3_sample_ssm_eq_skeleton]; unfold cc3_sample_ssm_skel
    simp only [k3_part1_eq_skeleton, k3_part2_eq_skeleton, k3_part3_eq_skeleton, k3_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact H12

/-- The stores fill output 11. -/
theorem cover3_A_11 (c : Dev nD) (i : grid3.Coords) (arg1 : Memref sig .tc .vmem S1x1x3072 .f32) (harg1 : arg1.IsWhole) (arg2 : Memref sig .tc .vmem S1x3x3072 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048x128 .f32) (harg5 : arg5.IsWhole) (arg6 : Memref sig .tc .vmem S4x3072 .f32) (harg6 : arg6.IsWhole) (arg7 : Memref sig .tc .vmem S1x3072 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x2048x128 .f32) (harg13 : arg13.IsWhole)
    (x0 : Vec F S1x1x3072 .f32) (x1 : Vec F S1x3x3072 .f32) (x2 : Vec F S1x1x2048 .f32) (x3 : Vec F S1x1x2048 .f32) (x4 : Vec F S1x2048x128 .f32) (x5 : Vec F S4x3072 .f32) (x6 : Vec F S1x3072 .f32) (x7 : Vec F S1x2048 .f32) (x8 : Vec F S1x2048 .f32) (x9 : Vec F S1x2048 .f32) (x10 : Vec F S1x2048 .f32) (y : S1x1x2048.Idx) :
    ∃ pc ∈ (kernelRun3_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1, y ∈ pc.1.set :=
  View.cover_of_tiledL (kernelRun3_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1 S1x1x2048.size (by sl_kernel_rfl) y

/-- What output 11 then holds. -/
def out3_A_11 (c : Dev nD) (i : grid3.Coords) (arg1 : Memref sig .tc .vmem S1x1x3072 .f32) (harg1 : arg1.IsWhole) (arg2 : Memref sig .tc .vmem S1x3x3072 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048x128 .f32) (harg5 : arg5.IsWhole) (arg6 : Memref sig .tc .vmem S4x3072 .f32) (harg6 : arg6.IsWhole) (arg7 : Memref sig .tc .vmem S1x3072 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x2048x128 .f32) (harg13 : arg13.IsWhole)
    (x0 : Vec F S1x1x3072 .f32) (x1 : Vec F S1x3x3072 .f32) (x2 : Vec F S1x1x2048 .f32) (x3 : Vec F S1x1x2048 .f32) (x4 : Vec F S1x2048x128 .f32) (x5 : Vec F S4x3072 .f32) (x6 : Vec F S1x3072 .f32) (x7 : Vec F S1x2048 .f32) (x8 : Vec F S1x2048 .f32) (x9 : Vec F S1x2048 .f32) (x10 : Vec F S1x2048 .f32) : Vec F S1x1x2048 .f32 :=
  VO3_11.read (Elt F) (VO3_11.writes (Elt F) VO3_11.junk (kernelRun3_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1)

/-- The stores fill output 12. -/
theorem cover3_A_12 (c : Dev nD) (i : grid3.Coords) (arg1 : Memref sig .tc .vmem S1x1x3072 .f32) (harg1 : arg1.IsWhole) (arg2 : Memref sig .tc .vmem S1x3x3072 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048x128 .f32) (harg5 : arg5.IsWhole) (arg6 : Memref sig .tc .vmem S4x3072 .f32) (harg6 : arg6.IsWhole) (arg7 : Memref sig .tc .vmem S1x3072 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x2048x128 .f32) (harg13 : arg13.IsWhole)
    (x0 : Vec F S1x1x3072 .f32) (x1 : Vec F S1x3x3072 .f32) (x2 : Vec F S1x1x2048 .f32) (x3 : Vec F S1x1x2048 .f32) (x4 : Vec F S1x2048x128 .f32) (x5 : Vec F S4x3072 .f32) (x6 : Vec F S1x3072 .f32) (x7 : Vec F S1x2048 .f32) (x8 : Vec F S1x2048 .f32) (x9 : Vec F S1x2048 .f32) (x10 : Vec F S1x2048 .f32) (y : S1x2048x128.Idx) :
    ∃ pc ∈ (kernelRun3_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1, y ∈ pc.1.set :=
  View.cover_of_tiledL (kernelRun3_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1 S1x512x128.size (by sl_kernel_rfl) y

/-- What output 12 then holds. -/
def out3_A_12 (c : Dev nD) (i : grid3.Coords) (arg1 : Memref sig .tc .vmem S1x1x3072 .f32) (harg1 : arg1.IsWhole) (arg2 : Memref sig .tc .vmem S1x3x3072 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048x128 .f32) (harg5 : arg5.IsWhole) (arg6 : Memref sig .tc .vmem S4x3072 .f32) (harg6 : arg6.IsWhole) (arg7 : Memref sig .tc .vmem S1x3072 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x2048x128 .f32) (harg13 : arg13.IsWhole)
    (x0 : Vec F S1x1x3072 .f32) (x1 : Vec F S1x3x3072 .f32) (x2 : Vec F S1x1x2048 .f32) (x3 : Vec F S1x1x2048 .f32) (x4 : Vec F S1x2048x128 .f32) (x5 : Vec F S4x3072 .f32) (x6 : Vec F S1x3072 .f32) (x7 : Vec F S1x2048 .f32) (x8 : Vec F S1x2048 .f32) (x9 : Vec F S1x2048 .f32) (x10 : Vec F S1x2048 .f32) : Vec F S1x2048x128 .f32 :=
  VO3_12.read (Elt F) (VO3_12.writes (Elt F) VO3_12.junk (kernelRun3_A (Ix := Ix) (U := U) (Lvl := Lvl) 𝒱₀ c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).2.1)

/-- What the two outputs' staging buffers hold after the body at a grid point. -/
def outsAt3 (c : Dev nD) (t : Fin cfg3.N) : Vec F S1x1x2048 .f32 × Vec F S1x2048x128 .f32 :=
  (out3_A_11 (Ix := Ix) (U := U) (Lvl := Lvl) 𝒱₀ c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (iblk V c 0 t) (iblk V c 1 t) (iblk V c 2 t) (iblk V c 3 t) (iblk V c 4 t) (iblk V c 5 t) (iblk V c 6 t) (iblk V c 7 t) (iblk V c 8 t) (iblk V c 9 t) (iblk V c 10 t), out3_A_12 (Ix := Ix) (U := U) (Lvl := Lvl) 𝒱₀ c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (iblk V c 0 t) (iblk V c 1 t) (iblk V c 2 t) (iblk V c 3 t) (iblk V c 4 t) (iblk V c 5 t) (iblk V c 6 t) (iblk V c 7 t) (iblk V c 8 t) (iblk V c 9 t) (iblk V c 10 t))

/-- The proof data of this region over arrays `V`. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => (outsAt3 (Ix := Ix) (U := U) (Lvl := Lvl) 𝒱₀ V c t).1
    | ⟨12, _⟩ => (outsAt3 (Ix := Ix) (U := U) (Lvl := Lvl) 𝒱₀ V c t).2
  Φ _ := ΦK (F := F) (Ix := Ix) (U := U) (Lvl := Lvl) c
  q _ := fullShare
  owed _ := D c

variable (ι : Ix)

/-- The arrays of the proof data are `V`'s. -/
theorem A_eq (c : Dev nD) (w : Fin cfg3.W) : (dat (Ix := Ix) (U := U) (Lvl := Lvl) 𝒱₀ V D c).A w = V c (Pipeline.arrRef spec3 w) := by
  dsimp only [dat]

/-- What the body leaves in window 0. -/
theorem after3_0 (c : Dev nD) (t : Fin cfg3.N) : (dat (Ix := Ix) (U := U) (Lvl := Lvl) 𝒱₀ V D c).after 0 t = iblk V c 0 t := by dsimp only [dat]
/-- What the body leaves in window 1. -/
theorem after3_1 (c : Dev nD) (t : Fin cfg3.N) : (dat (Ix := Ix) (U := U) (Lvl := Lvl) 𝒱₀ V D c).after 1 t = iblk V c 1 t := by dsimp only [dat]
/-- What the body leaves in window 2. -/
theorem after3_2 (c : Dev nD) (t : Fin cfg3.N) : (dat (Ix := Ix) (U := U) (Lvl := Lvl) 𝒱₀ V D c).after 2 t = iblk V c 2 t := by dsimp only [dat]
/-- What the body leaves in window 3. -/
theorem after3_3 (c : Dev nD) (t : Fin cfg3.N) : (dat (Ix := Ix) (U := U) (Lvl := Lvl) 𝒱₀ V D c).after 3 t = iblk V c 3 t := by dsimp only [dat]
/-- What the body leaves in window 4. -/
theorem after3_4 (c : Dev nD) (t : Fin cfg3.N) : (dat (Ix := Ix) (U := U) (Lvl := Lvl) 𝒱₀ V D c).after 4 t = iblk V c 4 t := by dsimp only [dat]
/-- What the body leaves in window 5. -/
theorem after3_5 (c : Dev nD) (t : Fin cfg3.N) : (dat (Ix := Ix) (U := U) (Lvl := Lvl) 𝒱₀ V D c).after 5 t = iblk V c 5 t := by dsimp only [dat]
/-- What the body leaves in window 6. -/
theorem after3_6 (c : Dev nD) (t : Fin cfg3.N) : (dat (Ix := Ix) (U := U) (Lvl := Lvl) 𝒱₀ V D c).after 6 t = iblk V c 6 t := by dsimp only [dat]
/-- What the body leaves in window 7. -/
theorem after3_7 (c : Dev nD) (t : Fin cfg3.N) : (dat (Ix := Ix) (U := U) (Lvl := Lvl) 𝒱₀ V D c).after 7 t = iblk V c 7 t := by dsimp only [dat]
/-- What the body leaves in window 8. -/
theorem after3_8 (c : Dev nD) (t : Fin cfg3.N) : (dat (Ix := Ix) (U := U) (Lvl := Lvl) 𝒱₀ V D c).after 8 t = iblk V c 8 t := by dsimp only [dat]
/-- What the body leaves in window 9. -/
theorem after3_9 (c : Dev nD) (t : Fin cfg3.N) : (dat (Ix := Ix) (U := U) (Lvl := Lvl) 𝒱₀ V D c).after 9 t = iblk V c 9 t := by dsimp only [dat]
/-- What the body leaves in window 10. -/
theorem after3_10 (c : Dev nD) (t : Fin cfg3.N) : (dat (Ix := Ix) (U := U) (Lvl := Lvl) 𝒱₀ V D c).after 10 t = iblk V c 10 t := by dsimp only [dat]
/-- What the body leaves in window 11. -/
theorem after3_11 (c : Dev nD) (t : Fin cfg3.N) : (dat (Ix := Ix) (U := U) (Lvl := Lvl) 𝒱₀ V D c).after 11 t = (outsAt3 (Ix := Ix) (U := U) (Lvl := Lvl) 𝒱₀ V c t).1 := by dsimp only [dat]
/-- What the body leaves in window 12. -/
theorem after3_12 (c : Dev nD) (t : Fin cfg3.N) : (dat (Ix := Ix) (U := U) (Lvl := Lvl) 𝒱₀ V D c).after 12 t = (outsAt3 (Ix := Ix) (U := U) (Lvl := Lvl) 𝒱₀ V c t).2 := by dsimp only [dat]

/-- The body finds window 0's own block. -/
theorem before3_0 (c : Dev nD) (t : Fin cfg3.N) (d) : (dat (Ix := Ix) (U := U) (Lvl := Lvl) 𝒱₀ V D c).before 0 t d = iblk V c 0 t :=
  before3_0_of V (dat (Ix := Ix) (U := U) (Lvl := Lvl) 𝒱₀ V D c) (A_eq 𝒱₀ V D c 0) (after3_0 𝒱₀ V D c) t d
/-- The body finds window 1's own block. -/
theorem before3_1 (c : Dev nD) (t : Fin cfg3.N) (d) : (dat (Ix := Ix) (U := U) (Lvl := Lvl) 𝒱₀ V D c).before 1 t d = iblk V c 1 t :=
  before3_1_of V (dat (Ix := Ix) (U := U) (Lvl := Lvl) 𝒱₀ V D c) (A_eq 𝒱₀ V D c 1) (after3_1 𝒱₀ V D c) t d
/-- The body finds window 2's own block. -/
theorem before3_2 (c : Dev nD) (t : Fin cfg3.N) (d) : (dat (Ix := Ix) (U := U) (Lvl := Lvl) 𝒱₀ V D c).before 2 t d = iblk V c 2 t :=
  before3_2_of V (dat (Ix := Ix) (U := U) (Lvl := Lvl) 𝒱₀ V D c) (A_eq 𝒱₀ V D c 2) (after3_2 𝒱₀ V D c) t d
/-- The body finds window 3's own block. -/
theorem before3_3 (c : Dev nD) (t : Fin cfg3.N) (d) : (dat (Ix := Ix) (U := U) (Lvl := Lvl) 𝒱₀ V D c).before 3 t d = iblk V c 3 t :=
  before3_3_of V (dat (Ix := Ix) (U := U) (Lvl := Lvl) 𝒱₀ V D c) (A_eq 𝒱₀ V D c 3) (after3_3 𝒱₀ V D c) t d
/-- The body finds window 4's own block. -/
theorem before3_4 (c : Dev nD) (t : Fin cfg3.N) (d) : (dat (Ix := Ix) (U := U) (Lvl := Lvl) 𝒱₀ V D c).before 4 t d = iblk V c 4 t :=
  before3_4_of V (dat (Ix := Ix) (U := U) (Lvl := Lvl) 𝒱₀ V D c) (A_eq 𝒱₀ V D c 4) (after3_4 𝒱₀ V D c) t d
/-- The body finds window 5's own block. -/
theorem before3_5 (c : Dev nD) (t : Fin cfg3.N) (d) : (dat (Ix := Ix) (U := U) (Lvl := Lvl) 𝒱₀ V D c).before 5 t d = iblk V c 5 t :=
  before3_5_of V (dat (Ix := Ix) (U := U) (Lvl := Lvl) 𝒱₀ V D c) (A_eq 𝒱₀ V D c 5) (after3_5 𝒱₀ V D c) t d
/-- The body finds window 6's own block. -/
theorem before3_6 (c : Dev nD) (t : Fin cfg3.N) (d) : (dat (Ix := Ix) (U := U) (Lvl := Lvl) 𝒱₀ V D c).before 6 t d = iblk V c 6 t :=
  before3_6_of V (dat (Ix := Ix) (U := U) (Lvl := Lvl) 𝒱₀ V D c) (A_eq 𝒱₀ V D c 6) (after3_6 𝒱₀ V D c) t d
/-- The body finds window 7's own block. -/
theorem before3_7 (c : Dev nD) (t : Fin cfg3.N) (d) : (dat (Ix := Ix) (U := U) (Lvl := Lvl) 𝒱₀ V D c).before 7 t d = iblk V c 7 t :=
  before3_7_of V (dat (Ix := Ix) (U := U) (Lvl := Lvl) 𝒱₀ V D c) (A_eq 𝒱₀ V D c 7) (after3_7 𝒱₀ V D c) t d
/-- The body finds window 8's own block. -/
theorem before3_8 (c : Dev nD) (t : Fin cfg3.N) (d) : (dat (Ix := Ix) (U := U) (Lvl := Lvl) 𝒱₀ V D c).before 8 t d = iblk V c 8 t :=
  before3_8_of V (dat (Ix := Ix) (U := U) (Lvl := Lvl) 𝒱₀ V D c) (A_eq 𝒱₀ V D c 8) (after3_8 𝒱₀ V D c) t d
/-- The body finds window 9's own block. -/
theorem before3_9 (c : Dev nD) (t : Fin cfg3.N) (d) : (dat (Ix := Ix) (U := U) (Lvl := Lvl) 𝒱₀ V D c).before 9 t d = iblk V c 9 t :=
  before3_9_of V (dat (Ix := Ix) (U := U) (Lvl := Lvl) 𝒱₀ V D c) (A_eq 𝒱₀ V D c 9) (after3_9 𝒱₀ V D c) t d
/-- The body finds window 10's own block. -/
theorem before3_10 (c : Dev nD) (t : Fin cfg3.N) (d) : (dat (Ix := Ix) (U := U) (Lvl := Lvl) 𝒱₀ V D c).before 10 t d = iblk V c 10 t :=
  before3_10_of V (dat (Ix := Ix) (U := U) (Lvl := Lvl) 𝒱₀ V D c) (A_eq 𝒱₀ V D c 10) (after3_10 𝒱₀ V D c) t d

/-- What the body is given. -/
def bodyPre (c : Dev nD) (t : Fin cfg3.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms3_0 t) fullShare ((dat (Ix := Ix) (U := U) (Lvl := Lvl) 𝒱₀ V D c).before 0 t d))
    ∗ (∃ d, owns (c : Thread nD τ) (ms3_1 t) fullShare ((dat (Ix := Ix) (U := U) (Lvl := Lvl) 𝒱₀ V D c).before 1 t d))
    ∗ (∃ d, owns (c : Thread nD τ) (ms3_2 t) fullShare ((dat (Ix := Ix) (U := U) (Lvl := Lvl) 𝒱₀ V D c).before 2 t d))
    ∗ (∃ d, owns (c : Thread nD τ) (ms3_3 t) fullShare ((dat (Ix := Ix) (U := U) (Lvl := Lvl) 𝒱₀ V D c).before 3 t d))
    ∗ (∃ d, owns (c : Thread nD τ) (ms3_4 t) fullShare ((dat (Ix := Ix) (U := U) (Lvl := Lvl) 𝒱₀ V D c).before 4 t d))
    ∗ (∃ d, owns (c : Thread nD τ) (ms3_5 t) fullShare ((dat (Ix := Ix) (U := U) (Lvl := Lvl) 𝒱₀ V D c).before 5 t d))
    ∗ (∃ d, owns (c : Thread nD τ) (ms3_6 t) fullShare ((dat (Ix := Ix) (U := U) (Lvl := Lvl) 𝒱₀ V D c).before 6 t d))
    ∗ (∃ d, owns (c : Thread nD τ) (ms3_7 t) fullShare ((dat (Ix := Ix) (U := U) (Lvl := Lvl) 𝒱₀ V D c).before 7 t d))
    ∗ (∃ d, owns (c : Thread nD τ) (ms3_8 t) fullShare ((dat (Ix := Ix) (U := U) (Lvl := Lvl) 𝒱₀ V D c).before 8 t d))
    ∗ (∃ d, owns (c : Thread nD τ) (ms3_9 t) fullShare ((dat (Ix := Ix) (U := U) (Lvl := Lvl) 𝒱₀ V D c).before 9 t d))
    ∗ (∃ d, owns (c : Thread nD τ) (ms3_10 t) fullShare ((dat (Ix := Ix) (U := U) (Lvl := Lvl) 𝒱₀ V D c).before 10 t d))
    ∗ (∃ d, owns (c : Thread nD τ) (ms3_11 t) fullShare ((dat (Ix := Ix) (U := U) (Lvl := Lvl) 𝒱₀ V D c).before 11 t d))
    ∗ (∃ d, owns (c : Thread nD τ) (ms3_12 t) fullShare ((dat (Ix := Ix) (U := U) (Lvl := Lvl) 𝒱₀ V D c).before 12 t d)))

/-- What the body gives back. -/
def bodyPost (c : Dev nD) (t : Fin cfg3.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms3_0 t) fullShare ((dat (Ix := Ix) (U := U) (Lvl := Lvl) 𝒱₀ V D c).after 0 t)
    ∗ owns (c : Thread nD τ) (ms3_1 t) fullShare ((dat (Ix := Ix) (U := U) (Lvl := Lvl) 𝒱₀ V D c).after 1 t)
    ∗ owns (c : Thread nD τ) (ms3_2 t) fullShare ((dat (Ix := Ix) (U := U) (Lvl := Lvl) 𝒱₀ V D c).after 2 t)
    ∗ owns (c : Thread nD τ) (ms3_3 t) fullShare ((dat (Ix := Ix) (U := U) (Lvl := Lvl) 𝒱₀ V D c).after 3 t)
    ∗ owns (c : Thread nD τ) (ms3_4 t) fullShare ((dat (Ix := Ix) (U := U) (Lvl := Lvl) 𝒱₀ V D c).after 4 t)
    ∗ owns (c : Thread nD τ) (ms3_5 t) fullShare ((dat (Ix := Ix) (U := U) (Lvl := Lvl) 𝒱₀ V D c).after 5 t)
    ∗ owns (c : Thread nD τ) (ms3_6 t) fullShare ((dat (Ix := Ix) (U := U) (Lvl := Lvl) 𝒱₀ V D c).after 6 t)
    ∗ owns (c : Thread nD τ) (ms3_7 t) fullShare ((dat (Ix := Ix) (U := U) (Lvl := Lvl) 𝒱₀ V D c).after 7 t)
    ∗ owns (c : Thread nD τ) (ms3_8 t) fullShare ((dat (Ix := Ix) (U := U) (Lvl := Lvl) 𝒱₀ V D c).after 8 t)
    ∗ owns (c : Thread nD τ) (ms3_9 t) fullShare ((dat (Ix := Ix) (U := U) (Lvl := Lvl) 𝒱₀ V D c).after 9 t)
    ∗ owns (c : Thread nD τ) (ms3_10 t) fullShare ((dat (Ix := Ix) (U := U) (Lvl := Lvl) 𝒱₀ V D c).after 10 t)
    ∗ owns (c : Thread nD τ) (ms3_11 t) fullShare ((dat (Ix := Ix) (U := U) (Lvl := Lvl) 𝒱₀ V D c).after 11 t)
    ∗ owns (c : Thread nD τ) (ms3_12 t) fullShare ((dat (Ix := Ix) (U := U) (Lvl := Lvl) 𝒱₀ V D c).after 12 t))

set_option maxHeartbeats 1200000 in
/-- The body runs at every point, from the windows' blocks to the contents `outsAt` states. -/
theorem sound_body (c : Dev nD) (t : Fin cfg3.N) :
    bodyPre (U := U) (Lvl := Lvl) 𝒱₀ V D ι c t ⊢ wp frame (wpE (defs₀ (F := F)) 𝒱₀ c none) Set.univ (bodyAt3 t) (fun _ => bodyPost (U := U) (Lvl := Lvl) 𝒱₀ V D ι c t) := by
  unfold bodyPre bodyPost bodyAt3
  simp only [before3_0, before3_1, before3_2, before3_3, before3_4, before3_5, before3_6, before3_7, before3_8, before3_9, before3_10]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after3_0, after3_1, after3_2, after3_3, after3_4, after3_5, after3_6, after3_7, after3_8, after3_9, after3_10, after3_11, after3_12]
  unfold outsAt3
  unfold out3_A_11 out3_A_12; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3_A (Ix := Ix) (U := U) (Lvl := Lvl) 𝒱₀ c (grid3.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover3_A_11 (Ix := Ix) (U := U) (Lvl := Lvl) 𝒱₀ c _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover3_A_12 (Ix := Ix) (U := U) (Lvl := Lvl) 𝒱₀ c _ _ _ _ _ _ _ _ _ _ _ _ _ _ _ _ _ _ _ _ _ _ _ _ _ _ _ _ _ _ _ _ _ _ _ _ _ _)

/-- The function the program calls at a grid point. -/
theorem defs₀_row (t : Fin cfg3.N) :
    defs₀ (F := F) .tc cfg3.body (cfg3.bodyArgs t (cfg3.slots t)) = bodyAt3 t := by
  unfold defs₀; rw [Defs.onTc_tc]

/-- The same in the library's form. -/
theorem body_obligation (c : Dev nD) : BodyObligation (dat (Ix := Ix) (U := U) (Lvl := Lvl) 𝒱₀ V D c) (defs₀ (F := F)) 𝒱₀ ι Set.univ := fun t => by
  rw [bigSep_W3, bigSep_W3, defs₀_row]
  exact triple_restated (sound_body (U := U) (Lvl := Lvl) 𝒱₀ V D ι c t) rfl .rfl fun _ => .rfl

end Cert.Kernel11Ideal.R3

end
-- ==== Proof.Kernel11IdealS.lean ====
module

public import proofs.«01_k».proof.Proof.Kernel11IdealR3
public import proofs.«01_k».proof.Proof.Gen.KernelIdeal.Frame
public import Idealize.ShloMosaic.Lib.Pipeline.ValueKit
public import Idealize.ShloMosaic.Lib.Pipeline.ReadBack

/-!
The step of the state space model computes the same from its blocks whether it is run by itself or as the last of the four calls of the decoding step: the lines of the two bodies agree one by one, up to reshapes between equal shapes.
-/

@[expose] public section

set_option maxRecDepth 16384

noncomputable section

namespace Cert.Kernel11Ideal.Same

open Cert.Kernel11Ideal Cert.Kernel11Ideal.Gen Idealize.ShloMosaic Idealize.ShloMosaic.TcCoe Idealize.SL.Sem

/-- One step of the body, in the recurrence's own program. -/
theorem e2 (v0 : Vec Ideal S1x3072 .f32) (v2 : Vec Ideal S1x3072 .f32) (v4 : Vec Ideal S1x1x3072 .f32) (v8 : Vec Ideal S1x3072 .f32) (v10 : Vec Ideal S1x1x3072 .f32) (v14 : Vec Ideal S1x3072 .f32) (v16 : Vec Ideal S1x1x3072 .f32) (v20 : Vec Ideal S1x3072 .f32) (v22 : Vec Ideal S1x1x3072 .f32) :
    k3_pay2 v0 v2 v4 v8 v10 v14 v16 v20 v22 = Cert.KernelIdeal.Gen.k0_pay2 v0 v2 v4 v8 v10 v14 v16 v20 v22 := by
  unfold k3_pay2 Cert.KernelIdeal.Gen.k0_pay2
  simp only [shapeCast_id]
  try rfl

/-- One step of the body, in the recurrence's own program. -/
theorem e11 (v27 : FVec Ideal S1x3072 .f32) :
    k3_pay11 v27 = Cert.KernelIdeal.Gen.k0_pay12 v27 := by
  unfold k3_pay11 Cert.KernelIdeal.Gen.k0_pay12
  simp only [shapeCast_id]
  try rfl

/-- One step of the body, in the recurrence's own program. -/
theorem e12 (v27 : FVec Ideal S1x3072 .f32) :
    k3_pay12 v27 = Cert.KernelIdeal.Gen.k0_pay13 v27 := by
  unfold k3_pay12 Cert.KernelIdeal.Gen.k0_pay13
  simp only [shapeCast_id]
  try rfl

/-- One step of the body, in the recurrence's own program. -/
theorem e13 (v52 : FVec Ideal S2048x128 .f32) (v55 : FVec Ideal S2048x128 .f32) (v77 : FVec Ideal S1x128 .f32) (v79 : Vec Ideal S1x512x128 .f32) :
    k3_pay13 v52 v55 v77 v79 = Cert.KernelIdeal.Gen.k0_pay14 v52 v55 v77 v79 := by
  unfold k3_pay13 Cert.KernelIdeal.Gen.k0_pay14
  simp only [shapeCast_id]
  try rfl

/-- One step of the body, in the recurrence's own program. -/
theorem e15 (v52 : FVec Ideal S2048x128 .f32) (v55 : FVec Ideal S2048x128 .f32) (v77 : FVec Ideal S1x128 .f32) (v78 : FVec Ideal S1x128 .f32) (v79 : Vec Ideal S1x512x128 .f32) :
    k3_pay15 v52 v55 v77 v78 v79 = Cert.KernelIdeal.Gen.k0_pay16 v52 v55 v77 v78 v79 := by
  unfold k3_pay15 Cert.KernelIdeal.Gen.k0_pay16
  simp only [shapeCast_id]
  try rfl

/-- One step of the body, in the recurrence's own program. -/
theorem e16 (v27 : FVec Ideal S1x3072 .f32) (v52 : FVec Ideal S2048x128 .f32) (v55 : FVec Ideal S2048x128 .f32) (v100 : Vec Ideal S1x512x128 .f32) :
    k3_pay16 v27 v52 v55 v100 = Cert.KernelIdeal.Gen.k0_pay17 v27 v52 v55 v100 := by
  unfold k3_pay16 Cert.KernelIdeal.Gen.k0_pay17
  simp only [shapeCast_id]
  try rfl

/-- One step of the body, in the recurrence's own program. -/
theorem e19 (v27 : FVec Ideal S1x3072 .f32) :
    k3_pay19 v27 = Cert.KernelIdeal.Gen.k0_pay20 v27 := by
  unfold k3_pay19 Cert.KernelIdeal.Gen.k0_pay20
  simp only [shapeCast_id]
  try rfl

/-- One step of the body, in the recurrence's own program. -/
theorem e20 (v27 : FVec Ideal S1x3072 .f32) :
    k3_pay20 v27 = Cert.KernelIdeal.Gen.k0_pay21 v27 := by
  unfold k3_pay20 Cert.KernelIdeal.Gen.k0_pay21
  simp only [shapeCast_id]
  try rfl

/-- One step of the body, in the recurrence's own program. -/
theorem e23 (v145 : Vec Ideal S1x2048 .f32) :
    k3_pay23 v145 = Cert.KernelIdeal.Gen.k0_pay26 v145 := by
  unfold k3_pay23 Cert.KernelIdeal.Gen.k0_pay26
  simp only [shapeCast_id]
  try rfl

/-- One step of the body, in the recurrence's own program. -/
theorem e3 (v0 : Vec Ideal S1x3072 .f32) (v2 : Vec Ideal S1x3072 .f32) (v4 : Vec Ideal S1x1x3072 .f32) (v8 : Vec Ideal S1x3072 .f32) (v10 : Vec Ideal S1x1x3072 .f32) (v14 : Vec Ideal S1x3072 .f32) (v16 : Vec Ideal S1x1x3072 .f32) (v20 : Vec Ideal S1x3072 .f32) (v22 : Vec Ideal S1x1x3072 .f32) :
    k3_pay3 v0 v2 v4 v8 v10 v14 v16 v20 v22 = Cert.KernelIdeal.Gen.k0_pay3 v0 v2 v4 v8 v10 v14 v16 v20 v22 := by
  unfold k3_pay3 Cert.KernelIdeal.Gen.k0_pay3
  simp only [shapeCast_id, e2]
  try rfl

/-- One step of the body, in the recurrence's own program. -/
theorem e5 (v29 : Vec Ideal S1x1x2048 .f32) (v31 : Vec Ideal S1x2048 .f32) :
    k3_pay5 (k3_pay4 v29) v31 = Cert.KernelIdeal.Gen.k0_pay6 (Cert.KernelIdeal.Gen.k0_pay4 v29 v31) (Cert.KernelIdeal.Gen.k0_pay5 (F := Ideal)) := by
  unfold k3_pay5 k3_pay4 Cert.KernelIdeal.Gen.k0_pay6 Cert.KernelIdeal.Gen.k0_pay4 Cert.KernelIdeal.Gen.k0_pay5
  simp only [shapeCast_id]
  try rfl

/-- One step of the body, in the recurrence's own program. -/
theorem e6 (v29 : Vec Ideal S1x1x2048 .f32) (v31 : Vec Ideal S1x2048 .f32) (v42 : Vec Ideal S1x2048 .f32) :
    k3_pay6 (k3_pay4 v29) v31 v42 = Cert.KernelIdeal.Gen.k0_pay7 (Cert.KernelIdeal.Gen.k0_pay4 v29 v31) (Cert.KernelIdeal.Gen.k0_pay5 (F := Ideal)) v42 := by
  unfold k3_pay6 Cert.KernelIdeal.Gen.k0_pay7
  simp only [shapeCast_id, e5]
  try rfl

/-- One step of the body, in the recurrence's own program. -/
theorem e7 (v28 : FVec Ideal S1x2048 .f32) (v29 : Vec Ideal S1x1x2048 .f32) (v31 : Vec Ideal S1x2048 .f32) :
    k3_pay7 v28 (k3_pay4 v29) v31 = Cert.KernelIdeal.Gen.k0_pay8 v28 (Cert.KernelIdeal.Gen.k0_pay4 v29 v31) (Cert.KernelIdeal.Gen.k0_pay5 (F := Ideal)) := by
  unfold k3_pay7 Cert.KernelIdeal.Gen.k0_pay8
  simp only [shapeCast_id, e5]
  try rfl

/-- One step of the body, in the recurrence's own program. -/
theorem e8 (v27 : FVec Ideal S1x3072 .f32) (v28 : FVec Ideal S1x2048 .f32) (v29 : Vec Ideal S1x1x2048 .f32) (v31 : Vec Ideal S1x2048 .f32) (v42 : Vec Ideal S1x2048 .f32) (v58 : Vec Ideal S1x512x128 .f32) :
    k3_pay8 v27 v28 (k3_pay4 v29) v31 v42 v58 = Cert.KernelIdeal.Gen.k0_pay9 v27 v28 (Cert.KernelIdeal.Gen.k0_pay4 v29 v31) (Cert.KernelIdeal.Gen.k0_pay5 (F := Ideal)) v42 v58 := by
  unfold k3_pay8 Cert.KernelIdeal.Gen.k0_pay9
  simp only [shapeCast_id, e6, e7]
  try rfl

/-- One step of the body, in the recurrence's own program. -/
theorem e9 (v27 : FVec Ideal S1x3072 .f32) (v28 : FVec Ideal S1x2048 .f32) (v29 : Vec Ideal S1x1x2048 .f32) (v31 : Vec Ideal S1x2048 .f32) (v42 : Vec Ideal S1x2048 .f32) (v58 : Vec Ideal S1x512x128 .f32) :
    k3_pay9 v27 v28 (k3_pay4 v29) v31 v42 v58 = Cert.KernelIdeal.Gen.k0_pay10 v27 v28 (Cert.KernelIdeal.Gen.k0_pay4 v29 v31) (Cert.KernelIdeal.Gen.k0_pay5 (F := Ideal)) v42 v58 := by
  unfold k3_pay9 Cert.KernelIdeal.Gen.k0_pay10
  simp only [shapeCast_id, e8]
  try rfl

/-- One step of the body, in the recurrence's own program. -/
theorem e10 (v27 : FVec Ideal S1x3072 .f32) (v28 : FVec Ideal S1x2048 .f32) (v29 : Vec Ideal S1x1x2048 .f32) (v31 : Vec Ideal S1x2048 .f32) (v42 : Vec Ideal S1x2048 .f32) (v58 : Vec Ideal S1x512x128 .f32) :
    k3_pay10 v27 v28 (k3_pay4 v29) v31 v42 v58 = Cert.KernelIdeal.Gen.k0_pay11 v27 v28 (Cert.KernelIdeal.Gen.k0_pay4 v29 v31) (Cert.KernelIdeal.Gen.k0_pay5 (F := Ideal)) v42 v58 := by
  unfold k3_pay10 Cert.KernelIdeal.Gen.k0_pay11
  simp only [shapeCast_id, e8]
  try rfl

/-- One step of the body, in the recurrence's own program. -/
theorem e14 (v52 : FVec Ideal S2048x128 .f32) (v55 : FVec Ideal S2048x128 .f32) (v77 : FVec Ideal S1x128 .f32) (v79 : Vec Ideal S1x512x128 .f32) :
    k3_pay14 v52 v55 v77 v79 = Cert.KernelIdeal.Gen.k0_pay15 v52 v55 v77 v79 := by
  unfold k3_pay14 Cert.KernelIdeal.Gen.k0_pay15
  simp only [shapeCast_id, e13]
  try rfl

/-- One step of the body, in the recurrence's own program. -/
theorem e17 (v27 : FVec Ideal S1x3072 .f32) (v52 : FVec Ideal S2048x128 .f32) (v55 : FVec Ideal S2048x128 .f32) (v100 : Vec Ideal S1x512x128 .f32) :
    k3_pay17 v27 v52 v55 v100 = Cert.KernelIdeal.Gen.k0_pay18 v27 v52 v55 v100 := by
  unfold k3_pay17 Cert.KernelIdeal.Gen.k0_pay18
  simp only [shapeCast_id, e16]
  try rfl

/-- One step of the body, in the recurrence's own program. -/
theorem e18 (v27 : FVec Ideal S1x3072 .f32) (v52 : FVec Ideal S2048x128 .f32) (v55 : FVec Ideal S2048x128 .f32) (v100 : Vec Ideal S1x512x128 .f32) :
    k3_pay18 v27 v52 v55 v100 = Cert.KernelIdeal.Gen.k0_pay19 v27 v52 v55 v100 := by
  unfold k3_pay18 Cert.KernelIdeal.Gen.k0_pay19
  simp only [shapeCast_id, e16]
  try rfl

/-- One step of the body, in the recurrence's own program. -/
theorem e21 (v52 : FVec Ideal S2048x128 .f32) (v55 : FVec Ideal S2048x128 .f32) (v119 : FVec Ideal S1x128 .f32) (v121 : Vec Ideal S1x512x128 .f32) :
    k3_pay21 v52 v55 v119 v121 = Cert.KernelIdeal.Gen.k0_pay24 v55 v119 (Cert.KernelIdeal.Gen.k0_pay22 v121) (Cert.KernelIdeal.Gen.k0_pay23 v52) := by
  unfold k3_pay21 Cert.KernelIdeal.Gen.k0_pay24 Cert.KernelIdeal.Gen.k0_pay22 Cert.KernelIdeal.Gen.k0_pay23
  simp only [shapeCast_id]
  try rfl

/-- One step of the body, in the recurrence's own program. -/
theorem e22 (v52 : FVec Ideal S2048x128 .f32) (v55 : FVec Ideal S2048x128 .f32) (v119 : FVec Ideal S1x128 .f32) (v121 : Vec Ideal S1x512x128 .f32) :
    k3_pay22 v52 v55 v119 v121 = Cert.KernelIdeal.Gen.k0_pay25 v55 v119 (Cert.KernelIdeal.Gen.k0_pay22 v121) (Cert.KernelIdeal.Gen.k0_pay23 v52) := by
  unfold k3_pay22 Cert.KernelIdeal.Gen.k0_pay25
  simp only [shapeCast_id, e21]
  try rfl

/-- One step of the body, in the recurrence's own program. -/
theorem e24 (v28 : FVec Ideal S1x2048 .f32) (v52 : FVec Ideal S2048x128 .f32) (v55 : FVec Ideal S2048x128 .f32) (v76 : FVec Ideal S1x512 .f32) (v97 : FVec Ideal S1x512 .f32) (v118 : FVec Ideal S1x512 .f32) (v119 : FVec Ideal S1x128 .f32) (v120 : FVec Ideal S1x128 .f32) (v121 : Vec Ideal S1x512x128 .f32) (v141 : Vec Ideal S1x1x2048 .f32) (v143 : Vec Ideal S1x2048 .f32) :
    k3_pay24 v28 v52 v55 v76 v97 v118 v119 v120 v121 v141 v143 = Cert.KernelIdeal.Gen.k0_pay27 v28 v55 v76 v97 v118 v119 v120 (Cert.KernelIdeal.Gen.k0_pay22 v121) (Cert.KernelIdeal.Gen.k0_pay23 v52) v141 v143 := by
  unfold k3_pay24 Cert.KernelIdeal.Gen.k0_pay27
  simp only [shapeCast_id, e21]
  try rfl

/-- One step of the body, in the recurrence's own program. -/
theorem e25 (v28 : FVec Ideal S1x2048 .f32) (v52 : FVec Ideal S2048x128 .f32) (v55 : FVec Ideal S2048x128 .f32) (v76 : FVec Ideal S1x512 .f32) (v97 : FVec Ideal S1x512 .f32) (v118 : FVec Ideal S1x512 .f32) (v119 : FVec Ideal S1x128 .f32) (v120 : FVec Ideal S1x128 .f32) (v121 : Vec Ideal S1x512x128 .f32) (v141 : Vec Ideal S1x1x2048 .f32) (v143 : Vec Ideal S1x2048 .f32) :
    k3_pay25 v28 v52 v55 v76 v97 v118 v119 v120 v121 v141 v143 = Cert.KernelIdeal.Gen.k0_pay28 v28 v55 v76 v97 v118 v119 v120 (Cert.KernelIdeal.Gen.k0_pay22 v121) (Cert.KernelIdeal.Gen.k0_pay23 v52) v141 v143 := by
  unfold k3_pay25 Cert.KernelIdeal.Gen.k0_pay28
  simp only [shapeCast_id, e24]
  try rfl

/-- One step of the body, in the recurrence's own program. -/
theorem e26 (v28 : FVec Ideal S1x2048 .f32) (v52 : FVec Ideal S2048x128 .f32) (v55 : FVec Ideal S2048x128 .f32) (v76 : FVec Ideal S1x512 .f32) (v97 : FVec Ideal S1x512 .f32) (v118 : FVec Ideal S1x512 .f32) (v119 : FVec Ideal S1x128 .f32) (v120 : FVec Ideal S1x128 .f32) (v121 : Vec Ideal S1x512x128 .f32) (v141 : Vec Ideal S1x1x2048 .f32) (v143 : Vec Ideal S1x2048 .f32) :
    k3_pay26 v28 v52 v55 v76 v97 v118 v119 v120 v121 v141 v143 = Cert.KernelIdeal.Gen.k0_pay29 v28 v55 v76 v97 v118 v119 v120 (Cert.KernelIdeal.Gen.k0_pay22 v121) (Cert.KernelIdeal.Gen.k0_pay23 v52) v141 v143 := by
  unfold k3_pay26 Cert.KernelIdeal.Gen.k0_pay29
  simp only [shapeCast_id, e24]
  try rfl

/-- One step of the body, in the recurrence's own program. -/
theorem e1 (v146 : FVec Ideal S1x2048 .f32) (v28 : FVec Ideal S1x2048 .f32) (v52 : FVec Ideal S2048x128 .f32) (v55 : FVec Ideal S2048x128 .f32) (v76 : FVec Ideal S1x512 .f32) (v97 : FVec Ideal S1x512 .f32) (v118 : FVec Ideal S1x512 .f32) (v119 : FVec Ideal S1x128 .f32) (v120 : FVec Ideal S1x128 .f32) (v121 : Vec Ideal S1x512x128 .f32) (v141 : Vec Ideal S1x1x2048 .f32) (v143 : Vec Ideal S1x2048 .f32) :
    k3_pay1 v146 (k3_pay24 v28 v52 v55 v76 v97 v118 v119 v120 v121 v141 v143) (k3_pay25 v28 v52 v55 v76 v97 v118 v119 v120 v121 v141 v143) (k3_pay26 v28 v52 v55 v76 v97 v118 v119 v120 v121 v141 v143) (k3_pay27 v28 v52 v55 v76 v97 v118 v119 v120 v121 v141 v143) = Cert.KernelIdeal.Gen.k0_pay1 v146 (k3_pay24 v28 v52 v55 v76 v97 v118 v119 v120 v121 v141 v143) (k3_pay25 v28 v52 v55 v76 v97 v118 v119 v120 v121 v141 v143) (k3_pay26 v28 v52 v55 v76 v97 v118 v119 v120 v121 v141 v143) (Cert.KernelIdeal.Gen.k0_pay30 v28 v55 v76 v97 v118 v119 v120 (Cert.KernelIdeal.Gen.k0_pay22 v121) (Cert.KernelIdeal.Gen.k0_pay23 v52) v141 v143) (Scalar.ofBits .f32 0x44000000#32) := by
  unfold k3_pay1 k3_pay27 Cert.KernelIdeal.Gen.k0_pay1 Cert.KernelIdeal.Gen.k0_pay30
  simp only [shapeCast_id, e26]
  try rfl

variable (V : (c : Dev nD) → (b : Ref sig .tc) → Buf (Elt Ideal) ((c : Thread nD τ).loc b))

set_option maxHeartbeats 2000000 in
/-- The states' block. -/
theorem state_block (c : Dev nD) (t : Fin cfg3.N) : (R3.outsAt3 (U := UR sig nD τ) (Lvl := ℕ) (Ix := Unit) Variants.none V c t).2
    = Cert.KernelIdeal.Gen.out0_12 (R3.iblk V c 0 t) (R3.iblk V c 1 t) (R3.iblk V c 2 t) (R3.iblk V c 3 t) (R3.iblk V c 4 t) (R3.iblk V c 5 t) (R3.iblk V c 6 t) (R3.iblk V c 7 t) (R3.iblk V c 8 t) (R3.iblk V c 9 t) (R3.iblk V c 10 t) := by
  unfold R3.outsAt3
  frame_out
  try unfold Cert.KernelIdeal.Gen.k0_pay44 Cert.KernelIdeal.Gen.k0_pay43 Cert.KernelIdeal.Gen.k0_pay41 Cert.KernelIdeal.Gen.k0_pay38 Cert.KernelIdeal.Gen.k0_pay36 Cert.KernelIdeal.Gen.k0_pay35 Cert.KernelIdeal.Gen.k0_pay34 Cert.KernelIdeal.Gen.k0_pay33 Cert.KernelIdeal.Gen.k0_pay32 Cert.KernelIdeal.Gen.k0_pay31
  simp only [e1, e2, e3, e5, e6, e7, e8, e9, e10, e11, e12, e13, e14, e15, e16, e17, e18, e19, e20, e21, e22, e23, e24, e25, e26]
  try simp (discharger := decide) only [View.ld_unit_lit]

set_option maxHeartbeats 2000000 in
/-- The rows' block. -/
theorem row_block (c : Dev nD) (t : Fin cfg3.N) : (R3.outsAt3 (U := UR sig nD τ) (Lvl := ℕ) (Ix := Unit) Variants.none V c t).1
    = Cert.KernelIdeal.Gen.out0_11 (R3.iblk V c 0 t) (R3.iblk V c 1 t) (R3.iblk V c 2 t) (R3.iblk V c 3 t) (R3.iblk V c 4 t) (R3.iblk V c 5 t) (R3.iblk V c 6 t) (R3.iblk V c 7 t) (R3.iblk V c 8 t) (R3.iblk V c 9 t) (R3.iblk V c 10 t) := by
  unfold R3.outsAt3
  frame_out
  try unfold Cert.KernelIdeal.Gen.k0_pay44 Cert.KernelIdeal.Gen.k0_pay43 Cert.KernelIdeal.Gen.k0_pay42 Cert.KernelIdeal.Gen.k0_pay41 Cert.KernelIdeal.Gen.k0_pay40 Cert.KernelIdeal.Gen.k0_pay39 Cert.KernelIdeal.Gen.k0_pay38 Cert.KernelIdeal.Gen.k0_pay37 Cert.KernelIdeal.Gen.k0_pay36 Cert.KernelIdeal.Gen.k0_pay35 Cert.KernelIdeal.Gen.k0_pay34 Cert.KernelIdeal.Gen.k0_pay33 Cert.KernelIdeal.Gen.k0_pay32 Cert.KernelIdeal.Gen.k0_pay31
  simp only [e1, e2, e3, e5, e6, e7, e8, e9, e10, e11, e12, e13, e14, e15, e16, e17, e18, e19, e20, e21, e22, e23, e24, e25, e26]
  try simp (discharger := decide) only [View.ld_unit_lit]
  rfl

end Cert.Kernel11Ideal.Same

end
-- ==== Proof.SsmStep.lean ====
module

public import proofs.«01_k».proof.Proof.Gen.KernelIdeal.Value
public import proofs.«01_k».proof.Proof.Gen.ReferenceIdeal.Read
public import Idealize.ShloMosaic.Lib.Pipeline.ValueKit

@[expose] public section

set_option maxRecDepth 16384

noncomputable section

namespace Cert.KernelIdeal.Ssm

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- The block every window stages at a grid point: the sequences' windows their own sequence, the weights the whole array. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0, 0] ∧ win0_12.index t = ![t.val, 0, 0] :=
  (by decide +kernel : ∀ t : Fin grid0.N, _)

/-- Grid point `t` handles sequence `t` of the 128. -/
abbrev seq (t : Fin cfg0.N) : Fin 128 := ⟨t.val, t.isLt⟩

/-- The convolution's five addends in the kernel's order and in the reference's. -/
theorem conv_order (b w3 x w0 s0 w1 s1 w2 s2 : EReal) :
    b + w3 * x + w0 * s0 + w1 * s1 + w2 * s2 = s0 * w0 + s1 * w1 + s2 * w2 + x * w3 + b := by
  ac_rfl

/-- Equal arguments have equal SiLU values. -/
theorem silu_congr {a b : EReal} (h : a = b) :
    a * Ideal.div 1 (1 + Ideal.exp (-a)) = b * Ideal.div 1 (1 + Ideal.exp (-b)) := by rw [h]

/-- The activated convolution of the block. -/
abbrev kact (c : Dev nD) (t : Fin cfg0.N) : FVec Ideal S1x3072 .f32 :=
  k0_pay31 (iblk m c 0 t) (iblk m c 1 t) (iblk m c 2 t) (iblk m c 3 t) (iblk m c 4 t) (iblk m c 5 t) (iblk m c 6 t)
    (iblk m c 7 t) (iblk m c 8 t) (iblk m c 9 t) (iblk m c 10 t)

/-- The reference's activated convolution. -/
abbrev act (c : Dev nD) := val_main_v35 (F := Ideal) (m ((c : Thread nD τ).loc main_arg0)) (m ((c : Thread nD τ).loc main_arg1))
  (m ((c : Thread nD τ).loc main_arg5)) (m ((c : Thread nD τ).loc main_arg6))

set_option maxHeartbeats 1000000 in
/-- The kernel's activated convolution is the reference's row of its sequence. -/
theorem kact_eq (c : Dev nD) (t : Fin cfg0.N) (j : Fin 3072) :
    kact m c t (ix2 0 j) = act m c (ix3 (seq t) 0 j) := by
  pointwise [k0_pay31, k0_pay2, val_main_v35, val_main_call0_v5, val_main_call0_v4, val_main_call0_cst_0, val_main_call0_v3, val_main_call0_v2, val_main_call0_cst, val_main_call0_v1, val_main_call0_v0, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_v8, val_main_v7, val_main_v6, val_main_v5, val_main_v4, val_main_v3, val_main_v2]
  unfold Ideal.logistic
  refine silu_congr ((conv_order ..).trans ?_)
  blk_point [iblk, V, idx t]

/-- The step sizes' window holds each head's value once per channel of the head. -/
theorem read3 (c : Dev nD) (t : Fin cfg0.N) (p : Fin 2048) : iblk m c 3 t (ix3 0 0 p)
    = m ((c : Thread nD τ).loc main_arg3) (ix3 (seq t) 0 ⟨p.val / 64, by omega⟩) := by
  have h : iblk m c 3 t (ix3 0 0 p) = V m c main_v1 (ix3 (seq t) 0 p) := by blk_ext [iblk, idx t]
  rw [h]; entry_read; pointwise
  rfl

/-- The state's window holds the state with head and channel side by side. -/
theorem read4 (c : Dev nD) (t : Fin cfg0.N) (p : Fin 2048) (n : Fin 128) : iblk m c 4 t (ix3 0 p n)
    = m ((c : Thread nD τ).loc main_arg4) (ix4 (seq t) ⟨p.val / 64, by omega⟩ ⟨p.val % 64, by omega⟩ n) := by
  have h : iblk m c 4 t (ix3 0 p n) = V m c (Pipeline.arrRef spec0 4) (ix3 (seq t) p n) := by blk_ext [iblk, idx t]
  rw [h]; entry_read; pointwise

/-- The biases' window holds each head's bias once per channel of the head. -/
theorem read7 (c : Dev nD) (t : Fin cfg0.N) (p : Fin 2048) : iblk m c 7 t (ix2 0 p)
    = m ((c : Thread nD τ).loc main_arg7) (ix1 ⟨p.val / 64, by omega⟩) := by
  have h : iblk m c 7 t (ix2 0 p) = V m c (Pipeline.arrRef spec0 7) (ix2 0 p) := by blk_ext [iblk, idx t]
  rw [h]; entry_read; pointwise

/-- The decay rates' window holds each head's rate once per channel of the head. -/
theorem read8 (c : Dev nD) (t : Fin cfg0.N) (p : Fin 2048) : iblk m c 8 t (ix2 0 p)
    = m ((c : Thread nD τ).loc main_arg8) (ix1 ⟨p.val / 64, by omega⟩) := by
  have h : iblk m c 8 t (ix2 0 p) = V m c (Pipeline.arrRef spec0 8) (ix2 0 p) := by blk_ext [iblk, idx t]
  rw [h]; entry_read; pointwise

/-- The skip weights' window holds each head's weight once per channel of the head. -/
theorem read9 (c : Dev nD) (t : Fin cfg0.N) (p : Fin 2048) : iblk m c 9 t (ix2 0 p)
    = m ((c : Thread nD τ).loc main_arg9) (ix1 ⟨p.val / 64, by omega⟩) := by
  have h : iblk m c 9 t (ix2 0 p) = V m c (Pipeline.arrRef spec0 9) (ix2 0 p) := by blk_ext [iblk, idx t]
  rw [h]; entry_read; pointwise

/-- The kernel's step sizes, one per channel. -/
abbrev kdt (c : Dev nD) (t : Fin cfg0.N) : FVec Ideal S1x2048 .f32 :=
  k0_pay6 (k0_pay4 (View.ld (iblk m c 3 t) r0_9) (View.ld (iblk m c 7 t) r0_10)) (k0_pay5 (F := Ideal))

/-- The reference's step sizes, one per head. -/
abbrev dt (c : Dev nD) := val_main_v45 (F := Ideal) (m ((c : Thread nD τ).loc main_arg3)) (m ((c : Thread nD τ).loc main_arg7))

/-- Every channel's step size is its head's. -/
theorem kdt_eq (c : Dev nD) (t : Fin cfg0.N) (p : Fin 2048) :
    kdt m c t (ix2 0 p) = dt m c (ix3 (seq t) 0 ⟨p.val / 64, by omega⟩) := by
  pointwise [k0_pay6, k0_pay5, k0_pay4, val_main_v45, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v44, val_main_v43, val_main_v42]
  rw [if_neg (by simp), read3, read7, zero_sub]

/-- The step's decay, spread over the state's columns. -/
abbrev kdecay (c : Dev nD) (t : Fin cfg0.N) : FVec Ideal S2048x128 .f32 :=
  k0_pay35 (iblk m c 0 t) (iblk m c 1 t) (iblk m c 2 t) (iblk m c 3 t) (iblk m c 4 t) (iblk m c 5 t) (iblk m c 6 t)
    (iblk m c 7 t) (iblk m c 8 t) (iblk m c 9 t) (iblk m c 10 t)

/-- The reference's decay of the state, one per head. -/
abbrev decay (c : Dev nD) := val_main_v57 (F := Ideal) (m ((c : Thread nD τ).loc main_arg3)) (m ((c : Thread nD τ).loc main_arg7))
  (m ((c : Thread nD τ).loc main_arg8))

/-- Every entry of the kernel's decay is its head's. -/
theorem kdecay_eq (c : Dev nD) (t : Fin cfg0.N) (p : Fin 2048) (n : Fin 128) :
    kdecay m c t (ix2 p n) = decay m c (ix2 (seq t) ⟨p.val / 64, by omega⟩) := by
  have e := kdt_eq m c t
  unfold kdt dt at e
  pointwise [k0_pay35, k0_pay33, k0_pay34, k0_pay7, val_main_v57, val_main_v56, val_main_v55, val_main_v54, val_main_v47, val_main_v1, val_main_v0]
  exact congrArg Ideal.exp (congrArg₂ (· * ·) (e p) ((zero_sub _).trans (congrArg (fun x => -Ideal.exp x) (read8 m c t p))))

/-- The step's increment of the state before the outer product, spread over the state's columns. -/
abbrev kincr (c : Dev nD) (t : Fin cfg0.N) : FVec Ideal S2048x128 .f32 :=
  k0_pay36 (iblk m c 0 t) (iblk m c 1 t) (iblk m c 2 t) (iblk m c 3 t) (iblk m c 4 t) (iblk m c 5 t) (iblk m c 6 t)
    (iblk m c 7 t) (iblk m c 8 t) (iblk m c 9 t) (iblk m c 10 t)

/-- The reference's step size times input, per channel. -/
abbrev incr (c : Dev nD) := val_main_v63 (F := Ideal) (m ((c : Thread nD τ).loc main_arg0)) (m ((c : Thread nD τ).loc main_arg1))
  (m ((c : Thread nD τ).loc main_arg3)) (m ((c : Thread nD τ).loc main_arg5)) (m ((c : Thread nD τ).loc main_arg6)) (m ((c : Thread nD τ).loc main_arg7))

/-- Every entry of the kernel's increment is its channel's. -/
theorem kincr_eq (c : Dev nD) (t : Fin cfg0.N) (p : Fin 2048) (n : Fin 128) :
    kincr m c t (ix2 p n) = incr m c (ix3 (seq t) ⟨p.val / 64, by omega⟩ ⟨p.val % 64, by omega⟩) := by
  have e := kdt_eq m c t
  have e' := kact_eq m c t
  unfold kdt dt at e
  unfold kact act k0_pay31 at e'
  pointwise [k0_pay36, k0_pay32, k0_pay3, k0_pay33, k0_pay34, k0_pay8, val_main_v63, val_main_v62, val_main_v61, val_main_v47, val_main_v46, val_main_v39, val_main_v36]
  exact congrArg₂ (· * ·) (e p) (e' _)

end Cert.KernelIdeal.Ssm

end
-- ==== Proof.SsmRun.lean ====
module

public import proofs.«01_k».proof.Proof.Gen.KernelIdeal.Value
public import proofs.«01_k».proof.Proof.Gen.ReferenceIdeal.Read
public import Idealize.ShloMosaic.Lib.Pipeline.ValueKit
public import proofs.«01_k».proof.Proof.SsmStep

@[expose] public section

set_option maxRecDepth 16384

noncomputable section

namespace Cert.KernelIdeal.Ssm

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- The state after the step, as the reference has it. -/
abbrev state (c : Dev nD) := val_main_v69 (F := Ideal) (m ((c : Thread nD τ).loc main_arg0)) (m ((c : Thread nD τ).loc main_arg1))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

/-- The state before the step. -/
abbrev state0 (c : Dev nD) : FVec Ideal Cert.ReferenceIdeal.S128x32x64x128 .f32 := m ((c : Thread nD τ).loc main_arg4)

/-- The reference's state at an index: the old state decayed, plus the increment times the group's input column. -/
theorem state_eq (c : Dev nD) (b : Fin 128) (h : Fin 32) (e : Fin 64) (n : Fin 128) :
    state m c (ix4 b h e n) = state0 m c (ix4 b h e n) * decay m c (ix2 b h)
      + incr m c (ix3 b h e) * act m c (ix3 b 0 ⟨2048 + (h.val / 8 * 128 + n.val), by omega⟩) := by
  pointwise [val_main_v69, val_main_v68, val_main_v67, val_main_v66, val_main_v65, val_main_v64, val_main_v60, val_main_v59, val_main_v58, val_main_v51, val_main_v50, val_main_v48, val_main_v40, val_main_v37]

/-- The state read out against the group's output column. -/
abbrev readOut (c : Dev nD) := val_main_v70 (F := Ideal) (m ((c : Thread nD τ).loc main_arg0)) (m ((c : Thread nD τ).loc main_arg1))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

/-- The read-out is a sum over the state's columns. -/
theorem readOut_eq (c : Dev nD) (b : Fin 128) (h : Fin 32) (e : Fin 64) :
    readOut m c (ix3 b h e)
      = ∑ n : Fin 128, state m c (ix4 b h e n) * act m c (ix3 b 0 ⟨2560 + (h.val / 8 * 128 + n.val), by omega⟩) := by
  pointwise [val_main_v70, val_main_v53, val_main_v52, val_main_v49, val_main_v41, val_main_v38]

/-- The first group's new state at an index. -/
theorem pay9_at (A : FVec Ideal S1x3072 .f32) (X : FVec Ideal S1x2048 .f32) (D Z L) (S0 : FVec Ideal S1x512x128 .f32) (r : Fin 512) (n : Fin 128) :
    k0_pay9 A X D Z L S0 (ix2 r n) = S0 (ix3 0 r n) * k0_pay7 D Z L (ix2 ⟨r.val, by omega⟩ n) + k0_pay8 X D Z (ix2 ⟨r.val, by omega⟩ n) * A (ix2 0 ⟨2048 + n.val, by omega⟩) := by
  pointwise [k0_pay9]

/-- The second group's new state at an index. -/
theorem pay14_at (E I : FVec Ideal S2048x128 .f32) (B : FVec Ideal S1x128 .f32) (S0 : FVec Ideal S1x512x128 .f32) (r : Fin 512) (n : Fin 128) :
    k0_pay14 E I B S0 (ix2 r n) = S0 (ix3 0 r n) * E (ix2 ⟨512 + r.val, by omega⟩ n) + I (ix2 ⟨512 + r.val, by omega⟩ n) * B (ix2 0 n) := by
  pointwise [k0_pay14]

/-- The third group's new state at an index. -/
theorem pay17_at (A : FVec Ideal S1x3072 .f32) (E I : FVec Ideal S2048x128 .f32) (S0 : FVec Ideal S1x512x128 .f32) (r : Fin 512) (n : Fin 128) :
    k0_pay17 A E I S0 (ix2 r n) = S0 (ix3 0 r n) * E (ix2 ⟨1024 + r.val, by omega⟩ n) + I (ix2 ⟨1024 + r.val, by omega⟩ n) * A (ix2 0 ⟨2304 + n.val, by omega⟩) := by
  pointwise [k0_pay17]

/-- The fourth group's new state at an index. -/
theorem pay24_at (E I : FVec Ideal S2048x128 .f32) (B : FVec Ideal S1x128 .f32) (S0 : FVec Ideal S1x512x128 .f32) (r : Fin 512) (n : Fin 128) :
    k0_pay24 I B (k0_pay22 S0) (k0_pay23 E) (ix2 r n) = S0 (ix3 0 r n) * E (ix2 ⟨1536 + r.val, by omega⟩ n) + I (ix2 ⟨1536 + r.val, by omega⟩ n) * B (ix2 0 n) := by
  pointwise [k0_pay24, k0_pay22, k0_pay23]

/-- The first group's read-out at a channel. -/
theorem pay11_at (A : FVec Ideal S1x3072 .f32) (X : FVec Ideal S1x2048 .f32) (D Z L) (S0 : FVec Ideal S1x512x128 .f32) (r : Fin 512) :
    k0_pay11 A X D Z L S0 (ix2 0 r) = ∑ n : Fin 128, k0_pay9 A X D Z L S0 (ix2 r n) * A (ix2 0 ⟨2560 + n.val, by omega⟩) := by
  pointwise [k0_pay11]

/-- The second group's read-out at a channel. -/
theorem pay16_at (E I : FVec Ideal S2048x128 .f32) (B C : FVec Ideal S1x128 .f32) (S0 : FVec Ideal S1x512x128 .f32) (r : Fin 512) :
    k0_pay16 E I B C S0 (ix2 0 r) = ∑ n : Fin 128, k0_pay14 E I B S0 (ix2 r n) * C (ix2 0 n) := by
  pointwise [k0_pay16]

/-- The third group's read-out at a channel. -/
theorem pay19_at (A : FVec Ideal S1x3072 .f32) (E I : FVec Ideal S2048x128 .f32) (S0 : FVec Ideal S1x512x128 .f32) (r : Fin 512) :
    k0_pay19 A E I S0 (ix2 0 r) = ∑ n : Fin 128, k0_pay17 A E I S0 (ix2 r n) * A (ix2 0 ⟨2816 + n.val, by omega⟩) := by
  pointwise [k0_pay19]

/-- The gated row: read-out plus skip, times the SiLU of the gate, with the row's four quarters taken from the four groups. -/
theorem pay27_at (X : FVec Ideal S1x2048 .f32) (I : FVec Ideal S2048x128 .f32) (y0 y1 y2 : FVec Ideal S1x512 .f32) (B C : FVec Ideal S1x128 .f32) (G H : FVec Ideal S512x128 .f32)
    (Z : FVec Ideal S1x1x2048 .f32) (D : FVec Ideal S1x2048 .f32) (p : Fin 2048) : k0_pay27 X I y0 y1 y2 B C G H Z D (ix2 0 p)
      = ((if h : p.val < 512 then y0 (ix2 0 ⟨p.val, h⟩) else if h : p.val - 512 < 512 then y1 (ix2 0 ⟨p.val - 512, h⟩)
          else if h : p.val - 512 - 512 < 512 then y2 (ix2 0 ⟨p.val - 512 - 512, h⟩)
          else ∑ n : Fin 128, k0_pay24 I B G H (ix2 ⟨p.val - 512 - 512 - 512, by omega⟩ n) * C (ix2 0 n)) + D (ix2 0 p) * X (ix2 0 p))
        * (Z (ix3 0 0 p) * Ideal.logistic (Z (ix3 0 0 p))) := by
  pointwise [k0_pay27]

/-- One entry of the kernel's new state, from its parts, is the reference's. -/
theorem step_core (c : Dev nD) (t : Fin cfg0.N) (p : Fin 2048) (n : Fin 128) (j : Fin 3072) (hj : j.val = 2048 + (p.val / 512 * 128 + n.val)) (s : EReal)
    (hs : s = (iblk m c 4 t : FVec Ideal S1x2048x128 .f32) (ix3 0 p n)) :
    s * kdecay m c t (ix2 p n) + kincr m c t (ix2 p n) * kact m c t (ix2 0 j)
      = state m c (ix4 (seq t) ⟨p.val / 64, by omega⟩ ⟨p.val % 64, by omega⟩ n) := by
  have hj' : j = ⟨2048 + (p.val / 64 / 8 * 128 + n.val), by omega⟩ := Fin.ext (by rw [hj]; show _ = 2048 + (p.val / 64 / 8 * 128 + n.val); omega)
  rw [state_eq, hs, hj']
  exact congrArg₂ (· + ·) (congrArg₂ (· * ·) (read4 m c t p n) (kdecay_eq m c t p n)) (congrArg₂ (· * ·) (kincr_eq m c t p n) (kact_eq m c t _))

/-- One channel of the kernel's read-out is the reference's. -/
theorem read_core (c : Dev nD) (t : Fin cfg0.N) (p : Fin 2048) (f : Fin 128 → EReal) (j : Fin 128 → Fin 3072)
    (hj : ∀ n, (j n).val = 2560 + (p.val / 512 * 128 + n.val))
    (hf : ∀ n, f n = state m c (ix4 (seq t) ⟨p.val / 64, by omega⟩ ⟨p.val % 64, by omega⟩ n)) :
    ∑ n : Fin 128, f n * kact m c t (ix2 0 (j n)) = readOut m c (ix3 (seq t) ⟨p.val / 64, by omega⟩ ⟨p.val % 64, by omega⟩) := by
  rw [readOut_eq]
  refine Finset.sum_congr rfl fun n _ => ?_
  have hj' : j n = ⟨2560 + (p.val / 64 / 8 * 128 + n.val), by omega⟩ := Fin.ext (by rw [hj]; show _ = 2560 + (p.val / 64 / 8 * 128 + n.val); omega)
  rw [hj']
  exact congrArg₂ (· * ·) (hf n) (kact_eq m c t _)

/-- The new state of the first group. -/
abbrev kst0 (c : Dev nD) (t : Fin cfg0.N) : FVec Ideal S512x128 .f32 :=
  k0_pay9 (kact m c t) (k0_pay32 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay33 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay34 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (View.ld (iblk m c 8 t) r0_10) (View.ld (iblk m c 4 t) r0_11)

/-- The new state of the second group. -/
abbrev kst1 (c : Dev nD) (t : Fin cfg0.N) : FVec Ideal S512x128 .f32 :=
  k0_pay14 (kdecay m c t) (kincr m c t) (k0_pay38 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (View.ld (iblk m c 4 t) r0_12)

/-- The new state of the third group. -/
abbrev kst2 (c : Dev nD) (t : Fin cfg0.N) : FVec Ideal S512x128 .f32 :=
  k0_pay17 (kact m c t) (kdecay m c t) (kincr m c t) (View.ld (iblk m c 4 t) r0_13)

/-- The new state of the fourth group. -/
abbrev kst3 (c : Dev nD) (t : Fin cfg0.N) : FVec Ideal S512x128 .f32 :=
  k0_pay24 (kincr m c t) (k0_pay41 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay43 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay44 (iblk m c 0 t) (iblk m c 1 t) (iblk m c 2 t) (iblk m c 3 t) (iblk m c 4 t) (iblk m c 5 t) (iblk m c 6 t)
    (iblk m c 7 t) (iblk m c 8 t) (iblk m c 9 t) (iblk m c 10 t))

/-- The four groups' parts of a block of the state. -/
theorem ld11 (B : Vec Ideal S1x2048x128 .f32) (r : Fin 512) (n : Fin 128) : View.ld (Val := Elt Ideal) B r0_11 (ix3 0 r n) = B (ix3 0 ⟨r.val, by omega⟩ n) := by
  pointwise

theorem ld12 (B : Vec Ideal S1x2048x128 .f32) (r : Fin 512) (n : Fin 128) : View.ld (Val := Elt Ideal) B r0_12 (ix3 0 r n) = B (ix3 0 ⟨512 + r.val, by omega⟩ n) := by
  pointwise

theorem ld13 (B : Vec Ideal S1x2048x128 .f32) (r : Fin 512) (n : Fin 128) : View.ld (Val := Elt Ideal) B r0_13 (ix3 0 r n) = B (ix3 0 ⟨1024 + r.val, by omega⟩ n) := by
  pointwise

theorem ld14 (B : Vec Ideal S1x2048x128 .f32) (r : Fin 512) (n : Fin 128) : View.ld (Val := Elt Ideal) B r0_14 (ix3 0 r n) = B (ix3 0 ⟨1536 + r.val, by omega⟩ n) := by
  pointwise

/-- Each group's new state is the reference's. -/
theorem kst0_eq (c : Dev nD) (t : Fin cfg0.N) (r : Fin 512) (n : Fin 128) : kst0 m c t (ix2 r n)
    = state m c (ix4 (seq t) ⟨r.val / 64, by omega⟩ ⟨r.val % 64, by omega⟩ n) := by
  have h := step_core m c t ⟨r.val, by omega⟩ n ⟨2048 + n.val, by omega⟩ (by show 2048 + n.val = 2048 + ((r.val) / 512 * 128 + n.val); omega) _ rfl
  unfold kst0
  rw [pay9_at, ld11]
  exact h

theorem kst1_eq (c : Dev nD) (t : Fin cfg0.N) (r : Fin 512) (n : Fin 128) : kst1 m c t (ix2 r n)
    = state m c (ix4 (seq t) ⟨(512 + r.val) / 64, by omega⟩ ⟨(512 + r.val) % 64, by omega⟩ n) := by
  have h := step_core m c t ⟨512 + r.val, by omega⟩ n ⟨2176 + n.val, by omega⟩ (by show 2176 + n.val = 2048 + ((512 + r.val) / 512 * 128 + n.val); omega) _ rfl
  have hb : k0_pay38 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 n) = kact m c t (ix2 0 ⟨2176 + n.val, by omega⟩) := by pointwise [k0_pay38, k0_pay12]
  unfold kst1
  rw [pay14_at, hb, ld12]
  exact h

theorem kst2_eq (c : Dev nD) (t : Fin cfg0.N) (r : Fin 512) (n : Fin 128) : kst2 m c t (ix2 r n)
    = state m c (ix4 (seq t) ⟨(1024 + r.val) / 64, by omega⟩ ⟨(1024 + r.val) % 64, by omega⟩ n) := by
  have h := step_core m c t ⟨1024 + r.val, by omega⟩ n ⟨2304 + n.val, by omega⟩ (by show 2304 + n.val = 2048 + ((1024 + r.val) / 512 * 128 + n.val); omega) _ rfl
  unfold kst2
  rw [pay17_at, ld13]
  exact h

theorem kst3_eq (c : Dev nD) (t : Fin cfg0.N) (r : Fin 512) (n : Fin 128) : kst3 m c t (ix2 r n)
    = state m c (ix4 (seq t) ⟨(1536 + r.val) / 64, by omega⟩ ⟨(1536 + r.val) % 64, by omega⟩ n) := by
  have h := step_core m c t ⟨1536 + r.val, by omega⟩ n ⟨2432 + n.val, by omega⟩ (by show 2432 + n.val = 2048 + ((1536 + r.val) / 512 * 128 + n.val); omega) _ rfl
  have hb : k0_pay41 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 n) = kact m c t (ix2 0 ⟨2432 + n.val, by omega⟩) := by pointwise [k0_pay41, k0_pay20]
  unfold kst3 k0_pay43 k0_pay44
  rw [pay24_at, hb, ld14]
  exact h

/-- The read-outs of the first three groups. -/
theorem kout0_eq (c : Dev nD) (t : Fin cfg0.N) (r : Fin 512) : k0_pay37 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 r)
    = readOut m c (ix3 (seq t) ⟨r.val / 64, by omega⟩ ⟨r.val % 64, by omega⟩) :=
  (pay11_at ..).trans (read_core m c t ⟨r.val, by omega⟩ _ (fun n => ⟨2560 + n.val, by omega⟩)
    (fun n => by show 2560 + n.val = 2560 + (r.val / 512 * 128 + n.val); omega) fun n => kst0_eq m c t r n)

theorem kout1_eq (c : Dev nD) (t : Fin cfg0.N) (r : Fin 512) : k0_pay39 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 r)
    = readOut m c (ix3 (seq t) ⟨(512 + r.val) / 64, by omega⟩ ⟨(512 + r.val) % 64, by omega⟩) := by
  refine (pay16_at ..).trans (Eq.trans (Finset.sum_congr rfl fun n _ => congrArg (fun x => _ * x) ?_)
    (read_core m c t ⟨512 + r.val, by omega⟩ _ (fun n => ⟨2688 + n.val, by omega⟩)
    (fun n => by show 2688 + n.val = 2560 + ((512 + r.val) / 512 * 128 + n.val); omega) fun n => kst1_eq m c t r n))
  pointwise [k0_pay13]

theorem kout2_eq (c : Dev nD) (t : Fin cfg0.N) (r : Fin 512) : k0_pay40 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 r)
    = readOut m c (ix3 (seq t) ⟨(1024 + r.val) / 64, by omega⟩ ⟨(1024 + r.val) % 64, by omega⟩) :=
  (pay19_at ..).trans (read_core m c t ⟨1024 + r.val, by omega⟩ _ (fun n => ⟨2816 + n.val, by omega⟩)
    (fun n => by show 2816 + n.val = 2560 + ((1024 + r.val) / 512 * 128 + n.val); omega) fun n => kst2_eq m c t r n)

/-- The read-out of the fourth group. -/
theorem kout3_eq (c : Dev nD) (t : Fin cfg0.N) (r : Fin 512) :
    ∑ n : Fin 128, kst3 m c t (ix2 r n) * k0_pay42 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 n)
    = readOut m c (ix3 (seq t) ⟨(1536 + r.val) / 64, by omega⟩ ⟨(1536 + r.val) % 64, by omega⟩) := by
  refine Eq.trans (Finset.sum_congr rfl fun n _ => congrArg (fun x => _ * x) ?_)
    (read_core m c t ⟨1536 + r.val, by omega⟩ _ (fun n => ⟨2944 + n.val, by omega⟩)
    (fun n => by show 2944 + n.val = 2560 + ((1536 + r.val) / 512 * 128 + n.val); omega) fun n => kst3_eq m c t r n)
  pointwise [k0_pay42, k0_pay21]

/-- The gated row as the kernel has it. -/
abbrev kgated (c : Dev nD) (t : Fin cfg0.N) : FVec Ideal S1x2048 .f32 :=
  k0_pay27 (k0_pay32 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (kincr m c t) (k0_pay37 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay39 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay40 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay41 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay42 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay43 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay44 (iblk m c 0 t) (iblk m c 1 t) (iblk m c 2 t) (iblk m c 3 t) (iblk m c 4 t) (iblk m c 5 t) (iblk m c 6 t)
    (iblk m c 7 t) (iblk m c 8 t) (iblk m c 9 t) (iblk m c 10 t))
    (View.ld (iblk m c 2 t) r0_9) (View.ld (iblk m c 9 t) r0_10)

/-- The gated row as the reference has it. -/
abbrev gated (c : Dev nD) := val_main_v79 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))

/-- The four groups' read-outs side by side. -/
theorem ladder_eq (c : Dev nD) (t : Fin cfg0.N) (p : Fin 2048) :
    (if h : p.val < 512 then k0_pay37 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 ⟨p.val, h⟩) else if h : p.val - 512 < 512 then k0_pay39 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 ⟨p.val - 512, h⟩)
          else if h : p.val - 512 - 512 < 512 then k0_pay40 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 ⟨p.val - 512 - 512, h⟩)
          else ∑ n : Fin 128, kst3 m c t (ix2 ⟨p.val - 512 - 512 - 512, by omega⟩ n) * k0_pay42 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (ix2 0 n))
      = readOut m c (ix3 (seq t) ⟨p.val / 64, by omega⟩ ⟨p.val % 64, by omega⟩) := by
  split
  · exact kout0_eq m c t _
  split
  · refine (kout1_eq m c t _).trans ?_
    blk_ext
  split
  · refine (kout2_eq m c t _).trans ?_
    blk_ext
  · refine (kout3_eq m c t _).trans ?_
    blk_ext

/-- The kernel's gated row is the reference's. -/
theorem kgated_eq (c : Dev nD) (t : Fin cfg0.N) (p : Fin 2048) : kgated m c t (ix2 0 p) = gated m c (ix3 (seq t) 0 p) := by
  have e := ladder_eq m c t p
  have e' := kact_eq m c t
  unfold kact act k0_pay31 at e'
  refine (pay27_at ..).trans ?_
  pointwise [val_main_v79, val_main_v78, val_main_call2_v5, val_main_call2_v4, val_main_call2_cst_0, val_main_call2_v3, val_main_call2_v2, val_main_call2_cst, val_main_call2_v1, val_main_call2_v0, val_main_v77, val_main_v76, val_main_v75, val_main_v74, val_main_v73, val_main_v72, val_main_v71, val_main_v39, val_main_v36, k0_pay32, k0_pay3]
  unfold Ideal.logistic
  refine congrArg₂ (· * ·) (congrArg₂ (· + ·) e (congrArg₂ (· * ·) (read9 m c t p) (e' _))) ?_
  blk_point [iblk, V, idx t]

end Cert.KernelIdeal.Ssm

end
-- ==== Proof.Ssm.lean ====
module

public import proofs.«01_k».proof.Proof.Gen.KernelIdeal.Value
public import proofs.«01_k».proof.Proof.Gen.ReferenceIdeal.Read
public import Idealize.ShloMosaic.Lib.Pipeline.ValueKit
public import proofs.«01_k».proof.Proof.SsmRun

@[expose] public section

set_option maxRecDepth 16384

noncomputable section

namespace Cert.KernelIdeal.Ssm

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- The normed row as the kernel has it. -/
abbrev knormed (c : Dev nD) (t : Fin cfg0.N) : FVec Ideal S1x1x2048 .f32 :=
  k0_pay1 (k0_pay26 (View.ld (iblk m c 10 t) r0_10)) (kgated m c t)
    (k0_pay28 (k0_pay32 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (kincr m c t) (k0_pay37 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay39 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay40 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay41 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay42 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay43 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay44 (iblk m c 0 t) (iblk m c 1 t) (iblk m c 2 t) (iblk m c 3 t) (iblk m c 4 t) (iblk m c 5 t) (iblk m c 6 t)
    (iblk m c 7 t) (iblk m c 8 t) (iblk m c 9 t) (iblk m c 10 t))
    (View.ld (iblk m c 2 t) r0_9) (View.ld (iblk m c 9 t) r0_10))
    (k0_pay29 (k0_pay32 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (kincr m c t) (k0_pay37 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay39 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay40 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay41 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay42 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay43 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay44 (iblk m c 0 t) (iblk m c 1 t) (iblk m c 2 t) (iblk m c 3 t) (iblk m c 4 t) (iblk m c 5 t) (iblk m c 6 t)
    (iblk m c 7 t) (iblk m c 8 t) (iblk m c 9 t) (iblk m c 10 t))
    (View.ld (iblk m c 2 t) r0_9) (View.ld (iblk m c 9 t) r0_10))
    (k0_pay30 (k0_pay32 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (kincr m c t) (k0_pay37 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay39 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay40 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay41 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay42 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay43 (iblk m c 0 t) (iblk m c 1 t) (iblk m c 2 t) (iblk m c 3 t) (iblk m c 4 t) (iblk m c 5 t) (iblk m c 6 t)
    (iblk m c 7 t) (iblk m c 8 t) (iblk m c 9 t) (iblk m c 10 t)) (k0_pay44 (iblk m c 0 t) (iblk m c 1 t) (iblk m c 2 t) (iblk m c 3 t) (iblk m c 4 t) (iblk m c 5 t) (iblk m c 6 t)
    (iblk m c 7 t) (iblk m c 8 t) (iblk m c 9 t) (iblk m c 10 t))
    (View.ld (iblk m c 2 t) r0_9) (View.ld (iblk m c 9 t) r0_10))
    (Scalar.ofBits .f32 0x44000000#32)

/-- The reference's output row. -/
abbrev result (c : Dev nD) := val_main_v94 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))

/-- The reference's state, laid out as the kernel's output. -/
abbrev resultState (c : Dev nD) := val_main_v95 (F := Ideal) (m ((c : Thread nD τ).loc main_arg0)) (m ((c : Thread nD τ).loc main_arg1))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

/-- Two normed entries agree when their values, the values under their sums of squares and their weights do. -/
theorem norm_congr (a b : EReal) (f g : Fin 512 → EReal) (k e w w' : EReal) (ha : a = b) (hf : ∀ x, f x = g x) (hw : w = w') :
    a * Ideal.rsqrt (Ideal.div (∑ x, f x * f x) k + e) * w = b * Ideal.rsqrt (Ideal.div (∑ x, g x * g x) k + e) * w' := by
  rw [ha, hw, show f = g from funext hf]

/-- The kernel's normed row is the reference's, each quarter normed by itself. -/
theorem knormed_eq (c : Dev nD) (t : Fin cfg0.N) (p : Fin 2048) : knormed m c t (ix3 0 0 p) = result m c (ix3 (seq t) 0 p) := by
  have e := kgated_eq m c t
  unfold knormed
  generalize hY : kgated m c t = Y at e ⊢
  unfold kgated at hY
  unfold k0_pay30 k0_pay29 k0_pay28
  rw [hY]
  pointwise [k0_pay1, k0_pay26, val_main_v94, val_main_v93, val_main_v92, val_main_v91, val_main_v90, val_main_v89, val_main_v88, val_main_v87, val_main_v86, val_main_cst_2, val_main_v85, val_main_v84, val_main_cst_1, val_main_v83, val_main_v82, val_main_cst_0, val_main_v81, val_main_v80]
  clear hY
  split
  · refine norm_congr _ _ _ _ _ _ _ _ ((e _).trans ?_) (fun x => (e _).trans ?_) ?_
    · rfl
    · blk_ext
    · blk_point [iblk, V, idx t]
  split
  · refine norm_congr _ _ _ _ _ _ _ _ ((e _).trans ?_) (fun x => (e _).trans ?_) ?_
    · blk_ext
    · blk_ext
    · blk_point [iblk, V, idx t]
  split
  · refine norm_congr _ _ _ _ _ _ _ _ ((e _).trans ?_) (fun x => (e _).trans ?_) ?_
    · blk_ext
    · blk_ext
    · blk_point [iblk, V, idx t]
  · refine norm_congr _ _ _ _ _ _ _ _ ((e _).trans ?_) (fun x => (e _).trans ?_) ?_
    · blk_ext
    · blk_ext
    · blk_point [iblk, V, idx t]

/-- The states' block at a grid point holds the reference's states of that sequence. -/
theorem at_state (c : Dev nD) (t : Fin cfg0.N) (r : Fin 2048) (n : Fin 128) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r n)
      = state m c (ix4 (seq t) ⟨r.val / 64, by omega⟩ ⟨r.val % 64, by omega⟩ n) := by
  canon_tiles x h
  case piece0 =>
    obtain ⟨a, r', n', rfl⟩ : ∃ a r n, x = ix3 a r n := ⟨x 0, x 1, x 2, eq_ix3 x⟩
    refine Eq.trans (b := kst3 m c t (ix2 r' n')) (by pointwise [k0_pay25]) ((kst3_eq m c t r' n').trans ?_)
    have e1 : r.val = 1536 + r'.val := h1
    have e2 : n.val = n'.val := h2
    blk_ext
  case piece1 =>
    obtain ⟨a, r', n', rfl⟩ : ∃ a r n, x = ix3 a r n := ⟨x 0, x 1, x 2, eq_ix3 x⟩
    refine Eq.trans (b := kst2 m c t (ix2 r' n')) (by pointwise [k0_pay18]; rfl) ((kst2_eq m c t r' n').trans ?_)
    have e1 : r.val = 1024 + r'.val := h1
    have e2 : n.val = n'.val := h2
    blk_ext
  case piece2 =>
    obtain ⟨a, r', n', rfl⟩ : ∃ a r n, x = ix3 a r n := ⟨x 0, x 1, x 2, eq_ix3 x⟩
    refine Eq.trans (b := kst1 m c t (ix2 r' n')) (by pointwise [k0_pay15]; rfl) ((kst1_eq m c t r' n').trans ?_)
    have e1 : r.val = 512 + r'.val := h1
    have e2 : n.val = n'.val := h2
    blk_ext
  case piece3 =>
    obtain ⟨a, r', n', rfl⟩ : ∃ a r n, x = ix3 a r n := ⟨x 0, x 1, x 2, eq_ix3 x⟩
    refine Eq.trans (b := kst0 m c t (ix2 r' n')) (by pointwise [k0_pay10]; rfl) ((kst0_eq m c t r' n').trans ?_)
    have e1 : r.val = r'.val := h1
    have e2 : n.val = n'.val := h2
    blk_ext

/-- THE STATES: the kernel's array is the reference's. -/
theorem final_state (c : Dev nD) : (dats m 0 c).arrAt 12 (cfgs 0).N = resultState m c := by
  refine (dats m 0 c).arrAt_eq_of_covers 12 _ (by decide +kernel) fun t _ y => ?_
  blk_simp
  rw [after0_12]
  obtain ⟨a, r, n, rfl⟩ : ∃ a r n, y = ix3 a r n := ⟨y 0, y 1, y 2, eq_ix3 y⟩
  obtain rfl : a = 0 := Subsingleton.elim _ _
  refine Eq.trans (b := state m c (ix4 (seq t) ⟨r.val / 64, by omega⟩ ⟨r.val % 64, by omega⟩ n)) ?_ ?_
  · exact at_state m c t r n
  · pointwise [val_main_v95]
    blk_ext [idx t]

end Cert.KernelIdeal.Ssm

end
-- ==== Proof.SsmRow.lean ====
module

public import proofs.«01_k».proof.Proof.Gen.KernelIdeal.Value
public import proofs.«01_k».proof.Proof.Gen.ReferenceIdeal.Read
public import Idealize.ShloMosaic.Lib.Pipeline.ValueKit
public import proofs.«01_k».proof.Proof.Ssm

@[expose] public section

set_option maxRecDepth 16384

noncomputable section

namespace Cert.KernelIdeal.Ssm

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- The rows' block at a grid point holds the reference's row of that sequence. -/
theorem at_row (c : Dev nD) (t : Fin cfg0.N) (p : Fin 2048) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 0 p) = result m c (ix3 (seq t) 0 p) := by
  unfold out0_11
  canon_tiles x h
  obtain ⟨a, b, p', rfl⟩ : ∃ a b p, x = ix3 a b p := ⟨x 0, x 1, x 2, eq_ix3 x⟩
  obtain rfl : a = 0 := Subsingleton.elim _ _
  obtain rfl : b = 0 := Subsingleton.elim _ _
  obtain rfl : p = p' := Fin.ext (h2.trans (by rfl))
  exact knormed_eq m c t p

/-- THE OUTPUT ROWS: the kernel's array is the reference's. -/
theorem final_row (c : Dev nD) : (dats m 0 c).arrAt 11 (cfgs 0).N = result m c := by
  refine (dats m 0 c).arrAt_eq_of_covers 11 _ (by decide +kernel) fun t _ y => ?_
  blk_simp
  rw [after0_11]
  obtain ⟨a, b, p, rfl⟩ : ∃ a b p, y = ix3 a b p := ⟨y 0, y 1, y 2, eq_ix3 y⟩
  obtain rfl : a = 0 := Subsingleton.elim _ _
  obtain rfl : b = 0 := Subsingleton.elim _ _
  refine Eq.trans (b := result m c (ix3 (seq t) 0 p)) ?_ (congrArg (result m c) ?_)
  · exact at_row m c t p
  · blk_ext [idx t]

end Cert.KernelIdeal.Ssm

end
-- ==== Proof.Kernel11IdealT.lean ====
module

public import proofs.«01_k».proof.Proof.Kernel11IdealS
public import proofs.«01_k».proof.Proof.SsmRow
public import Idealize.ShloMosaic.Lib.Pipeline.ValueKit

/-!
The recurrence of the decoding step as the last of four calls: handed the arrays of a memory `m` of the recurrence's own program, it leaves that program's results.
-/

@[expose] public section

set_option maxRecDepth 16384

noncomputable section

namespace Cert.Kernel11Ideal.Same

open Cert.Kernel11Ideal Cert.Kernel11Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))
variable (m : (ℓ : Loc Cert.KernelIdeal.nD Cert.KernelIdeal.τ Cert.KernelIdeal.sig) → Buf (Elt Ideal) ℓ)

/-- The block every window stages at a grid point. -/
theorem idx : ∀ t : Fin cfg3.N, win3_0.index t = ![t.val, 0, 0] ∧ win3_1.index t = ![t.val, 0, 0] ∧ win3_2.index t = ![t.val, 0, 0]
    ∧ win3_3.index t = ![t.val, 0, 0] ∧ win3_4.index t = ![t.val, 0, 0] ∧ win3_5.index t = ![0, 0] ∧ win3_6.index t = ![0, 0]
    ∧ win3_7.index t = ![0, 0] ∧ win3_8.index t = ![0, 0] ∧ win3_9.index t = ![0, 0] ∧ win3_10.index t = ![0, 0]
    ∧ win3_11.index t = ![t.val, 0, 0] ∧ win3_12.index t = ![t.val, 0, 0] :=
  (by decide +kernel : ∀ t : Fin grid3.N, _)

/-- The same grid point of the recurrence's own program. -/
abbrev old (t : Fin cfg3.N) : Fin Cert.KernelIdeal.cfg0.N := ⟨t.val, t.isLt⟩

/-- Grid point `t` handles sequence `t`. -/
abbrev seq (t : Fin cfg3.N) : Fin 128 := ⟨t.val, t.isLt⟩

/-- The arrays the call is handed are those of `m`, entry by entry. -/
structure Holds (c : Dev nD) (d : Dev Cert.KernelIdeal.nD) : Prop where
  h0 : ∀ (r : Fin 128) (j : Fin 3072), (V c main_v18 : Vec Ideal S128x1x3072 .f32) (ix3 r 0 j) = m ((d : Thread Cert.KernelIdeal.nD Cert.KernelIdeal.τ).loc Cert.KernelIdeal.main_arg0) (ix3 r 0 j)
  h1 : ∀ (r : Fin 128) (s : Fin 3) (j : Fin 3072), (V c main_v19 : Vec Ideal S128x3x3072 .f32) (ix3 r s j) = m ((d : Thread Cert.KernelIdeal.nD Cert.KernelIdeal.τ).loc Cert.KernelIdeal.main_arg1) (ix3 r s j)
  h2 : ∀ (r : Fin 128) (j : Fin 2048), (V c main_v20 : Vec Ideal S128x1x2048 .f32) (ix3 r 0 j) = m ((d : Thread Cert.KernelIdeal.nD Cert.KernelIdeal.τ).loc Cert.KernelIdeal.main_arg2) (ix3 r 0 j)
  h3 : ∀ (r : Fin 128) (p : Fin 2048), (V c main_v21 : Vec Ideal S128x1x2048 .f32) (ix3 r 0 p) = m ((d : Thread Cert.KernelIdeal.nD Cert.KernelIdeal.τ).loc Cert.KernelIdeal.main_arg3) (ix3 r 0 ⟨p.val / 64, by omega⟩)
  h4 : ∀ (r : Fin 128) (p : Fin 2048) (n : Fin 128), (V c main_v23 : Vec Ideal S128x2048x128 .f32) (ix3 r p n) = m ((d : Thread Cert.KernelIdeal.nD Cert.KernelIdeal.τ).loc Cert.KernelIdeal.main_arg4) (ix4 r ⟨p.val / 64, by omega⟩ ⟨p.val % 64, by omega⟩ n)
  h5 : ∀ (s : Fin 4) (j : Fin 3072), (V c main_v24 : Vec Ideal S4x3072 .f32) (ix2 s j) = m ((d : Thread Cert.KernelIdeal.nD Cert.KernelIdeal.τ).loc Cert.KernelIdeal.main_arg5) (ix2 s j)
  h6 : ∀ (j : Fin 3072), (V c main_v30 : Vec Ideal S1x3072 .f32) (ix2 0 j) = m ((d : Thread Cert.KernelIdeal.nD Cert.KernelIdeal.τ).loc Cert.KernelIdeal.main_arg6) (ix1 j)
  h7 : ∀ (p : Fin 2048), (V c main_v33 : Vec Ideal S1x2048 .f32) (ix2 0 p) = m ((d : Thread Cert.KernelIdeal.nD Cert.KernelIdeal.τ).loc Cert.KernelIdeal.main_arg7) (ix1 ⟨p.val / 64, by omega⟩)
  h8 : ∀ (p : Fin 2048), (V c main_v36 : Vec Ideal S1x2048 .f32) (ix2 0 p) = m ((d : Thread Cert.KernelIdeal.nD Cert.KernelIdeal.τ).loc Cert.KernelIdeal.main_arg8) (ix1 ⟨p.val / 64, by omega⟩)
  h9 : ∀ (p : Fin 2048), (V c main_v39 : Vec Ideal S1x2048 .f32) (ix2 0 p) = m ((d : Thread Cert.KernelIdeal.nD Cert.KernelIdeal.τ).loc Cert.KernelIdeal.main_arg9) (ix1 ⟨p.val / 64, by omega⟩)
  h10 : ∀ (p : Fin 2048), (V c main_v40 : Vec Ideal S1x2048 .f32) (ix2 0 p) = m ((d : Thread Cert.KernelIdeal.nD Cert.KernelIdeal.τ).loc Cert.KernelIdeal.main_arg10) (ix1 p)

variable {V m} {c : Dev nD} {d : Dev Cert.KernelIdeal.nD} (H : Holds V m c d) (t : Fin cfg3.N)
include H

/-- Window 0's block is that of the recurrence's own program. -/
theorem blk0 : (R3.iblk V c 0 t : Vec Ideal S1x1x3072 .f32) = Cert.KernelIdeal.Gen.iblk m d 0 (old t) := by
  funext i
  obtain ⟨a, b, j, rfl⟩ : ∃ a b j, i = ix3 a b j := ⟨i 0, i 1, i 2, eq_ix3 i⟩
  obtain rfl : a = 0 := Subsingleton.elim _ _
  obtain rfl : b = 0 := Subsingleton.elim _ _
  have e : (R3.iblk V c 0 t : Vec Ideal S1x1x3072 .f32) (ix3 0 0 j) = (V c main_v18 : Vec Ideal S128x1x3072 .f32) (ix3 (seq t) 0 j) := by blk_ext [R3.iblk, idx t]
  refine e.trans ((H.h0 (seq t) j).trans (Eq.symm ?_))
  blk_point [Cert.KernelIdeal.Gen.iblk, Cert.KernelIdeal.Gen.V, Cert.KernelIdeal.Ssm.idx (old t)]

/-- Window 1's block is that of the recurrence's own program. -/
theorem blk1 : (R3.iblk V c 1 t : Vec Ideal S1x3x3072 .f32) = Cert.KernelIdeal.Gen.iblk m d 1 (old t) := by
  funext i
  obtain ⟨a, s, j, rfl⟩ : ∃ a s j, i = ix3 a s j := ⟨i 0, i 1, i 2, eq_ix3 i⟩
  obtain rfl : a = 0 := Subsingleton.elim _ _
  have e : (R3.iblk V c 1 t : Vec Ideal S1x3x3072 .f32) (ix3 0 s j) = (V c main_v19 : Vec Ideal S128x3x3072 .f32) (ix3 (seq t) s j) := by blk_ext [R3.iblk, idx t]
  refine e.trans ((H.h1 (seq t) s j).trans (Eq.symm ?_))
  blk_point [Cert.KernelIdeal.Gen.iblk, Cert.KernelIdeal.Gen.V, Cert.KernelIdeal.Ssm.idx (old t)]

/-- Window 2's block is that of the recurrence's own program. -/
theorem blk2 : (R3.iblk V c 2 t : Vec Ideal S1x1x2048 .f32) = Cert.KernelIdeal.Gen.iblk m d 2 (old t) := by
  funext i
  obtain ⟨a, b, j, rfl⟩ : ∃ a b j, i = ix3 a b j := ⟨i 0, i 1, i 2, eq_ix3 i⟩
  obtain rfl : a = 0 := Subsingleton.elim _ _
  obtain rfl : b = 0 := Subsingleton.elim _ _
  have e : (R3.iblk V c 2 t : Vec Ideal S1x1x2048 .f32) (ix3 0 0 j) = (V c main_v20 : Vec Ideal S128x1x2048 .f32) (ix3 (seq t) 0 j) := by blk_ext [R3.iblk, idx t]
  refine e.trans ((H.h2 (seq t) j).trans (Eq.symm ?_))
  blk_point [Cert.KernelIdeal.Gen.iblk, Cert.KernelIdeal.Gen.V, Cert.KernelIdeal.Ssm.idx (old t)]

/-- Window 3's block is that of the recurrence's own program. -/
theorem blk3 : (R3.iblk V c 3 t : Vec Ideal S1x1x2048 .f32) = Cert.KernelIdeal.Gen.iblk m d 3 (old t) := by
  funext i
  obtain ⟨a, b, p, rfl⟩ : ∃ a b p, i = ix3 a b p := ⟨i 0, i 1, i 2, eq_ix3 i⟩
  obtain rfl : a = 0 := Subsingleton.elim _ _
  obtain rfl : b = 0 := Subsingleton.elim _ _
  have e : (R3.iblk V c 3 t : Vec Ideal S1x1x2048 .f32) (ix3 0 0 p) = (V c main_v21 : Vec Ideal S128x1x2048 .f32) (ix3 (seq t) 0 p) := by blk_ext [R3.iblk, idx t]
  exact e.trans ((H.h3 (seq t) p).trans (Cert.KernelIdeal.Ssm.read3 m d (old t) p).symm)

/-- Window 4's block is that of the recurrence's own program. -/
theorem blk4 : (R3.iblk V c 4 t : Vec Ideal S1x2048x128 .f32) = Cert.KernelIdeal.Gen.iblk m d 4 (old t) := by
  funext i
  obtain ⟨a, p, n, rfl⟩ : ∃ a p n, i = ix3 a p n := ⟨i 0, i 1, i 2, eq_ix3 i⟩
  obtain rfl : a = 0 := Subsingleton.elim _ _
  have e : (R3.iblk V c 4 t : Vec Ideal S1x2048x128 .f32) (ix3 0 p n) = (V c main_v23 : Vec Ideal S128x2048x128 .f32) (ix3 (seq t) p n) := by blk_ext [R3.iblk, idx t]
  exact e.trans ((H.h4 (seq t) p n).trans (Cert.KernelIdeal.Ssm.read4 m d (old t) p n).symm)

/-- Window 5's block is that of the recurrence's own program. -/
theorem blk5 : (R3.iblk V c 5 t : Vec Ideal S4x3072 .f32) = Cert.KernelIdeal.Gen.iblk m d 5 (old t) := by
  funext i
  obtain ⟨s, j, rfl⟩ : ∃ s j, i = ix2 s j := ⟨i 0, i 1, eq_ix2 i⟩
  have e : (R3.iblk V c 5 t : Vec Ideal S4x3072 .f32) (ix2 s j) = (V c main_v24 : Vec Ideal S4x3072 .f32) (ix2 s j) := by blk_ext [R3.iblk, idx t]
  refine e.trans ((H.h5 s j).trans (Eq.symm ?_))
  blk_point [Cert.KernelIdeal.Gen.iblk, Cert.KernelIdeal.Gen.V, Cert.KernelIdeal.Ssm.idx (old t)]

/-- Window 6's block is that of the recurrence's own program. -/
theorem blk6 : (R3.iblk V c 6 t : Vec Ideal S1x3072 .f32) = Cert.KernelIdeal.Gen.iblk m d 6 (old t) := by
  funext i
  obtain ⟨a, j, rfl⟩ : ∃ a j, i = ix2 a j := ⟨i 0, i 1, eq_ix2 i⟩
  obtain rfl : a = 0 := Subsingleton.elim _ _
  have e : (R3.iblk V c 6 t : Vec Ideal S1x3072 .f32) (ix2 0 j) = (V c main_v30 : Vec Ideal S1x3072 .f32) (ix2 0 j) := by blk_ext [R3.iblk, idx t]
  refine e.trans ((H.h6 j).trans (Eq.symm ?_))
  blk_point [Cert.KernelIdeal.Gen.iblk, Cert.KernelIdeal.Gen.V, Cert.KernelIdeal.Ssm.idx (old t)]

/-- Window 7's block is that of the recurrence's own program. -/
theorem blk7 : (R3.iblk V c 7 t : Vec Ideal S1x2048 .f32) = Cert.KernelIdeal.Gen.iblk m d 7 (old t) := by
  funext i
  obtain ⟨a, p, rfl⟩ : ∃ a p, i = ix2 a p := ⟨i 0, i 1, eq_ix2 i⟩
  obtain rfl : a = 0 := Subsingleton.elim _ _
  have e : (R3.iblk V c 7 t : Vec Ideal S1x2048 .f32) (ix2 0 p) = (V c main_v33 : Vec Ideal S1x2048 .f32) (ix2 0 p) := by blk_ext [R3.iblk, idx t]
  exact e.trans ((H.h7 p).trans (Cert.KernelIdeal.Ssm.read7 m d (old t) p).symm)

/-- Window 8's block is that of the recurrence's own program. -/
theorem blk8 : (R3.iblk V c 8 t : Vec Ideal S1x2048 .f32) = Cert.KernelIdeal.Gen.iblk m d 8 (old t) := by
  funext i
  obtain ⟨a, p, rfl⟩ : ∃ a p, i = ix2 a p := ⟨i 0, i 1, eq_ix2 i⟩
  obtain rfl : a = 0 := Subsingleton.elim _ _
  have e : (R3.iblk V c 8 t : Vec Ideal S1x2048 .f32) (ix2 0 p) = (V c main_v36 : Vec Ideal S1x2048 .f32) (ix2 0 p) := by blk_ext [R3.iblk, idx t]
  exact e.trans ((H.h8 p).trans (Cert.KernelIdeal.Ssm.read8 m d (old t) p).symm)

/-- Window 9's block is that of the recurrence's own program. -/
theorem blk9 : (R3.iblk V c 9 t : Vec Ideal S1x2048 .f32) = Cert.KernelIdeal.Gen.iblk m d 9 (old t) := by
  funext i
  obtain ⟨a, p, rfl⟩ : ∃ a p, i = ix2 a p := ⟨i 0, i 1, eq_ix2 i⟩
  obtain rfl : a = 0 := Subsingleton.elim _ _
  have e : (R3.iblk V c 9 t : Vec Ideal S1x2048 .f32) (ix2 0 p) = (V c main_v39 : Vec Ideal S1x2048 .f32) (ix2 0 p) := by blk_ext [R3.iblk, idx t]
  exact e.trans ((H.h9 p).trans (Cert.KernelIdeal.Ssm.read9 m d (old t) p).symm)

/-- Window 10's block is that of the recurrence's own program. -/
theorem blk10 : (R3.iblk V c 10 t : Vec Ideal S1x2048 .f32) = Cert.KernelIdeal.Gen.iblk m d 10 (old t) := by
  funext i
  obtain ⟨a, p, rfl⟩ : ∃ a p, i = ix2 a p := ⟨i 0, i 1, eq_ix2 i⟩
  obtain rfl : a = 0 := Subsingleton.elim _ _
  have e : (R3.iblk V c 10 t : Vec Ideal S1x2048 .f32) (ix2 0 p) = (V c main_v40 : Vec Ideal S1x2048 .f32) (ix2 0 p) := by blk_ext [R3.iblk, idx t]
  refine e.trans ((H.h10 p).trans (Eq.symm ?_))
  blk_point [Cert.KernelIdeal.Gen.iblk, Cert.KernelIdeal.Gen.V, Cert.KernelIdeal.Ssm.idx (old t)]

omit H in
/-- A function of eleven equal arguments. -/
theorem congr11 {A0 A1 A2 A3 A4 A5 A6 A7 A8 A9 A10 B : Type*} (f : A0 → A1 → A2 → A3 → A4 → A5 → A6 → A7 → A8 → A9 → A10 → B)
    {a0 b0 : A0} {a1 b1 : A1} {a2 b2 : A2} {a3 b3 : A3} {a4 b4 : A4} {a5 b5 : A5} {a6 b6 : A6} {a7 b7 : A7} {a8 b8 : A8} {a9 b9 : A9} {a10 b10 : A10} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10)
    : f a0 a1 a2 a3 a4 a5 a6 a7 a8 a9 a10 = f b0 b1 b2 b3 b4 b5 b6 b7 b8 b9 b10 := by
  subst_vars
  rfl

set_option maxHeartbeats 4000000 in
/-- The array of the states after the last grid point. -/
theorem state_final : (R3.dat (U := UR sig nD τ) (Lvl := ℕ) (Ix := Unit) Variants.none V (fun _ => 0) c).arrAt 12 cfg3.N = Cert.KernelIdeal.Ssm.resultState m d := by
  refine (R3.dat (U := UR sig nD τ) (Lvl := ℕ) (Ix := Unit) Variants.none V (fun _ => 0) c).arrAt_eq_of_covers 12 _ (by decide +kernel) fun t _ y => ?_
  blk_simp
  rw [R3.after3_12]
  obtain ⟨a, r, n, rfl⟩ : ∃ a r n, y = ix3 a r n := ⟨y 0, y 1, y 2, eq_ix3 y⟩
  obtain rfl : a = 0 := Subsingleton.elim _ _
  refine ((congrFun ((state_block V c t).trans (congr11 Cert.KernelIdeal.Gen.out0_12 (blk0 H t) (blk1 H t) (blk2 H t) (blk3 H t) (blk4 H t) (blk5 H t) (blk6 H t) (blk7 H t) (blk8 H t) (blk9 H t) (blk10 H t))) (ix3 0 r n)).trans (Cert.KernelIdeal.Ssm.at_state m d (old t) r n)).trans ?_
  pointwise [Cert.ReferenceIdeal.Read.val_main_v95]
  blk_ext [idx t]

set_option maxHeartbeats 4000000 in
/-- The array of the rows after the last grid point. -/
theorem row_final : (R3.dat (U := UR sig nD τ) (Lvl := ℕ) (Ix := Unit) Variants.none V (fun _ => 0) c).arrAt 11 cfg3.N = Cert.KernelIdeal.Ssm.result m d := by
  refine (R3.dat (U := UR sig nD τ) (Lvl := ℕ) (Ix := Unit) Variants.none V (fun _ => 0) c).arrAt_eq_of_covers 11 _ (by decide +kernel) fun t _ y => ?_
  blk_simp
  rw [R3.after3_11]
  obtain ⟨a, b, p, rfl⟩ : ∃ a b p, y = ix3 a b p := ⟨y 0, y 1, y 2, eq_ix3 y⟩
  obtain rfl : a = 0 := Subsingleton.elim _ _
  obtain rfl : b = 0 := Subsingleton.elim _ _
  refine ((congrFun ((row_block V c t).trans (congr11 Cert.KernelIdeal.Gen.out0_11 (blk0 H t) (blk1 H t) (blk2 H t) (blk3 H t) (blk4 H t) (blk5 H t) (blk6 H t) (blk7 H t) (blk8 H t) (blk9 H t) (blk10 H t))) (ix3 0 0 p)).trans (Cert.KernelIdeal.Ssm.at_row m d (old t) p)).trans (congrArg (Cert.KernelIdeal.Ssm.result m d) ?_)
  blk_ext [idx t]

end Cert.Kernel11Ideal.Same

end
-- ==== Proof.Kernel11IdealRun.lean ====
/- The run of `Kernel11Ideal`: its four regions and the host code between them, chained from the arguments to the last
    region's output arrays. -/
module

public import proofs.«01_k».proof.Proof.Gen.Kernel11Ideal.Regions
public import proofs.«01_k».proof.Proof.Kernel11IdealR0
public import proofs.«01_k».proof.Proof.Kernel11IdealR1
public import proofs.«01_k».proof.Proof.Kernel11IdealR2
public import proofs.«01_k».proof.Proof.Kernel11IdealR3
public import Idealize.ShloMosaic.Lib.Pipeline.RegionArrays

@[expose] public section

set_option maxRecDepth 16384

noncomputable section

namespace Cert.Kernel11Ideal.Whole

open Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents by device buffer, read at a core's references. -/
abbrev ent (W : Dev nD → Valuation τ sig (Elt F)) (c : Dev nD) (b : Ref sig .tc) : Buf (Elt F) ((c : Thread nD τ).loc b) := W c (Proc.devRef .tc b)

/-- One reference at the contents `x`, every other as launched. -/
def put (r₀ : Ref sig .tc) (x : (c : Dev nD) → Buf (Elt F) ((c : Thread nD τ).loc r₀)) (r : Ref sig .tc) (c : Dev nD) : Buf (Elt F) ((c : Thread nD τ).loc r) :=
  if h : r = r₀ then h ▸ x c else m ((c : Thread nD τ).loc r)

/-- `put` at its own reference. -/
theorem put_self (r₀ : Ref sig .tc) (x : (c : Dev nD) → Buf (Elt F) ((c : Thread nD τ).loc r₀)) (c : Dev nD) : put m r₀ x r₀ c = x c := dif_pos rfl

/-- What `sample_z` leaves in its output array. -/
def z (c : Dev nD) : Buf (Elt F) ((c : Thread nD τ).loc main_v6) := (R0.dat (ent (V1 m)) c).arrAt 3 cfg0.N
/-- The arrays the regions leave, up to the first. -/
def left1 : Outs (F := F) := fun _ => put m main_v6 (z m)
/-- What `sample_xbc` leaves in its output array. -/
def xbc (c : Dev nD) : Buf (Elt F) ((c : Thread nD τ).loc main_v11) := (R1.dat (ent (V3 m (left1 m))) c).arrAt 3 cfg1.N
/-- Up to the second. -/
def left2 : Outs (F := F)
  | 2 => left1 m 2
  | _ => put m main_v11 (xbc m)
/-- What `sample_dt` leaves in its output array. -/
def dt (c : Dev nD) : Buf (Elt F) ((c : Thread nD τ).loc main_v17) := (R2.dat (ent (V5 m (left2 m))) c).arrAt 3 cfg2.N
/-- Up to the third. -/
def left3 : Outs (F := F)
  | 2 => left1 m 2
  | 4 => left2 m 4
  | _ => put m main_v17 (dt m)
/-- What `sample_ssm` leaves in the array of the rows. -/
def row (c : Dev nD) : Buf (Elt F) ((c : Thread nD τ).loc main_v41_0) := (R3.dat (U := UR sig nD τ) (Lvl := ℕ) (Ix := Unit) Variants.none (ent (V7 m (left3 m))) (fun _ => 0) c).arrAt 11 cfg3.N
/-- What `sample_ssm` leaves in the array of the states. -/
def state (c : Dev nD) : Buf (Elt F) ((c : Thread nD τ).loc main_v41_1) := (R3.dat (U := UR sig nD τ) (Lvl := ℕ) (Ix := Unit) Variants.none (ent (V7 m (left3 m))) (fun _ => 0) c).arrAt 12 cfg3.N
/-- What the last region leaves. -/
def last (r : Ref sig .tc) (c : Dev nD) : Buf (Elt F) ((c : Thread nD τ).loc r) :=
  if h : r = main_v41_1 then h ▸ state m c else put m main_v41_0 (row m) r c

/-- The last region leaves the rows. -/
theorem last_row (c : Dev nD) : last m main_v41_0 c = row m c :=
  (dif_neg (by decide : ¬ (main_v41_0 : Ref sig .tc) = main_v41_1)).trans (put_self m main_v41_0 (row m) c)
/-- And the states. -/
theorem last_state (c : Dev nD) : last m main_v41_1 c = state m c := dif_pos rfl

/-- What every region leaves. -/
def left : Outs (F := F)
  | 2 => left1 m 2
  | 4 => left2 m 4
  | 6 => left3 m 6
  | _ => last m

/-- The last region's own results do not reach its arrays. -/
theorem same : V7 m (left3 m) = V7 m (left m) := rfl

/-- The proof data of the four regions, each over what the ones before left. -/
def pd : (p : Fin 4) → (c : Dev nD) → Dat τ (Elt F) Unit ℕ (UR sig nD τ) ℕ (cfgs p) c
  | ⟨0, _⟩ => fun c => R0.dat (ent (V1 m)) c
  | ⟨1, _⟩ => fun c => R1.dat (ent (V3 m (left m))) c
  | ⟨2, _⟩ => fun c => R2.dat (ent (V5 m (left m))) c
  | ⟨3, _⟩ => fun c => R3.dat Variants.none (ent (V7 m (left m))) (fun _ => 0) c

/-- The cells of the launch: one level, on the TensorCores. -/
abbrev L : GSem nD τ sig → Finset Unit := fun g => if g.1.2 = .tc then {()} else ∅
/-- The level of every cell. -/
abbrev lv : GSem nD τ sig → Unit → ℕ := fun _ _ => 0

/-- What rides between the items: the generator register and the core's empty debt. -/
abbrev E : Fin 5 → Dev nD → sProp 𝕄 := fun _ c => iprop((∃ r, prngReg c r) ∗ ∃ W, owes (c : Thread nD τ) (0 : CellTallies nD τ sig Unit) W)

/-- The rows in terms of the proof data. -/
theorem row_eq (c : Dev nD) : row m c = (pd m 3 c).arrAt 11 cfg3.N := by
  unfold row; rw [same]; rfl
/-- The states likewise. -/
theorem state_eq (c : Dev nD) : state m c = (pd m 3 c).arrAt 12 cfg3.N := by
  unfold state; rw [same]; rfl

/-- At the end the core owes nothing. -/
theorem done (c : Dev nD) : (E 4 c : sProp 𝕄) ⊢ iprop(∃ W, owes (c : Thread nD τ) (0 : CellTallies nD τ sig Unit) W) := by
  iintro ⟨-, HO⟩
  iexact HO

/-- All cells lie on one level. -/
theorem cut (p : Fin 4) : Pipeline.LevelCut (pcfgs (F := F)) adm () L lv p (fun _ => 0) (fun _ => 0) where
  hι _ _ _ := by simp [L]
  hιb _ _ _ := Nat.le_refl _
  hD _ _ _ h := absurd h (by simp)

/-! ## `sample_z` -/

/-- Region 0's result stands in its array afterwards. -/
theorem out0 (c : Dev nD) : V2 m (left m) c (Proc.devRef .tc main_v6) = z m c := by
  simp only [V2, Function.update_self]
  exact put_self m main_v6 (z m) c

/-- Region 0's arrays are unscoped buffers. -/
theorem arrs0 : Pipeline.arrRefs (τ := τ) spec0 ⊆ Pipeline.ucRefs τ sig := Pipeline.arrRefs_sub_ucRefs spec0 (by decide)

/-- Every other buffer is as before region 0. -/
theorem keep0 (c : Dev nD) : ∀ b ∈ (Pipeline.ucRefs τ sig) \ Pipeline.arrRefs (τ := τ) spec0, V2 m (left m) c b = V1 m c b := fun b hb => by
  have hn : b ∉ Pipeline.arrRefs (τ := τ) spec0 := (Finset.mem_sdiff.mp hb).2
  have h3 : b ≠ Proc.devRef .tc main_v6 := by
    rintro rfl; exact hn (Finset.mem_map_of_mem _ (Finset.mem_image_of_mem _ (Finset.mem_univ (3 : Fin cfg0.W))))
  simp only [V2, Function.update_of_ne h3]

set_option backward.isDefEq.respectTransparency.types false in
set_option maxHeartbeats 1000000 in
/-- The region of `sample_z`: its arrays held at the contents before it, and afterwards at the contents after it. -/
def seg0 : RegionSeg (pcfgs (F := F)) adm (pd m) () defs₀ Variants.none L lv 0 :=
  Pipeline.RegionSeg.ofHeld (pcfgs (F := F)) adm (pd m) () defs₀ Variants.none L lv 0 (fun _ => 0)
    (fun c => iprop(∃ r, prngReg c r)) (fun c => iprop(∃ r, prngReg c r))
    launch0.toP rfl (fun c => (R0.body_obligation (ent (V1 m)) c).loose) (fun _ _ => rfl) (fun _ => rfl)
    (fun c => (pd m 0 c).share_full fun _ => rfl) (fun _ => .rfl) (fun c => R0.hout (ent (V1 m)) c) (fun _ => 0) (cut 0)
    (fun c => StableHlo.held (c : Thread nD τ) ((Pipeline.ucRefs τ sig) \ Pipeline.arrRefs (τ := τ) spec0) (V1 m c))
    (V1 m) (V2 m (left m)) (fun _ _ => rfl)
    (fun c => fun | 0 => ((pd m 0 c).arrAt_in 0 rfl _).trans ((R0.A_eq (ent (V1 m)) c 0).trans (V2_of m (left m) c (Pipeline.arrRef spec0 0) (by decide)).symm) | 1 => ((pd m 0 c).arrAt_in 1 rfl _).trans ((R0.A_eq (ent (V1 m)) c 1).trans (V2_of m (left m) c (Pipeline.arrRef spec0 1) (by decide)).symm) | 2 => ((pd m 0 c).arrAt_in 2 rfl _).trans ((R0.A_eq (ent (V1 m)) c 2).trans (V2_of m (left m) c (Pipeline.arrRef spec0 2) (by decide)).symm) | 3 => (out0 m c).symm)

/-- What region 0 needs, from what stands before it. -/
theorem pre0 (c : Dev nD) : iprop(StableHlo.held (c : Thread nD τ) (Pipeline.ucRefs τ sig) (V1 m c) ∗ E 0 c) ⊢ (seg0 m).pre c := by
  show _ ⊢ iprop(StableHlo.held (c : Thread nD τ) (Pipeline.arrRefs (τ := τ) spec0) (V1 m c) ∗ (∃ r, prngReg c r)
    ∗ StableHlo.held (c : Thread nD τ) ((Pipeline.ucRefs τ sig) \ Pipeline.arrRefs (τ := τ) spec0) (V1 m c) ∗ ∃ W, owes (c : Thread nD τ) 0 W)
  rw [StableHlo.held_sub_split (c : Thread nD τ) arrs0 (V1 m c)]
  iintro ⟨⟨Ha, Hr⟩, Hp, HO⟩
  isplitl [Ha]; · iexact Ha
  isplitl [Hp]; · iexact Hp
  isplitl [Hr]; · iexact Hr
  iexact HO

/-- What stands after region 0. -/
theorem post0 (c : Dev nD) : (seg0 m).post c ⊢ iprop(StableHlo.held (c : Thread nD τ) (Pipeline.ucRefs τ sig) (V2 m (left m) c) ∗ E 1 c) := by
  show iprop(StableHlo.held (c : Thread nD τ) (Pipeline.arrRefs (τ := τ) spec0) (V2 m (left m) c) ∗ (∃ r, prngReg c r)
    ∗ StableHlo.held (c : Thread nD τ) ((Pipeline.ucRefs τ sig) \ Pipeline.arrRefs (τ := τ) spec0) (V1 m c) ∗ ∃ W, owes (c : Thread nD τ) 0 W) ⊢ _
  rw [StableHlo.held_sub_split (c : Thread nD τ) arrs0 (V2 m (left m) c),
    StableHlo.held_congr (c : Thread nD τ) (S := (Pipeline.ucRefs τ sig) \ Pipeline.arrRefs (τ := τ) spec0) (keep0 m c)]
  iintro ⟨Ha, Hp, Hr, HO⟩
  isplitl [Ha Hr]; · isplitl [Ha] <;> iassumption
  isplitl [Hp]; · iexact Hp
  iexact HO

/-! ## `sample_xbc` -/

/-- Region 1's result stands in its array afterwards. -/
theorem out1 (c : Dev nD) : V4 m (left m) c (Proc.devRef .tc main_v11) = xbc m c := by
  simp only [V4, Function.update_self]
  exact put_self m main_v11 (xbc m) c

/-- Region 1's arrays are unscoped buffers. -/
theorem arrs1 : Pipeline.arrRefs (τ := τ) spec1 ⊆ Pipeline.ucRefs τ sig := Pipeline.arrRefs_sub_ucRefs spec1 (by decide)

/-- Every other buffer is as before region 1. -/
theorem keep1 (c : Dev nD) : ∀ b ∈ (Pipeline.ucRefs τ sig) \ Pipeline.arrRefs (τ := τ) spec1, V4 m (left m) c b = V3 m (left m) c b := fun b hb => by
  have hn : b ∉ Pipeline.arrRefs (τ := τ) spec1 := (Finset.mem_sdiff.mp hb).2
  have h3 : b ≠ Proc.devRef .tc main_v11 := by
    rintro rfl; exact hn (Finset.mem_map_of_mem _ (Finset.mem_image_of_mem _ (Finset.mem_univ (3 : Fin cfg1.W))))
  simp only [V4, Function.update_of_ne h3]

set_option backward.isDefEq.respectTransparency.types false in
set_option maxHeartbeats 1000000 in
/-- The region of `sample_xbc`: its arrays held at the contents before it, and afterwards at the contents after it. -/
def seg1 : RegionSeg (pcfgs (F := F)) adm (pd m) () defs₀ Variants.none L lv 1 :=
  Pipeline.RegionSeg.ofHeld (pcfgs (F := F)) adm (pd m) () defs₀ Variants.none L lv 1 (fun _ => 0)
    (fun c => iprop(∃ r, prngReg c r)) (fun c => iprop(∃ r, prngReg c r))
    launch1.toP rfl (fun c => (R1.body_obligation (ent (V3 m (left m))) c).loose) (fun _ _ => rfl) (fun _ => rfl)
    (fun c => (pd m 1 c).share_full fun _ => rfl) (fun _ => .rfl) (fun c => R1.hout (ent (V3 m (left m))) c) (fun _ => 0) (cut 1)
    (fun c => StableHlo.held (c : Thread nD τ) ((Pipeline.ucRefs τ sig) \ Pipeline.arrRefs (τ := τ) spec1) (V3 m (left m) c))
    (V3 m (left m)) (V4 m (left m)) (fun _ _ => rfl)
    (fun c => fun | 0 => ((pd m 1 c).arrAt_in 0 rfl _).trans ((R1.A_eq (ent (V3 m (left m))) c 0).trans (V4_of m (left m) c (Pipeline.arrRef spec1 0) (by decide)).symm) | 1 => ((pd m 1 c).arrAt_in 1 rfl _).trans ((R1.A_eq (ent (V3 m (left m))) c 1).trans (V4_of m (left m) c (Pipeline.arrRef spec1 1) (by decide)).symm) | 2 => ((pd m 1 c).arrAt_in 2 rfl _).trans ((R1.A_eq (ent (V3 m (left m))) c 2).trans (V4_of m (left m) c (Pipeline.arrRef spec1 2) (by decide)).symm) | 3 => (out1 m c).symm)

/-- What region 1 needs, from what stands before it. -/
theorem pre1 (c : Dev nD) : iprop(StableHlo.held (c : Thread nD τ) (Pipeline.ucRefs τ sig) (V3 m (left m) c) ∗ E 1 c) ⊢ (seg1 m).pre c := by
  show _ ⊢ iprop(StableHlo.held (c : Thread nD τ) (Pipeline.arrRefs (τ := τ) spec1) (V3 m (left m) c) ∗ (∃ r, prngReg c r)
    ∗ StableHlo.held (c : Thread nD τ) ((Pipeline.ucRefs τ sig) \ Pipeline.arrRefs (τ := τ) spec1) (V3 m (left m) c) ∗ ∃ W, owes (c : Thread nD τ) 0 W)
  rw [StableHlo.held_sub_split (c : Thread nD τ) arrs1 (V3 m (left m) c)]
  iintro ⟨⟨Ha, Hr⟩, Hp, HO⟩
  isplitl [Ha]; · iexact Ha
  isplitl [Hp]; · iexact Hp
  isplitl [Hr]; · iexact Hr
  iexact HO

/-- What stands after region 1. -/
theorem post1 (c : Dev nD) : (seg1 m).post c ⊢ iprop(StableHlo.held (c : Thread nD τ) (Pipeline.ucRefs τ sig) (V4 m (left m) c) ∗ E 2 c) := by
  show iprop(StableHlo.held (c : Thread nD τ) (Pipeline.arrRefs (τ := τ) spec1) (V4 m (left m) c) ∗ (∃ r, prngReg c r)
    ∗ StableHlo.held (c : Thread nD τ) ((Pipeline.ucRefs τ sig) \ Pipeline.arrRefs (τ := τ) spec1) (V3 m (left m) c) ∗ ∃ W, owes (c : Thread nD τ) 0 W) ⊢ _
  rw [StableHlo.held_sub_split (c : Thread nD τ) arrs1 (V4 m (left m) c),
    StableHlo.held_congr (c : Thread nD τ) (S := (Pipeline.ucRefs τ sig) \ Pipeline.arrRefs (τ := τ) spec1) (keep1 m c)]
  iintro ⟨Ha, Hp, Hr, HO⟩
  isplitl [Ha Hr]; · isplitl [Ha] <;> iassumption
  isplitl [Hp]; · iexact Hp
  iexact HO

/-! ## `sample_dt` -/

/-- Region 2's result stands in its array afterwards. -/
theorem out2 (c : Dev nD) : V6 m (left m) c (Proc.devRef .tc main_v17) = dt m c := by
  simp only [V6, Function.update_self]
  exact put_self m main_v17 (dt m) c

/-- Region 2's arrays are unscoped buffers. -/
theorem arrs2 : Pipeline.arrRefs (τ := τ) spec2 ⊆ Pipeline.ucRefs τ sig := Pipeline.arrRefs_sub_ucRefs spec2 (by decide)

/-- Every other buffer is as before region 2. -/
theorem keep2 (c : Dev nD) : ∀ b ∈ (Pipeline.ucRefs τ sig) \ Pipeline.arrRefs (τ := τ) spec2, V6 m (left m) c b = V5 m (left m) c b := fun b hb => by
  have hn : b ∉ Pipeline.arrRefs (τ := τ) spec2 := (Finset.mem_sdiff.mp hb).2
  have h3 : b ≠ Proc.devRef .tc main_v17 := by
    rintro rfl; exact hn (Finset.mem_map_of_mem _ (Finset.mem_image_of_mem _ (Finset.mem_univ (3 : Fin cfg2.W))))
  simp only [V6, Function.update_of_ne h3]

set_option backward.isDefEq.respectTransparency.types false in
set_option maxHeartbeats 1000000 in
/-- The region of `sample_dt`: its arrays held at the contents before it, and afterwards at the contents after it. -/
def seg2 : RegionSeg (pcfgs (F := F)) adm (pd m) () defs₀ Variants.none L lv 2 :=
  Pipeline.RegionSeg.ofHeld (pcfgs (F := F)) adm (pd m) () defs₀ Variants.none L lv 2 (fun _ => 0)
    (fun c => iprop(∃ r, prngReg c r)) (fun c => iprop(∃ r, prngReg c r))
    launch2.toP rfl (fun c => (R2.body_obligation (ent (V5 m (left m))) c).loose) (fun _ _ => rfl) (fun _ => rfl)
    (fun c => (pd m 2 c).share_full fun _ => rfl) (fun _ => .rfl) (fun c => R2.hout (ent (V5 m (left m))) c) (fun _ => 0) (cut 2)
    (fun c => StableHlo.held (c : Thread nD τ) ((Pipeline.ucRefs τ sig) \ Pipeline.arrRefs (τ := τ) spec2) (V5 m (left m) c))
    (V5 m (left m)) (V6 m (left m)) (fun _ _ => rfl)
    (fun c => fun | 0 => ((pd m 2 c).arrAt_in 0 rfl _).trans ((R2.A_eq (ent (V5 m (left m))) c 0).trans (V6_of m (left m) c (Pipeline.arrRef spec2 0) (by decide)).symm) | 1 => ((pd m 2 c).arrAt_in 1 rfl _).trans ((R2.A_eq (ent (V5 m (left m))) c 1).trans (V6_of m (left m) c (Pipeline.arrRef spec2 1) (by decide)).symm) | 2 => ((pd m 2 c).arrAt_in 2 rfl _).trans ((R2.A_eq (ent (V5 m (left m))) c 2).trans (V6_of m (left m) c (Pipeline.arrRef spec2 2) (by decide)).symm) | 3 => (out2 m c).symm)

/-- What region 2 needs, from what stands before it. -/
theorem pre2 (c : Dev nD) : iprop(StableHlo.held (c : Thread nD τ) (Pipeline.ucRefs τ sig) (V5 m (left m) c) ∗ E 2 c) ⊢ (seg2 m).pre c := by
  show _ ⊢ iprop(StableHlo.held (c : Thread nD τ) (Pipeline.arrRefs (τ := τ) spec2) (V5 m (left m) c) ∗ (∃ r, prngReg c r)
    ∗ StableHlo.held (c : Thread nD τ) ((Pipeline.ucRefs τ sig) \ Pipeline.arrRefs (τ := τ) spec2) (V5 m (left m) c) ∗ ∃ W, owes (c : Thread nD τ) 0 W)
  rw [StableHlo.held_sub_split (c : Thread nD τ) arrs2 (V5 m (left m) c)]
  iintro ⟨⟨Ha, Hr⟩, Hp, HO⟩
  isplitl [Ha]; · iexact Ha
  isplitl [Hp]; · iexact Hp
  isplitl [Hr]; · iexact Hr
  iexact HO

/-- What stands after region 2. -/
theorem post2 (c : Dev nD) : (seg2 m).post c ⊢ iprop(StableHlo.held (c : Thread nD τ) (Pipeline.ucRefs τ sig) (V6 m (left m) c) ∗ E 3 c) := by
  show iprop(StableHlo.held (c : Thread nD τ) (Pipeline.arrRefs (τ := τ) spec2) (V6 m (left m) c) ∗ (∃ r, prngReg c r)
    ∗ StableHlo.held (c : Thread nD τ) ((Pipeline.ucRefs τ sig) \ Pipeline.arrRefs (τ := τ) spec2) (V5 m (left m) c) ∗ ∃ W, owes (c : Thread nD τ) 0 W) ⊢ _
  rw [StableHlo.held_sub_split (c : Thread nD τ) arrs2 (V6 m (left m) c),
    StableHlo.held_congr (c : Thread nD τ) (S := (Pipeline.ucRefs τ sig) \ Pipeline.arrRefs (τ := τ) spec2) (keep2 m c)]
  iintro ⟨Ha, Hp, Hr, HO⟩
  isplitl [Ha Hr]; · isplitl [Ha] <;> iassumption
  isplitl [Hp]; · iexact Hp
  iexact HO

/-! ## `sample_ssm` -/

/-- The rows stand in their array at the end. -/
theorem out3_row (c : Dev nD) : V8 m (left m) c (Proc.devRef .tc main_v41_0) = row m c := by
  simp only [V8, Function.update_of_ne (StableHlo.devRef_ne_of_ne (by decide : (main_v41_0 : Ref sig .tc) ≠ main_v41_1)), Function.update_self]
  exact last_row m c

/-- So do the states. -/
theorem out3_state (c : Dev nD) : V8 m (left m) c (Proc.devRef .tc main_v41_1) = state m c := by
  simp only [V8, Function.update_self]
  exact last_state m c

/-- Region 3's arrays are unscoped buffers. -/
theorem arrs3 : Pipeline.arrRefs (τ := τ) spec3 ⊆ Pipeline.ucRefs τ sig := Pipeline.arrRefs_sub_ucRefs spec3 (by decide)

/-- Every other buffer is as before region 3. -/
theorem keep3 (c : Dev nD) : ∀ b ∈ (Pipeline.ucRefs τ sig) \ Pipeline.arrRefs (τ := τ) spec3, V8 m (left m) c b = V7 m (left m) c b := fun b hb => by
  have hn : b ∉ Pipeline.arrRefs (τ := τ) spec3 := (Finset.mem_sdiff.mp hb).2
  have h11 : b ≠ Proc.devRef .tc main_v41_0 := by
    rintro rfl; exact hn (Finset.mem_map_of_mem _ (Finset.mem_image_of_mem _ (Finset.mem_univ (11 : Fin cfg3.W))))
  have h12 : b ≠ Proc.devRef .tc main_v41_1 := by
    rintro rfl; exact hn (Finset.mem_map_of_mem _ (Finset.mem_image_of_mem _ (Finset.mem_univ (12 : Fin cfg3.W))))
  simp only [V8, Function.update_of_ne h11, Function.update_of_ne h12]

set_option backward.isDefEq.respectTransparency.types false in
set_option maxHeartbeats 1000000 in
/-- The region of `sample_ssm`: its arrays held at the contents before it, and afterwards at the contents after it. -/
def seg3 : RegionSeg (pcfgs (F := F)) adm (pd m) () defs₀ Variants.none L lv 3 :=
  Pipeline.RegionSeg.ofHeld (pcfgs (F := F)) adm (pd m) () defs₀ Variants.none L lv 3 (fun _ => 0)
    (fun c => iprop(∃ r, prngReg c r)) (fun c => iprop(∃ r, prngReg c r))
    launch3.toP rfl (fun c => (R3.body_obligation (U := UR sig nD τ) (Lvl := ℕ) Variants.none (ent (V7 m (left m))) (fun _ => 0) () c).loose) (fun _ _ => rfl) (fun _ => rfl)
    (fun c => (pd m 3 c).share_full fun _ => rfl) (fun _ => .rfl) (fun c => .rfl) (fun _ => 0) (cut 3)
    (fun c => StableHlo.held (c : Thread nD τ) ((Pipeline.ucRefs τ sig) \ Pipeline.arrRefs (τ := τ) spec3) (V7 m (left m) c))
    (V7 m (left m)) (V8 m (left m)) (fun _ _ => rfl)
    (fun c => fun | 0 => ((pd m 3 c).arrAt_in 0 rfl _).trans ((R3.A_eq (U := UR sig nD τ) (Lvl := ℕ) (Ix := Unit) Variants.none (ent (V7 m (left m))) (fun _ => 0) c 0).trans (V8_of m (left m) c (Pipeline.arrRef spec3 0) (by decide)).symm) | 1 => ((pd m 3 c).arrAt_in 1 rfl _).trans ((R3.A_eq (U := UR sig nD τ) (Lvl := ℕ) (Ix := Unit) Variants.none (ent (V7 m (left m))) (fun _ => 0) c 1).trans (V8_of m (left m) c (Pipeline.arrRef spec3 1) (by decide)).symm) | 2 => ((pd m 3 c).arrAt_in 2 rfl _).trans ((R3.A_eq (U := UR sig nD τ) (Lvl := ℕ) (Ix := Unit) Variants.none (ent (V7 m (left m))) (fun _ => 0) c 2).trans (V8_of m (left m) c (Pipeline.arrRef spec3 2) (by decide)).symm) | 3 => ((pd m 3 c).arrAt_in 3 rfl _).trans ((R3.A_eq (U := UR sig nD τ) (Lvl := ℕ) (Ix := Unit) Variants.none (ent (V7 m (left m))) (fun _ => 0) c 3).trans (V8_of m (left m) c (Pipeline.arrRef spec3 3) (by decide)).symm) | 4 => ((pd m 3 c).arrAt_in 4 rfl _).trans ((R3.A_eq (U := UR sig nD τ) (Lvl := ℕ) (Ix := Unit) Variants.none (ent (V7 m (left m))) (fun _ => 0) c 4).trans (V8_of m (left m) c (Pipeline.arrRef spec3 4) (by decide)).symm) | 5 => ((pd m 3 c).arrAt_in 5 rfl _).trans ((R3.A_eq (U := UR sig nD τ) (Lvl := ℕ) (Ix := Unit) Variants.none (ent (V7 m (left m))) (fun _ => 0) c 5).trans (V8_of m (left m) c (Pipeline.arrRef spec3 5) (by decide)).symm) | 6 => ((pd m 3 c).arrAt_in 6 rfl _).trans ((R3.A_eq (U := UR sig nD τ) (Lvl := ℕ) (Ix := Unit) Variants.none (ent (V7 m (left m))) (fun _ => 0) c 6).trans (V8_of m (left m) c (Pipeline.arrRef spec3 6) (by decide)).symm) | 7 => ((pd m 3 c).arrAt_in 7 rfl _).trans ((R3.A_eq (U := UR sig nD τ) (Lvl := ℕ) (Ix := Unit) Variants.none (ent (V7 m (left m))) (fun _ => 0) c 7).trans (V8_of m (left m) c (Pipeline.arrRef spec3 7) (by decide)).symm) | 8 => ((pd m 3 c).arrAt_in 8 rfl _).trans ((R3.A_eq (U := UR sig nD τ) (Lvl := ℕ) (Ix := Unit) Variants.none (ent (V7 m (left m))) (fun _ => 0) c 8).trans (V8_of m (left m) c (Pipeline.arrRef spec3 8) (by decide)).symm) | 9 => ((pd m 3 c).arrAt_in 9 rfl _).trans ((R3.A_eq (U := UR sig nD τ) (Lvl := ℕ) (Ix := Unit) Variants.none (ent (V7 m (left m))) (fun _ => 0) c 9).trans (V8_of m (left m) c (Pipeline.arrRef spec3 9) (by decide)).symm) | 10 => ((pd m 3 c).arrAt_in 10 rfl _).trans ((R3.A_eq (U := UR sig nD τ) (Lvl := ℕ) (Ix := Unit) Variants.none (ent (V7 m (left m))) (fun _ => 0) c 10).trans (V8_of m (left m) c (Pipeline.arrRef spec3 10) (by decide)).symm) | 11 => ((out3_row m c).trans (row_eq m c)).symm | 12 => ((out3_state m c).trans (state_eq m c)).symm)

/-- What region 3 needs, from what stands before it. -/
theorem pre3 (c : Dev nD) : iprop(StableHlo.held (c : Thread nD τ) (Pipeline.ucRefs τ sig) (V7 m (left m) c) ∗ E 3 c) ⊢ (seg3 m).pre c := by
  show _ ⊢ iprop(StableHlo.held (c : Thread nD τ) (Pipeline.arrRefs (τ := τ) spec3) (V7 m (left m) c) ∗ (∃ r, prngReg c r)
    ∗ StableHlo.held (c : Thread nD τ) ((Pipeline.ucRefs τ sig) \ Pipeline.arrRefs (τ := τ) spec3) (V7 m (left m) c) ∗ ∃ W, owes (c : Thread nD τ) 0 W)
  rw [StableHlo.held_sub_split (c : Thread nD τ) arrs3 (V7 m (left m) c)]
  iintro ⟨⟨Ha, Hr⟩, Hp, HO⟩
  isplitl [Ha]; · iexact Ha
  isplitl [Hp]; · iexact Hp
  isplitl [Hr]; · iexact Hr
  iexact HO

/-- What stands after region 3. -/
theorem post3 (c : Dev nD) : (seg3 m).post c ⊢ iprop(StableHlo.held (c : Thread nD τ) (Pipeline.ucRefs τ sig) (V8 m (left m) c) ∗ E 4 c) := by
  show iprop(StableHlo.held (c : Thread nD τ) (Pipeline.arrRefs (τ := τ) spec3) (V8 m (left m) c) ∗ (∃ r, prngReg c r)
    ∗ StableHlo.held (c : Thread nD τ) ((Pipeline.ucRefs τ sig) \ Pipeline.arrRefs (τ := τ) spec3) (V7 m (left m) c) ∗ ∃ W, owes (c : Thread nD τ) 0 W) ⊢ _
  rw [StableHlo.held_sub_split (c : Thread nD τ) arrs3 (V8 m (left m) c),
    StableHlo.held_congr (c : Thread nD τ) (S := (Pipeline.ucRefs τ sig) \ Pipeline.arrRefs (τ := τ) spec3) (keep3 m c)]
  iintro ⟨Ha, Hp, Hr, HO⟩
  isplitl [Ha Hr]; · isplitl [Ha] <;> iassumption
  isplitl [Hp]; · iexact Hp
  iexact HO

/-! ## The whole run -/

set_option backward.isDefEq.respectTransparency.types false in
/-- The program ends, from any memory, with every unscoped buffer at the contents the chain computes and every counter at zero. -/
theorem run : θ_run defs (onTc (τ := τ) (main (F := F))) ⟨m, fun _ => 0, ρ⟩ (fun r =>
    (∀ c : Dev nD, ∀ b ∈ Pipeline.ucRefs τ sig, r.2.mem (c, b) = V8 m (left m) c b) ∧ r.2.sem = fun _ => 0) :=
  Pipeline.θ_run_regions_kit_dev_sems (pcfgs (F := F)) adm (pd m) () cellOf_inj emb₁ defs₀ Variants.none L lv m ρ main
    (segs m (left m) Variants.none L lv E () (pd m) (seg0 m) (seg1 m) (seg2 m) (seg3 m))
    (fun c Q => by
      rewrite [main_chain c, Seg.run_eq_chain,
        show (segs m (left m) Variants.none L lv E () (pd m) (seg0 m) (seg1 m) (seg2 m) (seg3 m) c).map Seg.prog = [
          StableHlo.seq hostOps0, Prog.lift (.customCall (Pipeline.entry 0) ()), StableHlo.seq hostOps1,
          Prog.lift (.customCall (Pipeline.entry 1) ()), StableHlo.seq hostOps2, Prog.lift (.customCall (Pipeline.entry 2) ()),
          StableHlo.seq hostOps3, Prog.lift (.customCall (Pipeline.entry 3) ()) ] from rfl]
      exact .rfl)
    (fun c => by simp only [segs, Seg.pipes_host, Seg.pipes_region, Seg.pipes_nil]; decide) (O₀ := 0)
    (hL := fun _ h => if_neg h) (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V8 m (left m) c))
    (hch := fun c => ⟨.rfl, pre0 m c, post0 m c, pre1 m c, post1 m c, pre2 m c, post2 m c, pre3 m c,
      (post3 m c).trans (sep_mono .rfl (done c))⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (c, b) = V8 m (left m) c b)
    (hfin := fun c s' => by
      unfold StableHlo.held
      iintro ⟨Hh, HSI⟩
      ihave Hr := (pointsTo_read_all (Pipeline.ucRefs τ sig) (fun b => ((c : Thread nD τ).1, b)) (V8 m (left m) c) s') $$ [Hh HSI]
      · isplitl [Hh] <;> iassumption
      icases Hr with ⟨%h, HSI⟩
      imodintro
      isplitr; · ipureintro; exact h
      iexact HSI)
    (hQ := fun _ h hz => ⟨h, funext fun g => hz g (.inr (regions_no_unscoped g.2))⟩)

/-- The buffers the claims name are unscoped. -/
theorem unscoped (r : Ref sig .tc) (h : Proc.devRef (τ := τ) .tc r ∈ Pipeline.ucRefs τ sig := by
    exact Finset.mem_filter.mpr ⟨StableHlo.devRef_mem_tcRefs _, by decide⟩) : Proc.devRef (τ := τ) .tc r ∈ Pipeline.ucRefs τ sig := h

/-- The arguments come back as they were. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1 c _ (unscoped main_arg0)).trans (V8_main_arg0 m (left m) c),
    (h.1 c _ (unscoped main_arg1)).trans (V8_main_arg1 m (left m) c),
    (h.1 c _ (unscoped main_arg2)).trans (V8_main_arg2 m (left m) c),
    (h.1 c _ (unscoped main_arg3)).trans (V8_main_arg3 m (left m) c),
    (h.1 c _ (unscoped main_arg4)).trans (V8_main_arg4 m (left m) c),
    (h.1 c _ (unscoped main_arg5)).trans (V8_main_arg5 m (left m) c),
    (h.1 c _ (unscoped main_arg6)).trans (V8_main_arg6 m (left m) c),
    (h.1 c _ (unscoped main_arg7)).trans (V8_main_arg7 m (left m) c),
    (h.1 c _ (unscoped main_arg8)).trans (V8_main_arg8 m (left m) c),
    (h.1 c _ (unscoped main_arg9)).trans (V8_main_arg9 m (left m) c),
    (h.1 c _ (unscoped main_arg10)).trans (V8_main_arg10 m (left m) c)⟩, h.2⟩) (run m ρ)

/-- The two outputs hold what the last region's data says. -/
theorem run_main : θ_run defs (onTc (τ := τ) (main (F := F))) ⟨m, fun _ => 0, ρ⟩ (fun r => ∀ c : Dev nD,
    r.2.mem ((c.tc : Thread nD τ).loc main_v41_0) = row m c ∧ r.2.mem ((c.tc : Thread nD τ).loc main_v41_1) = state m c) :=
  (θ_run defs _ _).mono (fun _ h c => ⟨(h.1 c _ (unscoped main_v41_0)).trans (out3_row m c), (h.1 c _ (unscoped main_v41_1)).trans (out3_state m c)⟩) (run m ρ)

end Cert.Kernel11Ideal.Whole

end
-- ==== Proof.SampleStepRef.lean ====
module

public import proofs.«01_k».proof.Proof.Gen.ReferenceIdeal.Read
public import proofs.«01_k».proof.Proof.Gen.Reference11Ideal.Read
public import proofs.«01_k».proof.Proof.Rms
public import Idealize.ShloMosaic.Lib.Pipeline.ValueKit

/-!
The reference of the decoding step: the slices of one product, and the recurrence of these slices.
-/

@[expose] public section

set_option maxRecDepth 16384

noncomputable section

namespace Cert.Reference11Ideal.Step

open Cert.Rms Cert.Reference11Ideal Cert.Reference11Ideal.Read Idealize.ShloMosaic Idealize.ShloMosaic.TcCoe Idealize.SL.Sem

variable (x0 : Vec Ideal S128x1x1024 .f32) (x1 : Vec Ideal S1x128x32x64x128 .f32) (x2 : Vec Ideal S1x128x3x3072 .f32)
  (x3 : Vec Ideal S1x1024 .f32) (x4 : Vec Ideal S1x1024x10856 .f32) (x5 : Vec Ideal S1x4x3072 .f32) (x6 : Vec Ideal S1x3072 .f32)
  (x7 x8 x9 : Vec Ideal S1x32 .f32) (x10 : Vec Ideal S1x2048 .f32)

/-- The reference's product at row `r` and column `q`. -/
theorem product (r : Fin 128) (q : Fin 10856) :
    val_main_v16 (F := Ideal) x0 x3 x4 (ix2 r q) = proj (fun k => x0 (ix3 r 0 k)) (fun k => x3 (ix2 0 k)) (fun k => x4 (ix3 0 k q)) := by
  have e : ∀ k, val_main_v15 (F := Ideal) x0 x3 (ix2 r k) = nrm (fun k => x0 (ix3 r 0 k)) (fun k => x3 (ix2 0 k)) k := by
    intro k
    unfold nrm
    pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e4 : ∀ k (q : Fin 10856), val_main_v2 (F := Ideal) x4 (ix2 k q) = x4 (ix3 0 k q) := by
    intro k q
    pointwise [val_main_v2]
  unfold proj
  simp only [← e]
  pointwise [val_main_v16]
  simp only [e4]

/-- The convolution inputs are the product's columns from 5704 on. -/
theorem xbc_at (r : Fin 128) (n : Fin 3072) (q : Fin 10856) (h : q.val = 5704 + n.val) :
    val_main_v18 (F := Ideal) x0 x3 x4 (ix3 r 0 n) = proj (fun k => x0 (ix3 r 0 k)) (fun k => x3 (ix2 0 k)) (fun k => x4 (ix3 0 k q)) := by
  obtain ⟨q, hq⟩ := q
  subst h
  refine Eq.trans ?_ (product x0 x3 x4 r _)
  pointwise [val_main_v18, val_main_v17]

/-- The gates are the product's columns from 3656 on. -/
theorem z_at (r : Fin 128) (n : Fin 2048) (q : Fin 10856) (h : q.val = 3656 + n.val) :
    val_main_v21 (F := Ideal) x0 x3 x4 (ix3 r 0 n) = proj (fun k => x0 (ix3 r 0 k)) (fun k => x3 (ix2 0 k)) (fun k => x4 (ix3 0 k q)) := by
  obtain ⟨q, hq⟩ := q
  subst h
  refine Eq.trans ?_ (product x0 x3 x4 r _)
  pointwise [val_main_v21, val_main_v20]

/-- The step sizes are the product's columns from 8776 on. -/
theorem dt_at (r : Fin 128) (n : Fin 32) (q : Fin 10856) (h : q.val = 8776 + n.val) :
    val_main_v23 (F := Ideal) x0 x3 x4 (ix3 r 0 n) = proj (fun k => x0 (ix3 r 0 k)) (fun k => x3 (ix2 0 k)) (fun k => x4 (ix3 0 k q)) := by
  obtain ⟨q, hq⟩ := q
  subst h
  refine Eq.trans ?_ (product x0 x3 x4 r _)
  pointwise [val_main_v23, val_main_v22]

/-- The reference's states are the step's, of the slices of the product and the arguments without their leading axes. -/
theorem states : Cert.Reference11Ideal.Read.val_main_v126 (F := Ideal) x0 x1 x2 x3 x4 x5 x6 x7 x8
    = Cert.ReferenceIdeal.Read.val_main_v95 (F := Ideal) (val_main_v18 x0 x3 x4) (val_main_v19 x2) (val_main_v23 x0 x3 x4) (val_main_v24 x1)
        (val_main_v25 x5) (val_main_v26 x6) (val_main_v27 x7) (val_main_v28 x8) := rfl

/-- The reference's rows likewise. -/
theorem rows : val_main_v125 (F := Ideal) x0 x1 x2 x3 x4 x5 x6 x7 x8 x9 x10
    = Cert.ReferenceIdeal.Read.val_main_v94 (F := Ideal) (val_main_v18 x0 x3 x4) (val_main_v19 x2) (val_main_v21 x0 x3 x4) (val_main_v23 x0 x3 x4) (val_main_v24 x1)
        (val_main_v25 x5) (val_main_v26 x6) (val_main_v27 x7) (val_main_v28 x8) (val_main_v29 x9) (val_main_v30 x10) := rfl

end Cert.Reference11Ideal.Step

end
-- ==== Proof.SampleStep.lean ====
module

public import proofs.«01_k».proof.Proof.Kernel11IdealH
public import proofs.«01_k».proof.Proof.Kernel11IdealP0
public import proofs.«01_k».proof.Proof.Kernel11IdealP1
public import proofs.«01_k».proof.Proof.Kernel11IdealP2
public import proofs.«01_k».proof.Proof.Kernel11IdealT
public import proofs.«01_k».proof.Proof.Kernel11IdealRun
public import proofs.«01_k».proof.Proof.SampleStepRef

/-!
The whole decoding step: the three projections and the recurrence on their results leave the reference's rows and states.
-/

@[expose] public section

set_option maxRecDepth 16384

noncomputable section

namespace Cert.Kernel11Ideal.Whole

open Cert.Kernel11Ideal Cert.Kernel11Ideal.Gen Idealize.ShloMosaic Idealize.ShloMosaic.TcCoe Idealize.SL.Sem
open Cert.Rms

variable (m : (ℓ : Loc nD τ sig) → Buf (Elt Ideal) ℓ) (c : Dev nD)

/-- The samples of this memory. -/
abbrev a0 : Vec Ideal S128x1x1024 .f32 := m ((c : Thread nD τ).loc main_arg0)
/-- The states. -/
abbrev a1 : Vec Ideal S1x128x32x64x128 .f32 := m ((c : Thread nD τ).loc main_arg1)
/-- The windows. -/
abbrev a2 : Vec Ideal S1x128x3x3072 .f32 := m ((c : Thread nD τ).loc main_arg2)
/-- The gain. -/
abbrev a3 : Vec Ideal S1x1024 .f32 := m ((c : Thread nD τ).loc main_arg3)
/-- The weights. -/
abbrev a4 : Vec Ideal S1x1024x10856 .f32 := m ((c : Thread nD τ).loc main_arg4)
/-- The convolution's weights. -/
abbrev a5 : Vec Ideal S1x4x3072 .f32 := m ((c : Thread nD τ).loc main_arg5)
/-- Its bias. -/
abbrev a6 : Vec Ideal S1x3072 .f32 := m ((c : Thread nD τ).loc main_arg6)
/-- The step sizes' biases. -/
abbrev a7 : Vec Ideal S1x32 .f32 := m ((c : Thread nD τ).loc main_arg7)
/-- The decay rates. -/
abbrev a8 : Vec Ideal S1x32 .f32 := m ((c : Thread nD τ).loc main_arg8)
/-- The skip weights. -/
abbrev a9 : Vec Ideal S1x32 .f32 := m ((c : Thread nD τ).loc main_arg9)
/-- The norm's weights. -/
abbrev a10 : Vec Ideal S1x2048 .f32 := m ((c : Thread nD τ).loc main_arg10)

/-- What a projection of the samples on column `q` of the weights is. -/
abbrev on (r : Fin 128) (q : Fin 10856) : EReal := proj (fun k => a0 m c (ix3 r 0 k)) (fun k => a3 m c (ix2 0 k)) (fun k => a4 m c (ix3 0 k q))

variable (o : Outs (F := Ideal))

/-- The argument buffers before each later stretch of host lines are as launched. -/
theorem arg_at6 (r : Ref sig .tc) (h0 : r ∉ hostOps0_W) (h1 : r ∉ ([main_v6] : List (Ref sig .tc))) (h2 : r ∉ hostOps1_W)
    (h3 : r ∉ ([main_v11] : List (Ref sig .tc))) (h4 : r ∉ hostOps2_W) (h5 : r ∉ ([main_v17] : List (Ref sig .tc))) :
    V6 m o c r = m ((c : Thread nD τ).loc r) :=
  (V6_of m o c r h5).trans <| (V5_of m o c r h4).trans <| (V4_of m o c r h3).trans <| (V3_of m o c r h2).trans <| (V2_of m o c r h1).trans (V1_of m c r h0)

/-- The weights without their leading axis stay in their buffer. -/
theorem weights_at (k : Fin 1024) (q : Fin 10856) : (V1 m c main_v0 : Vec Ideal S1024x10856 .f32) (ix2 k q) = a4 m c (ix3 0 k q) :=
  Host.all0 (V0 m c) k q

/-- The gates the first call leaves. -/
theorem z_at (r : Fin 128) (n : Fin 2048) (q : Fin 10856) (h : q.val = 3656 + n.val) : (z m c : Vec Ideal S128x2048 .f32) (ix2 r n) = on m c r q := by
  refine (congrFun (R0.final (ent (V1 m)) c) (ix2 r n)).trans ?_
  have e1 : R0.X (ent (V1 m)) c r = fun k => a0 m c (ix3 r 0 k) := funext fun k => Host.rows (V0 m c) r k
  have e2 : R0.G (ent (V1 m)) c = fun k => a3 m c (ix2 0 k) := funext fun k => Host.gain0 (V0 m c) k
  have e3 : R0.W (ent (V1 m)) c n = fun k => a4 m c (ix3 0 k q) := funext fun k => Host.weights0 (V0 m c) k n q h
  show proj (R0.X (ent (V1 m)) c r) (R0.G (ent (V1 m)) c) (R0.W (ent (V1 m)) c n) = _
  rw [e1, e2, e3]

/-- The convolution inputs the second call leaves. -/
theorem xbc_at (r : Fin 128) (n : Fin 3072) (q : Fin 10856) (h : q.val = 5704 + n.val) : (xbc m c : Vec Ideal S128x3072 .f32) (ix2 r n) = on m c r q := by
  refine (congrFun (R1.final (ent (V3 m (left1 m))) c) (ix2 r n)).trans ?_
  have e1 : R1.X (ent (V3 m (left1 m))) c r = fun k => a0 m c (ix3 r 0 k) := funext fun k =>
    (congrFun ((V3_of m (left1 m) c main_v1 (by decide)).trans (V2_of m (left1 m) c main_v1 (by decide))) (ix2 r k)).trans (Host.rows (V0 m c) r k)
  have e2 : R1.G (ent (V3 m (left1 m))) c = fun k => a3 m c (ix2 0 k) := funext fun k => (Host.gain1 (V2 m (left1 m) c) k).trans
    (congrFun ((V2_of m (left1 m) c main_arg3 (by decide)).trans (V1_of m c main_arg3 (by decide))) (ix2 0 k))
  have e3 : R1.W (ent (V3 m (left1 m))) c n = fun k => a4 m c (ix3 0 k q) := funext fun k => (Host.weights1 (V2 m (left1 m) c) k n q h).trans
    ((congrFun (V2_of m (left1 m) c main_v0 (by decide)) (ix2 k q)).trans (weights_at m c k q))
  show proj (R1.X (ent (V3 m (left1 m))) c r) (R1.G (ent (V3 m (left1 m))) c) (R1.W (ent (V3 m (left1 m))) c n) = _
  rw [e1, e2, e3]

/-- The step sizes the third call leaves, each head's once per channel. -/
theorem dt_at (r : Fin 128) (n : Fin 2048) (q : Fin 10856) (h : q.val = 8776 + n.val / 64) : (dt m c : Vec Ideal S128x2048 .f32) (ix2 r n) = on m c r q := by
  refine (congrFun (R2.final (ent (V5 m (left2 m))) c) (ix2 r n)).trans ?_
  have e1 : R2.X (ent (V5 m (left2 m))) c r = fun k => a0 m c (ix3 r 0 k) := funext fun k =>
    (congrFun ((V5_of m (left2 m) c main_v1 (by decide)).trans <| (V4_of m (left2 m) c main_v1 (by decide)).trans <| (V3_of m (left2 m) c main_v1 (by decide)).trans (V2_of m (left2 m) c main_v1 (by decide))) (ix2 r k)).trans (Host.rows (V0 m c) r k)
  have e2 : R2.G (ent (V5 m (left2 m))) c = fun k => a3 m c (ix2 0 k) := funext fun k => (Host.gain2 (V4 m (left2 m) c) k).trans
    (congrFun ((V4_of m (left2 m) c main_arg3 (by decide)).trans <| (V3_of m (left2 m) c main_arg3 (by decide)).trans <| (V2_of m (left2 m) c main_arg3 (by decide)).trans (V1_of m c main_arg3 (by decide))) (ix2 0 k))
  have e3 : R2.W (ent (V5 m (left2 m))) c n = fun k => a4 m c (ix3 0 k q) := funext fun k => (Host.weights2 (V4 m (left2 m) c) k n q h).trans
    ((congrFun ((V4_of m (left2 m) c main_v0 (by decide)).trans <| (V3_of m (left2 m) c main_v0 (by decide)).trans (V2_of m (left2 m) c main_v0 (by decide))) (ix2 k q)).trans (weights_at m c k q))
  show proj (R2.X (ent (V5 m (left2 m))) c r) (R2.G (ent (V5 m (left2 m))) c) (R2.W (ent (V5 m (left2 m))) c n) = _
  rw [e1, e2, e3]

/-- The first call's array reaches the last stretch of host lines as the call left it. -/
theorem z_kept : V6 m (left m) c main_v6 = z m c :=
  (V6_of m (left m) c main_v6 (by decide)).trans <| (V5_of m (left m) c main_v6 (by decide)).trans <| (V4_of m (left m) c main_v6 (by decide)).trans <| (V3_of m (left m) c main_v6 (by decide)).trans (out0 m c)

/-- So does the second's. -/
theorem xbc_kept : V6 m (left m) c main_v11 = xbc m c :=
  (V6_of m (left m) c main_v11 (by decide)).trans <| (V5_of m (left m) c main_v11 (by decide)).trans (out1 m c)

/-- So does the third's. -/
theorem dt_kept : V6 m (left m) c main_v17 = dt m c := out2 m c

/-- The core whose memory is used. -/
abbrev d : Dev Cert.KernelIdeal.nD := ⟨0, by decide⟩

/-- A memory with one buffer of that core exchanged. -/
def at_ (M : (ℓ : Loc Cert.KernelIdeal.nD Cert.KernelIdeal.τ Cert.KernelIdeal.sig) → Buf (Elt Ideal) ℓ) (b : Ref Cert.KernelIdeal.sig .tc)
    (x : Buf (Elt Ideal) ((d : Thread Cert.KernelIdeal.nD Cert.KernelIdeal.τ).loc b)) :
    (ℓ : Loc Cert.KernelIdeal.nD Cert.KernelIdeal.τ Cert.KernelIdeal.sig) → Buf (Elt Ideal) ℓ :=
  Function.update M ((d : Thread Cert.KernelIdeal.nD Cert.KernelIdeal.τ).loc b) x

/-- It holds what was put there. -/
theorem at_self (M : (ℓ : Loc Cert.KernelIdeal.nD Cert.KernelIdeal.τ Cert.KernelIdeal.sig) → Buf (Elt Ideal) ℓ) (b : Ref Cert.KernelIdeal.sig .tc)
    (x : Buf (Elt Ideal) ((d : Thread Cert.KernelIdeal.nD Cert.KernelIdeal.τ).loc b)) :
    at_ M b x ((d : Thread Cert.KernelIdeal.nD Cert.KernelIdeal.τ).loc b) = x := Function.update_self _ _ _

/-- The other buffers are unchanged. -/
theorem at_other (M : (ℓ : Loc Cert.KernelIdeal.nD Cert.KernelIdeal.τ Cert.KernelIdeal.sig) → Buf (Elt Ideal) ℓ) (b b' : Ref Cert.KernelIdeal.sig .tc)
    (x : Buf (Elt Ideal) ((d : Thread Cert.KernelIdeal.nD Cert.KernelIdeal.τ).loc b))
    (h : (d : Thread Cert.KernelIdeal.nD Cert.KernelIdeal.τ).loc b' ≠ (d : Thread Cert.KernelIdeal.nD Cert.KernelIdeal.τ).loc b) :
    at_ M b x ((d : Thread Cert.KernelIdeal.nD Cert.KernelIdeal.τ).loc b') = M ((d : Thread Cert.KernelIdeal.nD Cert.KernelIdeal.τ).loc b') :=
  Function.update_of_ne h _ _

open Cert.Reference11Ideal.Read

/-- A memory of the recurrence's own program that holds the reference's slices and arguments. -/
def mem : (ℓ : Loc Cert.KernelIdeal.nD Cert.KernelIdeal.τ Cert.KernelIdeal.sig) → Buf (Elt Ideal) ℓ :=
  at_ (at_ (at_ (at_ (at_ (at_ (at_ (at_ (at_ (at_ (at_ ((fun _ => fun _ => Classical.arbitrary _ : (ℓ : Loc Cert.KernelIdeal.nD Cert.KernelIdeal.τ Cert.KernelIdeal.sig) → Buf (Elt Ideal) ℓ))
    Cert.KernelIdeal.main_arg0 (val_main_v18 (F := Ideal) (a0 m c) (a3 m c) (a4 m c)))
    Cert.KernelIdeal.main_arg1 (val_main_v19 (F := Ideal) (a2 m c)))
    Cert.KernelIdeal.main_arg2 (val_main_v21 (F := Ideal) (a0 m c) (a3 m c) (a4 m c)))
    Cert.KernelIdeal.main_arg3 (val_main_v23 (F := Ideal) (a0 m c) (a3 m c) (a4 m c)))
    Cert.KernelIdeal.main_arg4 (val_main_v24 (F := Ideal) (a1 m c)))
    Cert.KernelIdeal.main_arg5 (val_main_v25 (F := Ideal) (a5 m c)))
    Cert.KernelIdeal.main_arg6 (val_main_v26 (F := Ideal) (a6 m c)))
    Cert.KernelIdeal.main_arg7 (val_main_v27 (F := Ideal) (a7 m c)))
    Cert.KernelIdeal.main_arg8 (val_main_v28 (F := Ideal) (a8 m c)))
    Cert.KernelIdeal.main_arg9 (val_main_v29 (F := Ideal) (a9 m c)))
    Cert.KernelIdeal.main_arg10 (val_main_v30 (F := Ideal) (a10 m c))

/-- What it holds in place of argument 0. -/
theorem mem0 : mem m c ((d : Thread Cert.KernelIdeal.nD Cert.KernelIdeal.τ).loc Cert.KernelIdeal.main_arg0) = val_main_v18 (F := Ideal) (a0 m c) (a3 m c) (a4 m c) :=
  (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| at_self _ _ _

/-- What it holds in place of argument 1. -/
theorem mem1 : mem m c ((d : Thread Cert.KernelIdeal.nD Cert.KernelIdeal.τ).loc Cert.KernelIdeal.main_arg1) = val_main_v19 (F := Ideal) (a2 m c) :=
  (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| at_self _ _ _

/-- What it holds in place of argument 2. -/
theorem mem2 : mem m c ((d : Thread Cert.KernelIdeal.nD Cert.KernelIdeal.τ).loc Cert.KernelIdeal.main_arg2) = val_main_v21 (F := Ideal) (a0 m c) (a3 m c) (a4 m c) :=
  (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| at_self _ _ _

/-- What it holds in place of argument 3. -/
theorem mem3 : mem m c ((d : Thread Cert.KernelIdeal.nD Cert.KernelIdeal.τ).loc Cert.KernelIdeal.main_arg3) = val_main_v23 (F := Ideal) (a0 m c) (a3 m c) (a4 m c) :=
  (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| at_self _ _ _

/-- What it holds in place of argument 4. -/
theorem mem4 : mem m c ((d : Thread Cert.KernelIdeal.nD Cert.KernelIdeal.τ).loc Cert.KernelIdeal.main_arg4) = val_main_v24 (F := Ideal) (a1 m c) :=
  (at_other _ _ _ _ (by decide)).trans <| (at_other _ _ _ _ (by decide)).trans <| (at_other _ _ _ _ (by decide)).trans <| (at_other _ _ _ _ (by decide)).trans <| (at_other _ _ _ _ (by decide)).trans <| (at_other _ _ _ _ (by decide)).trans <| at_self _ _ _

/-- What it holds in place of argument 5. -/
theorem mem5 : mem m c ((d : Thread Cert.KernelIdeal.nD Cert.KernelIdeal.τ).loc Cert.KernelIdeal.main_arg5) = val_main_v25 (F := Ideal) (a5 m c) :=
  (at_other _ _ _ _ (by decide)).trans <| (at_other _ _ _ _ (by decide)).trans <| (at_other _ _ _ _ (by decide)).trans <| (at_other _ _ _ _ (by decide)).trans <| (at_other _ _ _ _ (by decide)).trans <| at_self _ _ _

/-- What it holds in place of argument 6. -/
theorem mem6 : mem m c ((d : Thread Cert.KernelIdeal.nD Cert.KernelIdeal.τ).loc Cert.KernelIdeal.main_arg6) = val_main_v26 (F := Ideal) (a6 m c) :=
  (at_other _ _ _ _ (by decide)).trans <| (at_other _ _ _ _ (by decide)).trans <| (at_other _ _ _ _ (by decide)).trans <| (at_other _ _ _ _ (by decide)).trans <| at_self _ _ _

/-- What it holds in place of argument 7. -/
theorem mem7 : mem m c ((d : Thread Cert.KernelIdeal.nD Cert.KernelIdeal.τ).loc Cert.KernelIdeal.main_arg7) = val_main_v27 (F := Ideal) (a7 m c) :=
  (at_other _ _ _ _ (by decide)).trans <| (at_other _ _ _ _ (by decide)).trans <| (at_other _ _ _ _ (by decide)).trans <| at_self _ _ _

/-- What it holds in place of argument 8. -/
theorem mem8 : mem m c ((d : Thread Cert.KernelIdeal.nD Cert.KernelIdeal.τ).loc Cert.KernelIdeal.main_arg8) = val_main_v28 (F := Ideal) (a8 m c) :=
  (at_other _ _ _ _ (by decide)).trans <| (at_other _ _ _ _ (by decide)).trans <| at_self _ _ _

/-- What it holds in place of argument 9. -/
theorem mem9 : mem m c ((d : Thread Cert.KernelIdeal.nD Cert.KernelIdeal.τ).loc Cert.KernelIdeal.main_arg9) = val_main_v29 (F := Ideal) (a9 m c) :=
  (at_other _ _ _ _ (by decide)).trans <| at_self _ _ _

/-- What it holds in place of argument 10. -/
theorem mem10 : mem m c ((d : Thread Cert.KernelIdeal.nD Cert.KernelIdeal.τ).loc Cert.KernelIdeal.main_arg10) = val_main_v30 (F := Ideal) (a10 m c) :=
  at_self _ _ _

/-- The last call's arrays are those of this memory. -/
theorem holds : Same.Holds (ent (V7 m (left m))) (mem m c) c d where
  h0 := by
    intro r j
    rw [mem0]
    refine (Host.in0 (V6 m (left m) c) r j).trans ?_
    rw [xbc_kept]
    exact (xbc_at m c r j ⟨5704 + j.val, by omega⟩ rfl).trans (Cert.Reference11Ideal.Step.xbc_at _ _ _ r j ⟨5704 + j.val, by omega⟩ rfl).symm
  h1 := by
    intro r s j
    rw [mem1]
    refine (Host.in1 (V6 m (left m) c) r s j).trans ?_
    rw [arg_at6 m c (left m) main_arg2 (by decide) (by decide) (by decide) (by decide) (by decide) (by decide)]
    pointwise [val_main_v19]
  h2 := by
    intro r j
    rw [mem2]
    refine (Host.in2 (V6 m (left m) c) r j).trans ?_
    rw [z_kept]
    exact (z_at m c r j ⟨3656 + j.val, by omega⟩ rfl).trans (Cert.Reference11Ideal.Step.z_at _ _ _ r j ⟨3656 + j.val, by omega⟩ rfl).symm
  h3 := by
    intro r j
    rw [mem3]
    refine (Host.in3 (V6 m (left m) c) r j).trans ?_
    rw [dt_kept]
    exact (dt_at m c r j ⟨8776 + j.val / 64, by omega⟩ rfl).trans (Cert.Reference11Ideal.Step.dt_at _ _ _ r ⟨j.val / 64, by omega⟩ ⟨8776 + j.val / 64, by omega⟩ rfl).symm
  h4 := by
    intro r p n
    rw [mem4]
    refine (Host.in4 (V6 m (left m) c) r p n).trans ?_
    rw [arg_at6 m c (left m) main_arg1 (by decide) (by decide) (by decide) (by decide) (by decide) (by decide)]
    pointwise [val_main_v24]
  h5 := by
    intro s j
    rw [mem5]
    refine (Host.in5 (V6 m (left m) c) s j).trans ?_
    rw [arg_at6 m c (left m) main_arg5 (by decide) (by decide) (by decide) (by decide) (by decide) (by decide)]
    pointwise [val_main_v25]
  h6 := by
    intro j
    rw [mem6]
    refine (Host.in6 (V6 m (left m) c) j).trans ?_
    rw [arg_at6 m c (left m) main_arg6 (by decide) (by decide) (by decide) (by decide) (by decide) (by decide)]
    pointwise [val_main_v26]
  h7 := by
    intro p
    rw [mem7]
    refine (Host.in7 (V6 m (left m) c) p).trans ?_
    rw [arg_at6 m c (left m) main_arg7 (by decide) (by decide) (by decide) (by decide) (by decide) (by decide)]
    pointwise [val_main_v27]
  h8 := by
    intro p
    rw [mem8]
    refine (Host.in8 (V6 m (left m) c) p).trans ?_
    rw [arg_at6 m c (left m) main_arg8 (by decide) (by decide) (by decide) (by decide) (by decide) (by decide)]
    pointwise [val_main_v28]
  h9 := by
    intro p
    rw [mem9]
    refine (Host.in9 (V6 m (left m) c) p).trans ?_
    rw [arg_at6 m c (left m) main_arg9 (by decide) (by decide) (by decide) (by decide) (by decide) (by decide)]
    pointwise [val_main_v29]
  h10 := by
    intro p
    rw [mem10]
    refine (Host.in10 (V6 m (left m) c) p).trans ?_
    rw [arg_at6 m c (left m) main_arg10 (by decide) (by decide) (by decide) (by decide) (by decide) (by decide)]
    pointwise [val_main_v30]

/-- The reference's rows of this memory's arguments. -/
abbrev result0 := val_main_v125 (F := Ideal) (a0 m c) (a1 m c) (a2 m c) (a3 m c) (a4 m c) (a5 m c) (a6 m c) (a7 m c) (a8 m c) (a9 m c) (a10 m c)

/-- The reference's states of this memory's arguments. -/
abbrev result1 := val_main_v126 (F := Ideal) (a0 m c) (a1 m c) (a2 m c) (a3 m c) (a4 m c) (a5 m c) (a6 m c) (a7 m c) (a8 m c)

/-- The rows the last call leaves are the reference's. -/
theorem row_ref : row m c = result0 m c := by
  rw [show result0 m c = _ from Cert.Reference11Ideal.Step.rows (a0 m c) (a1 m c) (a2 m c) (a3 m c) (a4 m c) (a5 m c) (a6 m c) (a7 m c) (a8 m c) (a9 m c) (a10 m c)]
  unfold row
  rw [same]
  refine (Same.row_final (holds m c)).trans ?_
  show Cert.ReferenceIdeal.Read.val_main_v94 (F := Ideal) (mem m c ((d : Thread Cert.KernelIdeal.nD Cert.KernelIdeal.τ).loc Cert.KernelIdeal.main_arg0)) (mem m c ((d : Thread Cert.KernelIdeal.nD Cert.KernelIdeal.τ).loc Cert.KernelIdeal.main_arg1)) (mem m c ((d : Thread Cert.KernelIdeal.nD Cert.KernelIdeal.τ).loc Cert.KernelIdeal.main_arg2)) (mem m c ((d : Thread Cert.KernelIdeal.nD Cert.KernelIdeal.τ).loc Cert.KernelIdeal.main_arg3)) (mem m c ((d : Thread Cert.KernelIdeal.nD Cert.KernelIdeal.τ).loc Cert.KernelIdeal.main_arg4)) (mem m c ((d : Thread Cert.KernelIdeal.nD Cert.KernelIdeal.τ).loc Cert.KernelIdeal.main_arg5)) (mem m c ((d : Thread Cert.KernelIdeal.nD Cert.KernelIdeal.τ).loc Cert.KernelIdeal.main_arg6)) (mem m c ((d : Thread Cert.KernelIdeal.nD Cert.KernelIdeal.τ).loc Cert.KernelIdeal.main_arg7)) (mem m c ((d : Thread Cert.KernelIdeal.nD Cert.KernelIdeal.τ).loc Cert.KernelIdeal.main_arg8)) (mem m c ((d : Thread Cert.KernelIdeal.nD Cert.KernelIdeal.τ).loc Cert.KernelIdeal.main_arg9)) (mem m c ((d : Thread Cert.KernelIdeal.nD Cert.KernelIdeal.τ).loc Cert.KernelIdeal.main_arg10)) = _
  rw [mem0, mem1, mem2, mem3, mem4, mem5, mem6, mem7, mem8, mem9, mem10]

/-- The states likewise. -/
theorem state_ref : state m c = result1 m c := by
  rw [show result1 m c = _ from Cert.Reference11Ideal.Step.states (a0 m c) (a1 m c) (a2 m c) (a3 m c) (a4 m c) (a5 m c) (a6 m c) (a7 m c) (a8 m c)]
  unfold state
  rw [same]
  refine (Same.state_final (holds m c)).trans ?_
  show Cert.ReferenceIdeal.Read.val_main_v95 (F := Ideal) (mem m c ((d : Thread Cert.KernelIdeal.nD Cert.KernelIdeal.τ).loc Cert.KernelIdeal.main_arg0)) (mem m c ((d : Thread Cert.KernelIdeal.nD Cert.KernelIdeal.τ).loc Cert.KernelIdeal.main_arg1)) (mem m c ((d : Thread Cert.KernelIdeal.nD Cert.KernelIdeal.τ).loc Cert.KernelIdeal.main_arg3)) (mem m c ((d : Thread Cert.KernelIdeal.nD Cert.KernelIdeal.τ).loc Cert.KernelIdeal.main_arg4)) (mem m c ((d : Thread Cert.KernelIdeal.nD Cert.KernelIdeal.τ).loc Cert.KernelIdeal.main_arg5)) (mem m c ((d : Thread Cert.KernelIdeal.nD Cert.KernelIdeal.τ).loc Cert.KernelIdeal.main_arg6)) (mem m c ((d : Thread Cert.KernelIdeal.nD Cert.KernelIdeal.τ).loc Cert.KernelIdeal.main_arg7)) (mem m c ((d : Thread Cert.KernelIdeal.nD Cert.KernelIdeal.τ).loc Cert.KernelIdeal.main_arg8)) = _
  rw [mem0, mem1, mem3, mem4, mem5, mem6, mem7, mem8]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v41_0) = result0 m c
    ∧ r.2.mem ((c.tc : Thread nD τ).loc main_v41_1) = result1 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  (θ_run (defs (F := Ideal)) _ _).mono (fun _ h c => ⟨(h.1 c).1.trans (row_ref m c), (h.1 c).2.trans (state_ref m c), h.2.1 c⟩)
    (θ_run_and (run_main m ρ) (frame m ρ))

end Cert.Kernel11Ideal.Whole

end
-- ==== Proof.SampleXbc.lean ====
module

public import proofs.«01_k».proof.Proof.Gen.Kernel10Ideal.Frame
public import proofs.«01_k».proof.Proof.Gen.Reference10Ideal.Read
public import proofs.«01_k».proof.Proof.Rms
public import Idealize.ShloMosaic.Lib.Pipeline.ValueKit
public import Idealize.ShloMosaic.Lib.Pipeline.ReadBack

/-!
The convolution inputs of the samples: each row is normalised and multiplied with its columns of the weights; the call's result is the reference's.

The padded rows are walked 128 at a time and the columns 1024 at a time, the columns inside. The first column tile of a row tile normalises the rows and keeps them for the others.
-/

@[expose] public section

set_option maxRecDepth 16384

noncomputable section

namespace Cert.Kernel10Ideal.Proj

open Cert.Kernel10Ideal Cert.Kernel10Ideal.Gen Idealize.ShloMosaic Idealize.ShloMosaic.TcCoe Idealize.SL.Sem
open Idealize.ShloMosaic.Pipeline (Dat)
open Cert.Reference10Ideal.Read Cert.Rms

variable (m : (ℓ : Loc nD τ sig) → Buf (Elt Ideal) ℓ)

/-- Which block each window holds at grid point `t`: the rows' and the result's move with the row tile, the weights' and the result's with the column tile. -/
theorem idx : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- What the body keeps in its scratch: the block's rows, normalised. -/
theorem pay1_at (x : Vec Ideal S128x1024 .f32) (g : Vec Ideal S1x1024 .f32) (r : Fin 128) (k : Fin 1024) :
    k0_pay1 x g (ix2 r k) = nrm (fun j => x (ix2 r j)) (fun j => g (ix2 0 j)) k := by
  unfold nrm
  pointwise [k0_pay1]

/-- What the body stores: the kept rows times the block of the weights. -/
theorem pay2_at (h : Vec Ideal S128x1024 .bf16) (w : Vec Ideal S1024x1024 .bf16) (r : Fin 128) (k : Fin 1024) :
    k0_pay2 h w (ix2 r k) = ∑ j : Fin 1024, h (ix2 r j) * w (ix2 j k) := by
  pointwise [k0_pay2]

/-- Row `r` of the rows the call is handed. -/
abbrev X (c : Dev nD) (r : Fin 128) (k : Fin 1024) : EReal := V (F := Ideal) m c main_v3 (ix2 r k)

/-- The gain the call is handed. -/
abbrev G (c : Dev nD) (k : Fin 1024) : EReal := V (F := Ideal) m c main_v5 (ix2 0 k)

/-- Column `n` of the weights the call is handed. -/
abbrev W (c : Dev nD) (n : Fin 3072) (k : Fin 1024) : EReal := V (F := Ideal) m c main_v2 (ix2 k n)

/-- The row of the whole array that is row `r` of the tile met at grid point `n`. -/
abbrev row (n : ℕ) (hn : n < cfg0.N) (r : Fin 128) : Fin 128 := ⟨n / 3 * 128 + r.val, by have h : cfg0.N = 3 := rfl; omega⟩

/-- Where the body normalises, it normalises the rows of its own tile. -/
theorem fresh (c : Dev nD) (t : Fin cfg0.N) (r : Fin 128) (k : Fin 1024) :
    k0_pay1 (iblk m c 0 t) (iblk m c 1 t) (ix2 r k) = nrm (X m c (row t.val t.isLt r)) (G m c) k := by
  refine (pay1_at _ _ r k).trans ?_
  have hx : (fun j : Fin 1024 => (iblk m c 0 t) (ix2 r j)) = X m c (row t.val t.isLt r) := by
    funext j
    blk_point [iblk, idx t]
  have hg : (fun j : Fin 1024 => (iblk m c 1 t) (ix2 0 j)) = G m c := by
    funext j
    blk_point [iblk, idx t]
  exact congrArg₂ (fun a b => nrm a b k) hx hg

/-- The block of the weights at grid point `t` is column tile `t % 3`. -/
theorem wblk (c : Dev nD) (t : Fin cfg0.N) (j : Fin 1024) (k : Fin 1024) (n : Fin 3072) (h : n.val = t.val % 3 * 1024 + k.val) :
    (iblk m c 2 t) (ix2 j k) = W m c n j := by
  blk_point [iblk, idx t]

/-- Past the first column tile the scratch is what the point before left. -/
theorem keep (c : Dev nD) (t : Fin cfg0.N) (h : ¬ t.val % 3 = 0) :
    (outsAt0 m c t.val t.isLt).2 = (outsAt0 m c (t.val - 1) (Nat.lt_of_le_of_lt (Nat.sub_le _ _) t.isLt)).2 := by
  rw [outsAt0_B m c t h, sout0_B_0]

/-- After every grid point the scratch holds the normalised rows of the point's row tile. -/
theorem scr (c : Dev nD) : ∀ (n : ℕ) (hn : n < cfg0.N) (r : Fin 128) (k : Fin 1024),
    (outsAt0 m c n hn).2 (ix2 r k) = nrm (X m c (row n hn r)) (G m c) k := by
  intro n
  induction n with
  | zero =>
    intro hn r k
    rw [outsAt0_A m c ⟨0, hn⟩ rfl]; frame_out
    exact fresh m c ⟨0, hn⟩ r k
  | succ n ih =>
    intro hn r k
    by_cases h : (n + 1) % 3 = 0
    · rw [outsAt0_A m c ⟨n + 1, hn⟩ h]; frame_out
      exact fresh m c ⟨n + 1, hn⟩ r k
    · have hr : row n (Nat.lt_of_succ_lt hn) r = row (n + 1) hn r := Fin.ext (by show n / 3 * 128 + r.val = (n + 1) / 3 * 128 + r.val; omega)
      rw [← hr]
      exact (congrFun (keep m c ⟨n + 1, hn⟩ h) _).trans (ih _ r k)

/-- The block stored at grid point `t`: each entry the projection of its row on its column. -/
theorem out_at (c : Dev nD) (t : Fin cfg0.N) (r : Fin 128) (k : Fin 1024) (n : Fin 3072) (h : n.val = t.val % 3 * 1024 + k.val) :
    (outsAt0 m c t.val t.isLt).1 (ix2 r k) = proj (X m c (row t.val t.isLt r)) (G m c) (W m c n) := by
  by_cases h0 : t.val % 3 = 0
  · rw [outsAt0_A m c t h0]; frame_out
    refine (pay2_at _ _ r k).trans (Finset.sum_congr rfl fun j _ => ?_)
    exact congrArg₂ (· * ·) (fresh m c t r j) (wblk m c t j k n h)
  · have e := scr m c t.val t.isLt
    rw [keep m c t h0] at e
    rw [outsAt0_B m c t h0]; frame_out
    rw [read_unread_whole]
    refine (pay2_at _ _ r k).trans (Finset.sum_congr rfl fun j _ => ?_)
    exact congrArg₂ (· * ·) (e r j) (wblk m c t j k n h)

/-- The array of the projections of all rows on all columns. -/
def arr (c : Dev nD) : S128x3072.Idx → EReal := fun i => proj (X m c (i 0)) (G m c) (W m c (i 1))

/-- After the last grid point the result array holds them. -/
theorem final (c : Dev nD) : (dats m 0 c).arrAt 3 (cfgs 0).N = arr m c := by
  refine (dats m 0 c).arrAt_eq_of_covers 3 _ (by decide +kernel) fun t _ y => ?_
  blk_simp
  rw [after0_3]
  obtain ⟨r, k, rfl⟩ : ∃ (r : Fin 128) (k : Fin 1024), y = ix2 r k := ⟨y 0, y 1, eq_ix2 y⟩
  have ht : t.val % 3 < 3 := Nat.mod_lt _ (by decide)
  refine (out_at m c t r k ⟨t.val % 3 * 1024 + k.val, by omega⟩ rfl).trans ?_
  refine Eq.trans (b := arr m c (ix2 (row t.val t.isLt r) ⟨t.val % 3 * 1024 + k.val, by omega⟩)) rfl (congrArg _ ?_)
  blk_ext [idx t]

variable (x0 : Vec Ideal S128x1x1024 .f32) (x2 : Vec Ideal S1x1024 .f32) (x3 : Vec Ideal S1x1024x10856 .f32)

/-- The row of sample `r`. -/
def rowOf (r : Fin 128) (k : Fin 1024) : EReal := x0 (ix3 r 0 k)

/-- The reference's product at row `r` and column `q`. -/
theorem ref_at (r : Fin 128) (q : Fin 10856) :
    val_main_v16 (F := Ideal) x0 x2 x3 (ix2 r q) = proj (rowOf x0 r) (fun k => x2 (ix2 0 k)) (fun k => x3 (ix3 0 k q)) := by
  have e : ∀ k, val_main_v15 (F := Ideal) x0 x2 (ix2 r k) = nrm (rowOf x0 r) (fun k => x2 (ix2 0 k)) k := by
    intro k
    unfold nrm rowOf
    pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e3 : ∀ k (q : Fin 10856), val_main_v2 (F := Ideal) x3 (ix2 k q) = x3 (ix3 0 k q) := by
    intro k q
    pointwise [val_main_v2]
  unfold proj
  simp only [← e]
  pointwise [val_main_v16]
  simp only [e3]

/-- What the lines before the call leave in a buffer. -/
theorem V_eq (c : Dev nD) (b : Ref sig .tc) :
    V (F := Ideal) m c b = StableHlo.after (hostOps0 (F := Ideal)) (fun b => m (c, b)) (Proc.tc.devRef b) := rfl

/-- The call's rows are the samples'. -/
theorem X_at (c : Dev nD) (r : Fin 128) (h : r.val < 128) (k : Fin 1024) :
    X m c r k = rowOf (m ((c : Thread nD τ).loc main_arg0)) ⟨r.val, h⟩ k := by
  unfold rowOf
  show V (F := Ideal) m c main_v3 (ix2 r k) = _
  rw [V_eq]
  after_results
  pointwise

/-- The call's gain is the argument's. -/
theorem G_at (c : Dev nD) (k : Fin 1024) : G m c k = (m ((c : Thread nD τ).loc main_arg2) : Vec Ideal S1x1024 .f32) (ix2 0 k) := by
  show V (F := Ideal) m c main_v5 (ix2 0 k) = _
  rw [V_eq]
  after_results
  pointwise

/-- The call's columns are those of the argument's weights that begin at 5704. -/
theorem W_at (c : Dev nD) (n : Fin 3072) (q : Fin 10856) (h : q.val = 5704 + n.val) (k : Fin 1024) :
    W m c n k = (m ((c : Thread nD τ).loc main_arg3) : Vec Ideal S1x1024x10856 .f32) (ix3 0 k q) := by
  obtain ⟨q, hq⟩ := q
  subst h
  show V (F := Ideal) m c main_v2 (ix2 k n) = _
  rw [V_eq]
  after_results
  pointwise

/-- An entry of the call's result in a row and a column that the arguments have is the reference's product there. -/
theorem arr_at (c : Dev nD) (r : Fin 128) (n : Fin 3072) (r' : Fin 128) (q : Fin 10856) (hr : r.val = r'.val) (h : q.val = 5704 + n.val) :
    arr m c (ix2 r n) = val_main_v16 (F := Ideal) (m ((c : Thread nD τ).loc main_arg0)) (m ((c : Thread nD τ).loc main_arg2)) (m ((c : Thread nD τ).loc main_arg3)) (ix2 r' q) := by
  have h' : r.val < 128 := hr ▸ r'.isLt
  have er : r' = ⟨r.val, h'⟩ := Fin.ext hr.symm
  subst er
  refine Eq.trans ?_ (ref_at _ _ _ ⟨r.val, h'⟩ q).symm
  have e1 : X m c r = _ := funext fun k => X_at m c r h' k
  have e2 : G m c = _ := funext fun k => G_at m c k
  have e3 : W m c n = _ := funext fun k => W_at m c n q h k
  show proj (X m c r) (G m c) (W m c n) = _
  rw [e1, e2, e3]

/-- What the lines after the call find in its result's buffer. -/
theorem found (c : Dev nD) : Pipeline.withArrays (cfgs 0).spec c (V0 m c) (fun w => (dats m 0 c).arrAt w (cfgs 0).N) (Proc.tc.devRef main_v6) = arr m c :=
  (Pipeline.withArrays_arr (cfgs 0).spec launch0.win.arr_inj c (V0 m c) (fun w => (dats m 0 c).arrAt w (cfgs 0).N) 3).trans (final m c)

/-- The reference's first result of this memory's arguments. -/
abbrev result0 (c : Dev nD) := val_main_v17 (F := Ideal) (m ((c : Thread nD τ).loc main_arg0)) (m ((c : Thread nD τ).loc main_arg2)) (m ((c : Thread nD τ).loc main_arg3))

/-- The reference's second result of this memory's arguments. -/
abbrev result1 (c : Dev nD) := val_main_v21 (F := Ideal) (m ((c : Thread nD τ).loc main_arg0)) (m ((c : Thread nD τ).loc main_arg1)) (m ((c : Thread nD τ).loc main_arg2)) (m ((c : Thread nD τ).loc main_arg3))

/-- The call's result is the reference's first result. -/
theorem tail0 (c : Dev nD) : arr m c = result0 m c := by
  funext i
  obtain ⟨r, n, rfl⟩ : ∃ (r : Fin 128) (n : Fin 3072), i = ix2 r n := ⟨i 0, i 1, eq_ix2 i⟩
  refine (arr_at m c r n r ⟨5704 + n.val, by omega⟩ rfl rfl).trans ?_
  pointwise [val_main_v17]

/-- The two newer columns of the window and the call's result behind them are the reference's second result. -/
theorem tail1 (c : Dev nD) : Pipeline.afterTail₀ cfgs (dats m) 0 (V0 m) [hostOps1] c main_v10 = result1 m c := by
  unfold Pipeline.afterTail₀
  have e : StableHlo.after [hostOps1 (F := Ideal)].flatten = StableHlo.after (hostOps1 (F := Ideal)) := rfl
  have e1 : Pipeline.withArrays (cfgs 0).spec c (V0 m c) (fun w => (dats m 0 c).arrAt w (cfgs 0).N) (Proc.tc.devRef main_arg1) = m ((c : Thread nD τ).loc main_arg1) := by
    refine (Pipeline.withArrays_of_ne (cfgs 0).spec c (V0 m c) _ main_arg1 (by decide)).trans ?_
    show V (F := Ideal) m c main_arg1 = _
    rw [V_eq]
    after_results
  rw [e]
  after_results
  rw [found, e1, tail0]
  funext i
  obtain ⟨r, s, n, rfl⟩ : ∃ (r : Fin 128) (s : Fin 3) (n : Fin 3072), i = ix3 r s n := ⟨i 0, i 1, i 2, eq_ix3 i⟩
  pointwise [val_main_v21, val_main_v20, val_main_v19, val_main_v18]
  by_cases hs : s.val < 2
  · rw [dif_pos hs, dif_pos (by omega)]
  · rw [dif_neg hs, dif_neg (by omega)]

/-- Every execution of the program ends with the reference's results of the arguments in its result buffers and the arguments unchanged. -/
theorem outcome (ρ : Dev nD → PrngReg) : θ_run (defs (F := Ideal)) (onTc (τ := τ) (main (F := Ideal))) ⟨m, fun _ => 0, ρ⟩ (fun r => ∀ c : Dev nD,
    r.2.mem ((c.tc : Thread nD τ).loc main_v6) = result0 m c
      ∧ r.2.mem ((c.tc : Thread nD τ).loc main_v10) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).1 3).trans ((final m c).trans (tail0 m c)),
    ((h.1 c).2 main_v10 (Pipeline.mem_restRefs_of main_v10 (by decide) (by decide))).trans (tail1 m c), h.2 c⟩

end Cert.Kernel10Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Gen.Reference11Ideal.Run
public import proofs.«01_k».proof.Proof.Gen.Reference11Ideal.Read
public import proofs.«01_k».proof.Proof.Kernel11Run
public import proofs.«01_k».proof.Proof.Merge
public import proofs.«01_k».proof.Proof.PromptGates
public import proofs.«01_k».proof.Proof.PromptIdx
public import proofs.«01_k».proof.Proof.PromptQkv
public import proofs.«01_k».proof.Proof.PromptXbc
public import proofs.«01_k».proof.Proof.PromptZ
public import proofs.«01_k».proof.Proof.SampleIdx
public import proofs.«01_k».proof.Proof.SampleQkv
public import proofs.«01_k».proof.Proof.SampleStep
public import proofs.«01_k».proof.Proof.SampleXbc
public import proofs.«01_k».proof.Proof.SsmRow
public import Idealize.ShloMosaic.Adequacy
public import Idealize.ShloMosaic.Init

@[expose] public section

noncomputable section

namespace Cert.Proof

open Idealize.ShloMosaic Idealize.SL.Sem Cert.Kernel

/-- The recurrence of the decoding step: the reference runs to its end and leaves its arguments and the semaphores as they were. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The recurrence of the decoding step: kernel and reference end with equal results. -/
theorem algebraic : Cert.algebraic_KernelIdeal_ReferenceIdeal := by
  intro m ρ m' ρ' _ hagree
  refine ⟨fun c => Cert.KernelIdeal.Ssm.result m c, fun c => Cert.KernelIdeal.Ssm.resultState m c, ?_, ?_⟩
  · exact (θ_run Cert.KernelIdeal.defs _ _).mono (fun _ h c => ⟨((h c).1).trans (Cert.KernelIdeal.Ssm.final_row m c), ((h c).2.1).trans (Cert.KernelIdeal.Ssm.final_state m c), (h c).2.2⟩) (Cert.KernelIdeal.Value.run_blocks (F := Ideal) m ρ)
  · refine (θ_run Cert.ReferenceIdeal.defs _ _).mono (fun _ h c => ⟨((h c).1).trans ?_, ((h c).2.1).trans ?_, (h c).2.2⟩) (Cert.ReferenceIdeal.Value.run (F := Ideal) m' ρ')
    · rw [Cert.ReferenceIdeal.Read.val_main_v94_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    · rw [Cert.ReferenceIdeal.Read.val_main_v95_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1]

/-- The merge of the branches and the feed-forward part: the reference runs to its end and leaves its arguments and the semaphores as they were. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The merge of the branches and the feed-forward part: kernel and reference end with equal results. -/
theorem algebraic2 : Cert.algebraic_Kernel2Ideal_Reference2Ideal := by
  intro m ρ m' ρ' _ hagree
  refine ⟨fun c => Cert.Kernel2Ideal.Merge.result m c, ?_, ?_⟩
  · exact (θ_run Cert.Kernel2Ideal.defs _ _).mono (fun _ h c => ⟨((h c).1).trans (Cert.Kernel2Ideal.Merge.final m c), (h c).2⟩) (Cert.Kernel2Ideal.Value.run_blocks (F := Ideal) m ρ)
  · refine (θ_run Cert.Reference2Ideal.defs _ _).mono (fun _ h c => ⟨((h c).1).trans ?_, (h c).2⟩) (Cert.Reference2Ideal.Value.run (F := Ideal) m' ρ')
    · rw [Cert.Reference2Ideal.Read.val_main_v54_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

/-- The prompt's queries, keys and values: the reference runs to its end and leaves its arguments and the semaphores as they were. -/
theorem frame_reference3 : Cert.quiescent_Reference3Ideal := fun m ρ _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m ρ)

/-- The prompt's queries, keys and values: kernel and reference end with equal results. -/
theorem algebraic3 : Cert.algebraic_Kernel3Ideal_Reference3Ideal := by
  intro m ρ m' ρ' _ hagree
  refine ⟨fun c => Cert.Kernel3Ideal.Proj.result0 m c, fun c => Cert.Kernel3Ideal.Proj.result1 m c, fun c => Cert.Kernel3Ideal.Proj.result2 m c, ?_, ?_⟩
  · exact Cert.Kernel3Ideal.Proj.outcome m ρ
  · refine (θ_run Cert.Reference3Ideal.defs _ _).mono (fun _ h c => ⟨((h c).1).trans ?_, ((h c).2.1).trans ?_, ((h c).2.2.1).trans ?_, (h c).2.2.2⟩) (Cert.Reference3Ideal.Value.run (F := Ideal) m' ρ')
    · rw [Cert.Reference3Ideal.Read.val_main_v18_eq, (hagree c).1, (hagree c).2.1, (hagree c).2.2.1, (hagree c).2.2.2]
    · rw [Cert.Reference3Ideal.Read.val_main_v19_eq, (hagree c).1, (hagree c).2.1, (hagree c).2.2.1, (hagree c).2.2.2]
    · rw [Cert.Reference3Ideal.Read.val_main_v20_eq, (hagree c).1, (hagree c).2.1, (hagree c).2.2.1, (hagree c).2.2.2]

/-- The prompt's convolution inputs: the reference runs to its end and leaves its arguments and the semaphores as they were. -/
theorem frame_reference4 : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- The prompt's convolution inputs: kernel and reference end with equal results. -/
theorem algebraic4 : Cert.algebraic_Kernel4Ideal_Reference4Ideal := by
  intro m ρ m' ρ' _ hagree
  refine ⟨fun c => Cert.Kernel4Ideal.Proj.result0 m c, fun c => Cert.Kernel4Ideal.Proj.result1 m c, ?_, ?_⟩
  · exact Cert.Kernel4Ideal.Proj.outcome m ρ
  · refine (θ_run Cert.Reference4Ideal.defs _ _).mono (fun _ h c => ⟨((h c).1).trans ?_, ((h c).2.1).trans ?_, (h c).2.2⟩) (Cert.Reference4Ideal.Value.run (F := Ideal) m' ρ')
    · rw [Cert.Reference4Ideal.Read.val_main_v18_eq, (hagree c).1, (hagree c).2.1, (hagree c).2.2.1, (hagree c).2.2.2]
    · rw [Cert.Reference4Ideal.Read.val_main_v19_eq, (hagree c).1, (hagree c).2.1, (hagree c).2.2.1, (hagree c).2.2.2]

/-- The prompt's indexer columns and step sizes: the reference runs to its end and leaves its arguments and the semaphores as they were. -/
theorem frame_reference5 : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

/-- The prompt's indexer columns and step sizes: kernel and reference end with equal results. -/
theorem algebraic5 : Cert.algebraic_Kernel5Ideal_Reference5Ideal := by
  intro m ρ m' ρ' _ hagree
  refine ⟨fun c => Cert.Kernel5Ideal.Proj.result0 m c, fun c => Cert.Kernel5Ideal.Proj.result1 m c, fun c => Cert.Kernel5Ideal.Proj.result2 m c, fun c => Cert.Kernel5Ideal.Proj.result3 m c, ?_, ?_⟩
  · exact Cert.Kernel5Ideal.Proj.outcome m ρ
  · refine (θ_run Cert.Reference5Ideal.defs _ _).mono (fun _ h c => ⟨((h c).1).trans ?_, ((h c).2.1).trans ?_, ((h c).2.2.1).trans ?_, ((h c).2.2.2.1).trans ?_, (h c).2.2.2.2⟩) (Cert.Reference5Ideal.Value.run (F := Ideal) m' ρ')
    · rw [Cert.Reference5Ideal.Read.val_main_v18_eq, (hagree c).1, (hagree c).2.1, (hagree c).2.2.1, (hagree c).2.2.2]
    · rw [Cert.Reference5Ideal.Read.val_main_v19_eq, (hagree c).1, (hagree c).2.1, (hagree c).2.2.1, (hagree c).2.2.2]
    · rw [Cert.Reference5Ideal.Read.val_main_v20_eq, (hagree c).1, (hagree c).2.1, (hagree c).2.2.1, (hagree c).2.2.2]
    · rw [Cert.Reference5Ideal.Read.val_main_v21_eq, (hagree c).1, (hagree c).2.1, (hagree c).2.2.1, (hagree c).2.2.2]

/-- The prompt's gating columns: the reference runs to its end and leaves its arguments and the semaphores as they were. -/
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The prompt's gating columns: kernel and reference end with equal results. -/
theorem algebraic6 : Cert.algebraic_Kernel6Ideal_Reference6Ideal := by
  intro m ρ m' ρ' _ hagree
  refine ⟨fun c => Cert.Kernel6Ideal.Proj.result0 m c, ?_, ?_⟩
  · exact Cert.Kernel6Ideal.Proj.outcome m ρ
  · refine (θ_run Cert.Reference6Ideal.defs _ _).mono (fun _ h c => ⟨((h c).1).trans ?_, (h c).2⟩) (Cert.Reference6Ideal.Value.run (F := Ideal) m' ρ')
    · rw [Cert.Reference6Ideal.Read.val_main_v18_eq, (hagree c).1, (hagree c).2.1, (hagree c).2.2.1, (hagree c).2.2.2]

/-- The prompt's merge gates: the reference runs to its end and leaves its arguments and the semaphores as they were. -/
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The prompt's merge gates: kernel and reference end with equal results. -/
theorem algebraic7 : Cert.algebraic_Kernel7Ideal_Reference7Ideal := by
  intro m ρ m' ρ' _ hagree
  refine ⟨fun c => Cert.Kernel7Ideal.Proj.result0 m c, ?_, ?_⟩
  · exact Cert.Kernel7Ideal.Proj.outcome m ρ
  · refine (θ_run Cert.Reference7Ideal.defs _ _).mono (fun _ h c => ⟨((h c).1).trans ?_, (h c).2⟩) (Cert.Reference7Ideal.Value.run (F := Ideal) m' ρ')
    · rw [Cert.Reference7Ideal.Read.val_main_v18_eq, (hagree c).1, (hagree c).2.1, (hagree c).2.2.1, (hagree c).2.2.2]

/-- The samples' queries, keys and values: the reference runs to its end and leaves its arguments and the semaphores as they were. -/
theorem frame_reference8 : Cert.quiescent_Reference8Ideal := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

/-- The samples' queries, keys and values: kernel and reference end with equal results. -/
theorem algebraic8 : Cert.algebraic_Kernel8Ideal_Reference8Ideal := by
  intro m ρ m' ρ' _ hagree
  refine ⟨fun c => Cert.Kernel8Ideal.Proj.result0 m c, fun c => Cert.Kernel8Ideal.Proj.result1 m c, fun c => Cert.Kernel8Ideal.Proj.result2 m c, ?_, ?_⟩
  · exact Cert.Kernel8Ideal.Proj.outcome m ρ
  · refine (θ_run Cert.Reference8Ideal.defs _ _).mono (fun _ h c => ⟨((h c).1).trans ?_, ((h c).2.1).trans ?_, ((h c).2.2.1).trans ?_, (h c).2.2.2⟩) (Cert.Reference8Ideal.Value.run (F := Ideal) m' ρ')
    · rw [Cert.Reference8Ideal.Read.val_main_v17_eq, (hagree c).1, (hagree c).2.1, (hagree c).2.2]
    · rw [Cert.Reference8Ideal.Read.val_main_v18_eq, (hagree c).1, (hagree c).2.1, (hagree c).2.2]
    · rw [Cert.Reference8Ideal.Read.val_main_v19_eq, (hagree c).1, (hagree c).2.1, (hagree c).2.2]

/-- The samples' indexer columns and step sizes: the reference runs to its end and leaves its arguments and the semaphores as they were. -/
theorem frame_reference9 : Cert.quiescent_Reference9Ideal := fun m ρ _ =>
  (θ_run Cert.Reference9Ideal.defs _ _).mono (fun r h => ⟨fun c => (h c).2.2.2.2, Idealize.ShloMosaic.sem_eq_zero_of_no_sems (by decide) r.2⟩)
    (Cert.Reference9Ideal.Value.run (F := Ideal) m ρ)

/-- The samples' indexer columns and step sizes: kernel and reference end with equal results. -/
theorem algebraic9 : Cert.algebraic_Kernel9Ideal_Reference9Ideal := by
  intro m ρ m' ρ' _ hagree
  refine ⟨fun c => Cert.Kernel9Ideal.Proj.result0 m c, fun c => Cert.Kernel9Ideal.Proj.result1 m c, fun c => Cert.Kernel9Ideal.Proj.result2 m c, fun c => Cert.Kernel9Ideal.Proj.result3 m c, ?_, ?_⟩
  · exact Cert.Kernel9Ideal.Proj.outcome m ρ
  · refine (θ_run Cert.Reference9Ideal.defs _ _).mono (fun _ h c => ⟨((h c).1).trans ?_, ((h c).2.1).trans ?_, ((h c).2.2.1).trans ?_, ((h c).2.2.2.1).trans ?_, (h c).2.2.2.2⟩) (Cert.Reference9Ideal.Value.run (F := Ideal) m' ρ')
    · rw [Cert.Reference9Ideal.Read.val_main_v17_eq, (hagree c).1, (hagree c).2.1, (hagree c).2.2]
    · rw [Cert.Reference9Ideal.Read.val_main_v18_eq, (hagree c).1, (hagree c).2.1, (hagree c).2.2]
    · rw [Cert.Reference9Ideal.Read.val_main_v19_eq, (hagree c).1, (hagree c).2.1, (hagree c).2.2]
    · rw [Cert.Reference9Ideal.Read.val_main_v20_eq, (hagree c).1, (hagree c).2.1, (hagree c).2.2]

/-- The samples' convolution inputs and their window: the reference runs to its end and leaves its arguments and the semaphores as they were. -/
theorem frame_reference10 : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Value.run (F := Ideal) m ρ)

/-- The samples' convolution inputs and their window: kernel and reference end with equal results. -/
theorem algebraic10 : Cert.algebraic_Kernel10Ideal_Reference10Ideal := by
  intro m ρ m' ρ' _ hagree
  refine ⟨fun c => Cert.Kernel10Ideal.Proj.result0 m c, fun c => Cert.Kernel10Ideal.Proj.result1 m c, ?_, ?_⟩
  · exact Cert.Kernel10Ideal.Proj.outcome m ρ
  · refine (θ_run Cert.Reference10Ideal.defs _ _).mono (fun _ h c => ⟨((h c).1).trans ?_, ((h c).2.1).trans ?_, (h c).2.2⟩) (Cert.Reference10Ideal.Value.run (F := Ideal) m' ρ')
    · rw [Cert.Reference10Ideal.Read.val_main_v17_eq, (hagree c).1, (hagree c).2.2.1, (hagree c).2.2.2]
    · rw [Cert.Reference10Ideal.Read.val_main_v21_eq, (hagree c).1, (hagree c).2.1, (hagree c).2.2.1, (hagree c).2.2.2]

/-- The decoding step from the samples to the rows and the states: the reference runs to its end and leaves its arguments and the semaphores as they were. -/
theorem frame_reference11 : Cert.quiescent_Reference11Ideal := fun m ρ _ =>
  (θ_run Cert.Reference11Ideal.defs _ _).mono (fun r h => ⟨fun c => (h c).2.2, Idealize.ShloMosaic.sem_eq_zero_of_no_sems (by decide) r.2⟩)
    (Cert.Reference11Ideal.Value.run (F := Ideal) m ρ)

/-- The decoding step from the samples to the rows and the states: kernel and reference end with equal results. -/
theorem algebraic11 : Cert.algebraic_Kernel11Ideal_Reference11Ideal := by
  intro m ρ m' ρ' _ hagree
  refine ⟨fun c => Cert.Kernel11Ideal.Whole.result0 m c, fun c => Cert.Kernel11Ideal.Whole.result1 m c, ?_, ?_⟩
  · exact Cert.Kernel11Ideal.Whole.outcome m ρ
  · refine (θ_run Cert.Reference11Ideal.defs _ _).mono (fun _ h c => ⟨((h c).1).trans ?_, ((h c).2.1).trans ?_, (h c).2.2⟩) (Cert.Reference11Ideal.Value.run (F := Ideal) m' ρ')
    · refine (Cert.Reference11Ideal.Read.val_main_v125_eq _).trans ?_
      show Cert.Reference11Ideal.Read.val_main_v125 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) (m' ((c.tc : Thread Cert.Reference11Ideal.nD Cert.Reference11Ideal.τ).loc Cert.Reference11Ideal.main_arg6)) (m' ((c.tc : Thread Cert.Reference11Ideal.nD Cert.Reference11Ideal.τ).loc Cert.Reference11Ideal.main_arg7)) (m' ((c.tc : Thread Cert.Reference11Ideal.nD Cert.Reference11Ideal.τ).loc Cert.Reference11Ideal.main_arg8)) (m' ((c.tc : Thread Cert.Reference11Ideal.nD Cert.Reference11Ideal.τ).loc Cert.Reference11Ideal.main_arg9)) (m' ((c.tc : Thread Cert.Reference11Ideal.nD Cert.Reference11Ideal.τ).loc Cert.Reference11Ideal.main_arg10)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    · refine (Cert.Reference11Ideal.Read.val_main_v126_eq _).trans ?_
      show Cert.Reference11Ideal.Read.val_main_v126 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) (m' ((c.tc : Thread Cert.Reference11Ideal.nD Cert.Reference11Ideal.τ).loc Cert.Reference11Ideal.main_arg6)) (m' ((c.tc : Thread Cert.Reference11Ideal.nD Cert.Reference11Ideal.τ).loc Cert.Reference11Ideal.main_arg7)) (m' ((c.tc : Thread Cert.Reference11Ideal.nD Cert.Reference11Ideal.τ).loc Cert.Reference11Ideal.main_arg8)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
  fun m ρ _ => Cert.Kernel.Gen.frame m ρ,
  fun m ρ _ => Cert.KernelIdeal.Gen.frame m ρ,
  frame_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Whole.frame m ρ,
  fun m ρ _ => Cert.Kernel11Ideal.Whole.frame m ρ,
  frame_reference11,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11⟩

end Cert.Proof

end
